-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)) (v2 : (c : Dev Cert.KernelIdeal.nD) → Buf (Elt Ideal) ((c.tc : Thread Cert.KernelIdeal.nD Cert.KernelIdeal.τ).loc Cert.KernelIdeal.main_v4_2)) (v3 : (c : Dev Cert.KernelIdeal.nD) → Buf (Elt Ideal) ((c.tc : Thread Cert.KernelIdeal.nD Cert.KernelIdeal.τ).loc Cert.KernelIdeal.main_v4_3)) (v4 : (c : Dev Cert.KernelIdeal.nD) → Buf (Elt Ideal) ((c.tc : Thread Cert.KernelIdeal.nD Cert.KernelIdeal.τ).loc Cert.KernelIdeal.main_v4_4)) (v5 : (c : Dev Cert.KernelIdeal.nD) → Buf (Elt Ideal) ((c.tc : Thread Cert.KernelIdeal.nD Cert.KernelIdeal.τ).loc Cert.KernelIdeal.main_v4_5)) (v6 : (c : Dev Cert.KernelIdeal.nD) → Buf (Elt Ideal) ((c.tc : Thread Cert.KernelIdeal.nD Cert.KernelIdeal.τ).loc Cert.KernelIdeal.main_v4_6)) (v7 : (c : Dev Cert.KernelIdeal.nD) → Buf (Elt Ideal) ((c.tc : Thread Cert.KernelIdeal.nD Cert.KernelIdeal.τ).loc Cert.KernelIdeal.main_v4_7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_v4_2) = v2 c
          ∧ r.2.mem ((c.tc : Thread Cert.KernelIdeal.nD Cert.KernelIdeal.τ).loc Cert.KernelIdeal.main_v4_3) = v3 c
          ∧ r.2.mem ((c.tc : Thread Cert.KernelIdeal.nD Cert.KernelIdeal.τ).loc Cert.KernelIdeal.main_v4_4) = v4 c
          ∧ r.2.mem ((c.tc : Thread Cert.KernelIdeal.nD Cert.KernelIdeal.τ).loc Cert.KernelIdeal.main_v4_5) = v5 c
          ∧ r.2.mem ((c.tc : Thread Cert.KernelIdeal.nD Cert.KernelIdeal.τ).loc Cert.KernelIdeal.main_v4_6) = v6 c
          ∧ r.2.mem ((c.tc : Thread Cert.KernelIdeal.nD Cert.KernelIdeal.τ).loc Cert.KernelIdeal.main_v4_7) = v7 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3_0) = v0 c
          ∧ r.2.mem ((c.tc : Thread Cert.ReferenceIdeal.nD Cert.ReferenceIdeal.τ).loc Cert.ReferenceIdeal.main_v3_1) = v1 c
          ∧ r.2.mem ((c.tc : Thread Cert.ReferenceIdeal.nD Cert.ReferenceIdeal.τ).loc Cert.ReferenceIdeal.main_v3_2) = v2 c
          ∧ r.2.mem ((c.tc : Thread Cert.ReferenceIdeal.nD Cert.ReferenceIdeal.τ).loc Cert.ReferenceIdeal.main_v3_3) = v3 c
          ∧ r.2.mem ((c.tc : Thread Cert.ReferenceIdeal.nD Cert.ReferenceIdeal.τ).loc Cert.ReferenceIdeal.main_v3_4) = v4 c
          ∧ r.2.mem ((c.tc : Thread Cert.ReferenceIdeal.nD Cert.ReferenceIdeal.τ).loc Cert.ReferenceIdeal.main_v3_5) = v5 c
          ∧ r.2.mem ((c.tc : Thread Cert.ReferenceIdeal.nD Cert.ReferenceIdeal.τ).loc Cert.ReferenceIdeal.main_v3_6) = v6 c
          ∧ r.2.mem ((c.tc : Thread Cert.ReferenceIdeal.nD Cert.ReferenceIdeal.τ).loc Cert.ReferenceIdeal.main_v3_7) = v7 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x4096x4096 : Shape := ⟨3, ![1, 4096, 4096]⟩
abbrev S4096 : Shape := ⟨1, ![4096]⟩
abbrev S4096x1536 : Shape := ⟨2, ![4096, 1536]⟩
abbrev S1536 : Shape := ⟨1, ![1536]⟩
abbrev S4096x4096 : Shape := ⟨2, ![4096, 4096]⟩
abbrev S1x4096 : Shape := ⟨2, ![1, 4096]⟩
abbrev S1x1536 : Shape := ⟨2, ![1, 1536]⟩
abbrev S4096x4x128 : Shape := ⟨3, ![4096, 4, 128]⟩
abbrev S4x4096 : Shape := ⟨2, ![4, 4096]⟩
abbrev S32x4096 : Shape := ⟨2, ![32, 4096]⟩
abbrev S256x4096 : Shape := ⟨2, ![256, 4096]⟩
abbrev S512x4x128 : Shape := ⟨3, ![512, 4, 128]⟩
abbrev S4x512 : Shape := ⟨2, ![4, 512]⟩
abbrev S512x4096 : Shape := ⟨2, ![512, 4096]⟩
abbrev S32x512 : Shape := ⟨2, ![32, 512]⟩
abbrev S32x256x128 : Shape := ⟨3, ![32, 256, 128]⟩
abbrev S256x128 : Shape := ⟨2, ![256, 128]⟩
abbrev S128x256 : Shape := ⟨2, ![128, 256]⟩
abbrev S32x256 : Shape := ⟨2, ![32, 256]⟩
abbrev S32x128 : Shape := ⟨2, ![32, 128]⟩
abbrev S128x128 : Shape := ⟨2, ![128, 128]⟩
abbrev S8x128 : Shape := ⟨2, ![8, 128]⟩
abbrev S1x128 : Shape := ⟨2, ![1, 128]⟩
abbrev S32 : Shape := ⟨1, ![32]⟩
abbrev S32x1 : Shape := ⟨2, ![32, 1]⟩
abbrev S1x32x128 : Shape := ⟨3, ![1, 32, 128]⟩
abbrev S1x256x128 : Shape := ⟨3, ![1, 256, 128]⟩
abbrev S4096x512 : Shape := ⟨2, ![4096, 512]⟩
abbrev S256x512 : Shape := ⟨2, ![256, 512]⟩
abbrev S256 : Shape := ⟨1, ![256]⟩
abbrev S256x1 : Shape := ⟨2, ![256, 1]⟩
abbrev S256x256 : Shape := ⟨2, ![256, 256]⟩
abbrev S256x1x128 : Shape := ⟨3, ![256, 1, 128]⟩
abbrev S256x4x128 : Shape := ⟨3, ![256, 4, 128]⟩
abbrev S4x256 : Shape := ⟨2, ![4, 256]⟩

abbrev nBuf : Space → Nat
  | .hbm => 16
  | .vmem => 29
  | .smem => 0
  | _ => 0

abbrev bufTy : (tb : Table) → Fin (tcTables nBuf tb) → BufTy
  | .hbm, ⟨0, _⟩ => ⟨S1x4096x4096, .bf16⟩
  | .hbm, ⟨1, _⟩ => ⟨S4096, .bf16⟩
  | .hbm, ⟨2, _⟩ => ⟨S4096x1536, .fp8e4m3⟩
  | .hbm, ⟨3, _⟩ => ⟨S1536, .f32⟩
  | .hbm, ⟨4, _⟩ => ⟨S4096x4096, .bf16⟩
  | .hbm, ⟨5, _⟩ => ⟨S4096, .f32⟩
  | .hbm, ⟨6, _⟩ => ⟨S1x4096, .f32⟩
  | .hbm, ⟨7, _⟩ => ⟨S1x1536, .f32⟩
  | .hbm, ⟨8, _⟩ => ⟨S4096x4x128, .fp8e4m3⟩
  | .hbm, ⟨9, _⟩ => ⟨S4x4096, .f32⟩
  | .hbm, ⟨10, _⟩ => ⟨S4096x4x128, .fp8e4m3⟩
  | .hbm, ⟨11, _⟩ => ⟨S4x4096, .f32⟩
  | .hbm, ⟨12, _⟩ => ⟨S4096x4x128, .fp8e4m3⟩
  | .hbm, ⟨13, _⟩ => ⟨S4x4096, .f32⟩
  | .hbm, ⟨14, _⟩ => ⟨S4096x4096, .fp8e4m3⟩
  | .hbm, ⟨15, _⟩ => ⟨S32x4096, .f32⟩
  | .local _ .vmem, ⟨0, _⟩ => ⟨S256x4096, .bf16⟩
  | .local _ .vmem, ⟨1, _⟩ => ⟨S256x4096, .bf16⟩
  | .local _ .vmem, ⟨2, _⟩ => ⟨S256x4096, .bf16⟩
  | .local _ .vmem, ⟨3, _⟩ => ⟨S256x4096, .bf16⟩
  | .local _ .vmem, ⟨4, _⟩ => ⟨S1x4096, .f32⟩
  | .local _ .vmem, ⟨5, _⟩ => ⟨S4096x1536, .fp8e4m3⟩
  | .local _ .vmem, ⟨6, _⟩ => ⟨S1x1536, .f32⟩
  | .local _ .vmem, ⟨7, _⟩ => ⟨S512x4x128, .fp8e4m3⟩
  | .local _ .vmem, ⟨8, _⟩ => ⟨S512x4x128, .fp8e4m3⟩
  | .local _ .vmem, ⟨9, _⟩ => ⟨S4x512, .f32⟩
  | .local _ .vmem, ⟨10, _⟩ => ⟨S4x512, .f32⟩
  | .local _ .vmem, ⟨11, _⟩ => ⟨S512x4x128, .fp8e4m3⟩
  | .local _ .vmem, ⟨12, _⟩ => ⟨S512x4x128, .fp8e4m3⟩
  | .local _ .vmem, ⟨13, _⟩ => ⟨S4x512, .f32⟩
  | .local _ .vmem, ⟨14, _⟩ => ⟨S4x512, .f32⟩
  | .local _ .vmem, ⟨15, _⟩ => ⟨S512x4x128, .fp8e4m3⟩
  | .local _ .vmem, ⟨16, _⟩ => ⟨S512x4x128, .fp8e4m3⟩
  | .local _ .vmem, ⟨17, _⟩ => ⟨S4x512, .f32⟩
  | .local _ .vmem, ⟨18, _⟩ => ⟨S4x512, .f32⟩
  | .local _ .vmem, ⟨19, _⟩ => ⟨S512x4096, .fp8e4m3⟩
  | .local _ .vmem, ⟨20, _⟩ => ⟨S512x4096, .fp8e4m3⟩
  | .local _ .vmem, ⟨21, _⟩ => ⟨S32x512, .f32⟩
  | .local _ .vmem, ⟨22, _⟩ => ⟨S32x512, .f32⟩
  | .local _ .vmem, ⟨23, _⟩ => ⟨S32x256x128, .bf16⟩
  | .local _ .vmem, ⟨24, _⟩ => ⟨S32x256x128, .bf16⟩
  | .local _ .vmem, ⟨25, _⟩ => ⟨S256x4096, .fp8e4m3⟩
  | .local _ .vmem, ⟨26, _⟩ => ⟨S256x128, .f32⟩
  | .local _ .vmem, ⟨27, _⟩ => ⟨S256x128, .f32⟩
  | .local _ .vmem, ⟨28, _⟩ => ⟨S256x128, .f32⟩
  | _, _ => ⟨S1x4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev main_v4_4 : Ref sig .tc := ⟨.hbm, 12, rfl⟩
abbrev main_v4_5 : Ref sig .tc := ⟨.hbm, 13, rfl⟩
abbrev main_v4_6 : Ref sig .tc := ⟨.hbm, 14, rfl⟩
abbrev main_v4_7 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_scratch0 : Ref sig .tc := ⟨.vmem, 23, rfl⟩
abbrev cc0_scratch1 : Ref sig .tc := ⟨.vmem, 24, rfl⟩
abbrev cc0_scratch2 : Ref sig .tc := ⟨.vmem, 25, rfl⟩
abbrev cc0_scratch3 : Ref sig .tc := ⟨.vmem, 26, rfl⟩
abbrev cc0_scratch4 : Ref sig .tc := ⟨.vmem, 27, rfl⟩
abbrev cc0_scratch5 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22

abbrev nD : Nat := 1
abbrev τ : Topo := Topo.v7x

variable {F : FTy → Type} [FloatOps F]

abbrev grid0 : Pipeline.Grid := ⟨1, ![9], ![false]⟩

def k0_cond1 (i : grid0.Coords) : BitVec 1 :=
  let arg0 : BitVec 32 := BitVec.ofNat 32 (i 0).val
  let c0_i32 : BitVec 32 := 0#32
  let v0 : BitVec 1 := Scalar.cmpi .sgt arg0 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c1_i32 : BitVec 32 := 1#32
  let c31_i32 : BitVec 32 := 31#32
  let v17 : BitVec 32 := Scalar.addi c1_i32 c31_i32
  let c1_i32_12 : BitVec 32 := 1#32
  ⟨c1_i32, v17, c1_i32_12⟩
def k0_mult1 (k0_t1 : Fin k0_t1_loop.trips) : BitVec 32 :=
  let c1_i32 : BitVec 32 := 1#32
  let c1_i32_12 : BitVec 32 := 1#32
  let arg20 : BitVec 32 := Scf.iv c1_i32 c1_i32_12 k0_t1
  let c128_i32 : BitVec 32 := 128#32
  let v1636 : BitVec 32 := Scalar.muli arg20 c128_i32
  v1636
def k0_off1 (k0_t1 : Fin k0_t1_loop.trips) : Fin 2 → Nat :=
  let c0_952 : Index := 0#32
  let c1_i32 : BitVec 32 := 1#32
  let c1_i32_12 : BitVec 32 := 1#32
  let arg20 : BitVec 32 := Scf.iv c1_i32 c1_i32_12 k0_t1
  let c128_i32 : BitVec 32 := 128#32
  let v1636 : BitVec 32 := Scalar.muli arg20 c128_i32
  let v1637 : BitVec 32 := v1636
  let v1638 : Index := Scalar.indexCast v1637
  ![0, v1638.toNat]
@[reducible] def k0_t2_loop : Scf.Loop 32 :=
  let c1_i32_19 : BitVec 32 := 1#32
  let c31_i32_20 : BitVec 32 := 31#32
  let v71 : BitVec 32 := Scalar.addi c1_i32_19 c31_i32_20
  let c1_i32_21 : BitVec 32 := 1#32
  ⟨c1_i32_19, v71, c1_i32_21⟩
def k0_mult2 (k0_t2 : Fin k0_t2_loop.trips) : BitVec 32 :=
  let c1_i32_19 : BitVec 32 := 1#32
  let c1_i32_21 : BitVec 32 := 1#32
  let arg20 : BitVec 32 := Scf.iv c1_i32_19 c1_i32_21 k0_t2
  let c128_i32 : BitVec 32 := 128#32
  let v1636 : BitVec 32 := Scalar.muli arg20 c128_i32
  v1636
def k0_off2 (k0_t2 : Fin k0_t2_loop.trips) : Fin 2 → Nat :=
  let c128_952 : Index := 128#32
  let c1_i32_19 : BitVec 32 := 1#32
  let c1_i32_21 : BitVec 32 := 1#32
  let arg20 : BitVec 32 := Scf.iv c1_i32_19 c1_i32_21 k0_t2
  let c128_i32 : BitVec 32 := 128#32
  let v1636 : BitVec 32 := Scalar.muli arg20 c128_i32
  let v1637 : BitVec 32 := v1636
  let v1638 : Index := Scalar.indexCast v1637
  ![128, v1638.toNat]
@[reducible] def k0_t3_loop : Scf.Loop 32 :=
  let c0_i32_38 : BitVec 32 := 0#32
  let c256_i32 : BitVec 32 := 256#32
  let v130 : BitVec 32 := Scalar.addi c0_i32_38 c256_i32
  let c1_i32_39 : BitVec 32 := 1#32
  ⟨c0_i32_38, v130, c1_i32_39⟩
def k0_mult3 (k0_t3 : Fin k0_t3_loop.trips) : BitVec 32 :=
  let c0_i32_38 : BitVec 32 := 0#32
  let c1_i32_39 : BitVec 32 := 1#32
  let arg20 : BitVec 32 := Scf.iv c0_i32_38 c1_i32_39 k0_t3
  let c32_i32 : BitVec 32 := 32#32
  let v1636 : BitVec 32 := Scalar.divsi arg20 c32_i32
  let c32_i32_953 : BitVec 32 := 32#32
  let v1638 : BitVec 32 := Scalar.muli v1636 c32_i32_953
  v1638
def k0_mult4 (k0_t3 : Fin k0_t3_loop.trips) : BitVec 32 :=
  let c0_i32_38 : BitVec 32 := 0#32
  let c1_i32_39 : BitVec 32 := 1#32
  let arg20 : BitVec 32 := Scf.iv c0_i32_38 c1_i32_39 k0_t3
  let c32_i32 : BitVec 32 := 32#32
  let v1636 : BitVec 32 := Scalar.divsi arg20 c32_i32
  let c32_i32_954 : BitVec 32 := 32#32
  let v1640 : BitVec 32 := Scalar.muli v1636 c32_i32_954
  let c256_i32_955 : BitVec 32 := 256#32
  let v1641 : BitVec 32 := Scalar.addi v1640 c256_i32_955
  v1641
def k0_mult5 (k0_t3 : Fin k0_t3_loop.trips) : BitVec 32 :=
  let c0_i32_38 : BitVec 32 := 0#32
  let c1_i32_39 : BitVec 32 := 1#32
  let arg20 : BitVec 32 := Scf.iv c0_i32_38 c1_i32_39 k0_t3
  let c32_i32_952 : BitVec 32 := 32#32
  let v1637 : BitVec 32 := Scalar.remsi arg20 c32_i32_952
  let c128_i32 : BitVec 32 := 128#32
  let v1643 : BitVec 32 := Scalar.muli v1637 c128_i32
  v1643
def k0_off3 (k0_t3 : Fin k0_t3_loop.trips) : Fin 2 → Nat :=
  let c0_i32_38 : BitVec 32 := 0#32
  let c1_i32_39 : BitVec 32 := 1#32
  let arg20 : BitVec 32 := Scf.iv c0_i32_38 c1_i32_39 k0_t3
  let c32_i32 : BitVec 32 := 32#32
  let v1636 : BitVec 32 := Scalar.divsi arg20 c32_i32
  let c32_i32_953 : BitVec 32 := 32#32
  let v1638 : BitVec 32 := Scalar.muli v1636 c32_i32_953
  let v1639 : BitVec 32 := v1638
  let v1645 : Index := Scalar.indexCast v1639
  let c32_i32_952 : BitVec 32 := 32#32
  let v1637 : BitVec 32 := Scalar.remsi arg20 c32_i32_952
  let c128_i32 : BitVec 32 := 128#32
  let v1643 : BitVec 32 := Scalar.muli v1637 c128_i32
  let v1644 : BitVec 32 := v1643
  let v1646 : Index := Scalar.indexCast v1644
  ![v1645.toNat, v1646.toNat]
def k0_off4 (k0_t3 : Fin k0_t3_loop.trips) : Fin 2 → Nat :=
  let c0_i32_38 : BitVec 32 := 0#32
  let c1_i32_39 : BitVec 32 := 1#32
  let arg20 : BitVec 32 := Scf.iv c0_i32_38 c1_i32_39 k0_t3
  let c32_i32 : BitVec 32 := 32#32
  let v1636 : BitVec 32 := Scalar.divsi arg20 c32_i32
  let c32_i32_953 : BitVec 32 := 32#32
  let v1638 : BitVec 32 := Scalar.muli v1636 c32_i32_953
  let v1639 : BitVec 32 := v1638
  let v1650 : Index := Scalar.indexCast v1639
  let c0_956 : Index := 0#32
  ![v1650.toNat, 0]
def k0_off5 (k0_t3 : Fin k0_t3_loop.trips) : Fin 2 → Nat :=
  let c0_957 : Index := 0#32
  let c0_i32_38 : BitVec 32 := 0#32
  let c1_i32_39 : BitVec 32 := 1#32
  let arg20 : BitVec 32 := Scf.iv c0_i32_38 c1_i32_39 k0_t3
  let c32_i32_952 : BitVec 32 := 32#32
  let v1637 : BitVec 32 := Scalar.remsi arg20 c32_i32_952
  let c128_i32 : BitVec 32 := 128#32
  let v1643 : BitVec 32 := Scalar.muli v1637 c128_i32
  let v1644 : BitVec 32 := v1643
  let v1653 : Index := Scalar.indexCast v1644
  ![0, v1653.toNat]
def k0_off6 (k0_t3 : Fin k0_t3_loop.trips) : Fin 2 → Nat :=
  let c0_i32_38 : BitVec 32 := 0#32
  let c1_i32_39 : BitVec 32 := 1#32
  let arg20 : BitVec 32 := Scf.iv c0_i32_38 c1_i32_39 k0_t3
  let c32_i32 : BitVec 32 := 32#32
  let v1636 : BitVec 32 := Scalar.divsi arg20 c32_i32
  let c32_i32_954 : BitVec 32 := 32#32
  let v1640 : BitVec 32 := Scalar.muli v1636 c32_i32_954
  let c256_i32_955 : BitVec 32 := 256#32
  let v1641 : BitVec 32 := Scalar.addi v1640 c256_i32_955
  let v1642 : BitVec 32 := v1641
  let v1684 : Index := Scalar.indexCast v1642
  let c32_i32_952 : BitVec 32 := 32#32
  let v1637 : BitVec 32 := Scalar.remsi arg20 c32_i32_952
  let c128_i32 : BitVec 32 := 128#32
  let v1643 : BitVec 32 := Scalar.muli v1637 c128_i32
  let v1644 : BitVec 32 := v1643
  let v1685 : Index := Scalar.indexCast v1644
  ![v1684.toNat, v1685.toNat]
def k0_off7 (k0_t3 : Fin k0_t3_loop.trips) : Fin 3 → Nat :=
  let c0_i32_38 : BitVec 32 := 0#32
  let c1_i32_39 : BitVec 32 := 1#32
  let arg20 : BitVec 32 := Scf.iv c0_i32_38 c1_i32_39 k0_t3
  let c32_i32_952 : BitVec 32 := 32#32
  let v1637 : BitVec 32 := Scalar.remsi arg20 c32_i32_952
  let v1691 : Index := Scalar.indexCast v1637
  let c32_i32 : BitVec 32 := 32#32
  let v1636 : BitVec 32 := Scalar.divsi arg20 c32_i32
  let c32_i32_953 : BitVec 32 := 32#32
  let v1638 : BitVec 32 := Scalar.muli v1636 c32_i32_953
  let v1639 : BitVec 32 := v1638
  let v1692 : Index := Scalar.indexCast v1639
  let c0_966 : Index := 0#32
  ![v1691.toNat, v1692.toNat, 0]
@[reducible] def k0_t4_loop : Scf.Loop 32 :=
  let c1_i32_456 : BitVec 32 := 1#32
  let c31_i32_457 : BitVec 32 := 31#32
  let v831 : BitVec 32 := Scalar.addi c1_i32_456 c31_i32_457
  let c1_i32_458 : BitVec 32 := 1#32
  ⟨c1_i32_456, v831, c1_i32_458⟩
def k0_mult6 (k0_t4 : Fin k0_t4_loop.trips) : BitVec 32 :=
  let c1_i32_456 : BitVec 32 := 1#32
  let c1_i32_458 : BitVec 32 := 1#32
  let arg20 : BitVec 32 := Scf.iv c1_i32_456 c1_i32_458 k0_t4
  let c128_i32 : BitVec 32 := 128#32
  let v1636 : BitVec 32 := Scalar.muli arg20 c128_i32
  v1636
def k0_off8 (k0_t4 : Fin k0_t4_loop.trips) : Fin 2 → Nat :=
  let c0_952 : Index := 0#32
  let c1_i32_456 : BitVec 32 := 1#32
  let c1_i32_458 : BitVec 32 := 1#32
  let arg20 : BitVec 32 := Scf.iv c1_i32_456 c1_i32_458 k0_t4
  let c128_i32 : BitVec 32 := 128#32
  let v1636 : BitVec 32 := Scalar.muli arg20 c128_i32
  let v1637 : BitVec 32 := v1636
  let v1638 : Index := Scalar.indexCast v1637
  ![0, v1638.toNat]
@[reducible] def k0_t5_loop : Scf.Loop 32 :=
  let c1_i32_469 : BitVec 32 := 1#32
  let c31_i32_470 : BitVec 32 := 31#32
  let v885 : BitVec 32 := Scalar.addi c1_i32_469 c31_i32_470
  let c1_i32_471 : BitVec 32 := 1#32
  ⟨c1_i32_469, v885, c1_i32_471⟩
def k0_mult7 (k0_t5 : Fin k0_t5_loop.trips) : BitVec 32 :=
  let c1_i32_469 : BitVec 32 := 1#32
  let c1_i32_471 : BitVec 32 := 1#32
  let arg20 : BitVec 32 := Scf.iv c1_i32_469 c1_i32_471 k0_t5
  let c128_i32 : BitVec 32 := 128#32
  let v1636 : BitVec 32 := Scalar.muli arg20 c128_i32
  v1636
def k0_off9 (k0_t5 : Fin k0_t5_loop.trips) : Fin 2 → Nat :=
  let c128_952 : Index := 128#32
  let c1_i32_469 : BitVec 32 := 1#32
  let c1_i32_471 : BitVec 32 := 1#32
  let arg20 : BitVec 32 := Scf.iv c1_i32_469 c1_i32_471 k0_t5
  let c128_i32 : BitVec 32 := 128#32
  let v1636 : BitVec 32 := Scalar.muli arg20 c128_i32
  let v1637 : BitVec 32 := v1636
  let v1638 : Index := Scalar.indexCast v1637
  ![128, v1638.toNat]
@[reducible] def k0_t6_loop : Scf.Loop 32 :=
  let c0_i32_488 : BitVec 32 := 0#32
  let c256_i32_489 : BitVec 32 := 256#32
  let v944 : BitVec 32 := Scalar.addi c0_i32_488 c256_i32_489
  let c1_i32_490 : BitVec 32 := 1#32
  ⟨c0_i32_488, v944, c1_i32_490⟩
def k0_mult8 (k0_t6 : Fin k0_t6_loop.trips) : BitVec 32 :=
  let c0_i32_488 : BitVec 32 := 0#32
  let c1_i32_490 : BitVec 32 := 1#32
  let arg20 : BitVec 32 := Scf.iv c0_i32_488 c1_i32_490 k0_t6
  let c32_i32 : BitVec 32 := 32#32
  let v1636 : BitVec 32 := Scalar.divsi arg20 c32_i32
  let c32_i32_953 : BitVec 32 := 32#32
  let v1638 : BitVec 32 := Scalar.muli v1636 c32_i32_953
  v1638
def k0_mult9 (k0_t6 : Fin k0_t6_loop.trips) : BitVec 32 :=
  let c0_i32_488 : BitVec 32 := 0#32
  let c1_i32_490 : BitVec 32 := 1#32
  let arg20 : BitVec 32 := Scf.iv c0_i32_488 c1_i32_490 k0_t6
  let c32_i32 : BitVec 32 := 32#32
  let v1636 : BitVec 32 := Scalar.divsi arg20 c32_i32
  let c32_i32_954 : BitVec 32 := 32#32
  let v1640 : BitVec 32 := Scalar.muli v1636 c32_i32_954
  let c0_i32_955 : BitVec 32 := 0#32
  let v1641 : BitVec 32 := Scalar.addi v1640 c0_i32_955
  v1641
def k0_mult10 (k0_t6 : Fin k0_t6_loop.trips) : BitVec 32 :=
  let c0_i32_488 : BitVec 32 := 0#32
  let c1_i32_490 : BitVec 32 := 1#32
  let arg20 : BitVec 32 := Scf.iv c0_i32_488 c1_i32_490 k0_t6
  let c32_i32_952 : BitVec 32 := 32#32
  let v1637 : BitVec 32 := Scalar.remsi arg20 c32_i32_952
  let c128_i32 : BitVec 32 := 128#32
  let v1643 : BitVec 32 := Scalar.muli v1637 c128_i32
  v1643
def k0_off10 (k0_t6 : Fin k0_t6_loop.trips) : Fin 2 → Nat :=
  let c0_i32_488 : BitVec 32 := 0#32
  let c1_i32_490 : BitVec 32 := 1#32
  let arg20 : BitVec 32 := Scf.iv c0_i32_488 c1_i32_490 k0_t6
  let c32_i32 : BitVec 32 := 32#32
  let v1636 : BitVec 32 := Scalar.divsi arg20 c32_i32
  let c32_i32_953 : BitVec 32 := 32#32
  let v1638 : BitVec 32 := Scalar.muli v1636 c32_i32_953
  let v1639 : BitVec 32 := v1638
  let v1645 : Index := Scalar.indexCast v1639
  let c32_i32_952 : BitVec 32 := 32#32
  let v1637 : BitVec 32 := Scalar.remsi arg20 c32_i32_952
  let c128_i32 : BitVec 32 := 128#32
  let v1643 : BitVec 32 := Scalar.muli v1637 c128_i32
  let v1644 : BitVec 32 := v1643
  let v1646 : Index := Scalar.indexCast v1644
  ![v1645.toNat, v1646.toNat]
def k0_off11 (k0_t6 : Fin k0_t6_loop.trips) : Fin 2 → Nat :=
  let c0_i32_488 : BitVec 32 := 0#32
  let c1_i32_490 : BitVec 32 := 1#32
  let arg20 : BitVec 32 := Scf.iv c0_i32_488 c1_i32_490 k0_t6
  let c32_i32 : BitVec 32 := 32#32
  let v1636 : BitVec 32 := Scalar.divsi arg20 c32_i32
  let c32_i32_953 : BitVec 32 := 32#32
  let v1638 : BitVec 32 := Scalar.muli v1636 c32_i32_953
  let v1639 : BitVec 32 := v1638
  let v1650 : Index := Scalar.indexCast v1639
  let c0_956 : Index := 0#32
  ![v1650.toNat, 0]
def k0_off12 (k0_t6 : Fin k0_t6_loop.trips) : Fin 2 → Nat :=
  let c0_957 : Index := 0#32
  let c0_i32_488 : BitVec 32 := 0#32
  let c1_i32_490 : BitVec 32 := 1#32
  let arg20 : BitVec 32 := Scf.iv c0_i32_488 c1_i32_490 k0_t6
  let c32_i32_952 : BitVec 32 := 32#32
  let v1637 : BitVec 32 := Scalar.remsi arg20 c32_i32_952
  let c128_i32 : BitVec 32 := 128#32
  let v1643 : BitVec 32 := Scalar.muli v1637 c128_i32
  let v1644 : BitVec 32 := v1643
  let v1653 : Index := Scalar.indexCast v1644
  ![0, v1653.toNat]
def k0_off13 (k0_t6 : Fin k0_t6_loop.trips) : Fin 2 → Nat :=
  let c0_i32_488 : BitVec 32 := 0#32
  let c1_i32_490 : BitVec 32 := 1#32
  let arg20 : BitVec 32 := Scf.iv c0_i32_488 c1_i32_490 k0_t6
  let c32_i32 : BitVec 32 := 32#32
  let v1636 : BitVec 32 := Scalar.divsi arg20 c32_i32
  let c32_i32_954 : BitVec 32 := 32#32
  let v1640 : BitVec 32 := Scalar.muli v1636 c32_i32_954
  let c0_i32_955 : BitVec 32 := 0#32
  let v1641 : BitVec 32 := Scalar.addi v1640 c0_i32_955
  let v1642 : BitVec 32 := v1641
  let v1684 : Index := Scalar.indexCast v1642
  let c32_i32_952 : BitVec 32 := 32#32
  let v1637 : BitVec 32 := Scalar.remsi arg20 c32_i32_952
  let c128_i32 : BitVec 32 := 128#32
  let v1643 : BitVec 32 := Scalar.muli v1637 c128_i32
  let v1644 : BitVec 32 := v1643
  let v1685 : Index := Scalar.indexCast v1644
  ![v1684.toNat, v1685.toNat]
def k0_off14 (k0_t6 : Fin k0_t6_loop.trips) : Fin 3 → Nat :=
  let c0_i32_488 : BitVec 32 := 0#32
  let c1_i32_490 : BitVec 32 := 1#32
  let arg20 : BitVec 32 := Scf.iv c0_i32_488 c1_i32_490 k0_t6
  let c32_i32_952 : BitVec 32 := 32#32
  let v1637 : BitVec 32 := Scalar.remsi arg20 c32_i32_952
  let v1693 : Index := Scalar.indexCast v1637
  let c32_i32 : BitVec 32 := 32#32
  let v1636 : BitVec 32 := Scalar.divsi arg20 c32_i32
  let c32_i32_953 : BitVec 32 := 32#32
  let v1638 : BitVec 32 := Scalar.muli v1636 c32_i32_953
  let v1639 : BitVec 32 := v1638
  let v1694 : Index := Scalar.indexCast v1639
  let c0_966 : Index := 0#32
  ![v1693.toNat, v1694.toNat, 0]
def k0_cond2 (i : grid0.Coords) : BitVec 1 :=
  let arg0 : BitVec 32 := BitVec.ofNat 32 (i 0).val
  let c0_i32_1 : BitVec 32 := 0#32
  let v3 : BitVec 1 := Scalar.cmpi .eq arg0 c0_i32_1
  let v4 : BitVec 32 := Scalar.extui v3
  let c0_i32_2 : BitVec 32 := 0#32
  let v5 : BitVec 1 := Scalar.cmpi .ne v4 c0_i32_2
  v5

@[reducible] def k0_t7_loop : Scf.Loop 32 :=
  let c1_i32 : BitVec 32 := 1#32
  let c31_i32 : BitVec 32 := 31#32
  let v11 : BitVec 32 := Scalar.addi c1_i32 c31_i32
  let c1_i32_4 : BitVec 32 := 1#32
  ⟨c1_i32, v11, c1_i32_4⟩
def k0_mult11 (k0_t7 : Fin k0_t7_loop.trips) : BitVec 32 :=
  let c1_i32 : BitVec 32 := 1#32
  let c1_i32_4 : BitVec 32 := 1#32
  let arg20 : BitVec 32 := Scf.iv c1_i32 c1_i32_4 k0_t7
  let c128_i32 : BitVec 32 := 128#32
  let v126 : BitVec 32 := Scalar.muli arg20 c128_i32
  v126
def k0_off15 (k0_t7 : Fin k0_t7_loop.trips) : Fin 2 → Nat :=
  let c0_33 : Index := 0#32
  let c1_i32 : BitVec 32 := 1#32
  let c1_i32_4 : BitVec 32 := 1#32
  let arg20 : BitVec 32 := Scf.iv c1_i32 c1_i32_4 k0_t7
  let c128_i32 : BitVec 32 := 128#32
  let v126 : BitVec 32 := Scalar.muli arg20 c128_i32
  let v127 : BitVec 32 := v126
  let v128 : Index := Scalar.indexCast v127
  ![0, v128.toNat]
@[reducible] def k0_t8_loop : Scf.Loop 32 :=
  let c1_i32_11 : BitVec 32 := 1#32
  let c31_i32_12 : BitVec 32 := 31#32
  let v65 : BitVec 32 := Scalar.addi c1_i32_11 c31_i32_12
  let c1_i32_13 : BitVec 32 := 1#32
  ⟨c1_i32_11, v65, c1_i32_13⟩
def k0_mult12 (k0_t8 : Fin k0_t8_loop.trips) : BitVec 32 :=
  let c1_i32_11 : BitVec 32 := 1#32
  let c1_i32_13 : BitVec 32 := 1#32
  let arg20 : BitVec 32 := Scf.iv c1_i32_11 c1_i32_13 k0_t8
  let c128_i32 : BitVec 32 := 128#32
  let v126 : BitVec 32 := Scalar.muli arg20 c128_i32
  v126
def k0_off16 (k0_t8 : Fin k0_t8_loop.trips) : Fin 2 → Nat :=
  let c128_33 : Index := 128#32
  let c1_i32_11 : BitVec 32 := 1#32
  let c1_i32_13 : BitVec 32 := 1#32
  let arg20 : BitVec 32 := Scf.iv c1_i32_11 c1_i32_13 k0_t8
  let c128_i32 : BitVec 32 := 128#32
  let v126 : BitVec 32 := Scalar.muli arg20 c128_i32
  let v127 : BitVec 32 := v126
  let v128 : Index := Scalar.indexCast v127
  ![128, v128.toNat]
@[reducible] def k0_t9_loop : Scf.Loop 32 :=
  let c0_i32_30 : BitVec 32 := 0#32
  let c256_i32 : BitVec 32 := 256#32
  let v124 : BitVec 32 := Scalar.addi c0_i32_30 c256_i32
  let c1_i32_31 : BitVec 32 := 1#32
  ⟨c0_i32_30, v124, c1_i32_31⟩
def k0_mult13 (k0_t9 : Fin k0_t9_loop.trips) : BitVec 32 :=
  let c0_i32_30 : BitVec 32 := 0#32
  let c1_i32_31 : BitVec 32 := 1#32
  let arg20 : BitVec 32 := Scf.iv c0_i32_30 c1_i32_31 k0_t9
  let c32_i32 : BitVec 32 := 32#32
  let v126 : BitVec 32 := Scalar.divsi arg20 c32_i32
  let c32_i32_34 : BitVec 32 := 32#32
  let v128 : BitVec 32 := Scalar.muli v126 c32_i32_34
  v128
def k0_mult14 (k0_t9 : Fin k0_t9_loop.trips) : BitVec 32 :=
  let c0_i32_30 : BitVec 32 := 0#32
  let c1_i32_31 : BitVec 32 := 1#32
  let arg20 : BitVec 32 := Scf.iv c0_i32_30 c1_i32_31 k0_t9
  let c32_i32 : BitVec 32 := 32#32
  let v126 : BitVec 32 := Scalar.divsi arg20 c32_i32
  let c32_i32_35 : BitVec 32 := 32#32
  let v130 : BitVec 32 := Scalar.muli v126 c32_i32_35
  let c0_i32_36 : BitVec 32 := 0#32
  let v131 : BitVec 32 := Scalar.addi v130 c0_i32_36
  v131
def k0_mult15 (k0_t9 : Fin k0_t9_loop.trips) : BitVec 32 :=
  let c0_i32_30 : BitVec 32 := 0#32
  let c1_i32_31 : BitVec 32 := 1#32
  let arg20 : BitVec 32 := Scf.iv c0_i32_30 c1_i32_31 k0_t9
  let c32_i32_33 : BitVec 32 := 32#32
  let v127 : BitVec 32 := Scalar.remsi arg20 c32_i32_33
  let c128_i32 : BitVec 32 := 128#32
  let v133 : BitVec 32 := Scalar.muli v127 c128_i32
  v133
def k0_off17 (k0_t9 : Fin k0_t9_loop.trips) : Fin 2 → Nat :=
  let c0_i32_30 : BitVec 32 := 0#32
  let c1_i32_31 : BitVec 32 := 1#32
  let arg20 : BitVec 32 := Scf.iv c0_i32_30 c1_i32_31 k0_t9
  let c32_i32 : BitVec 32 := 32#32
  let v126 : BitVec 32 := Scalar.divsi arg20 c32_i32
  let c32_i32_34 : BitVec 32 := 32#32
  let v128 : BitVec 32 := Scalar.muli v126 c32_i32_34
  let v129 : BitVec 32 := v128
  let v135 : Index := Scalar.indexCast v129
  let c32_i32_33 : BitVec 32 := 32#32
  let v127 : BitVec 32 := Scalar.remsi arg20 c32_i32_33
  let c128_i32 : BitVec 32 := 128#32
  let v133 : BitVec 32 := Scalar.muli v127 c128_i32
  let v134 : BitVec 32 := v133
  let v136 : Index := Scalar.indexCast v134
  ![v135.toNat, v136.toNat]
def k0_off18 (k0_t9 : Fin k0_t9_loop.trips) : Fin 2 → Nat :=
  let c0_i32_30 : BitVec 32 := 0#32
  let c1_i32_31 : BitVec 32 := 1#32
  let arg20 : BitVec 32 := Scf.iv c0_i32_30 c1_i32_31 k0_t9
  let c32_i32 : BitVec 32 := 32#32
  let v126 : BitVec 32 := Scalar.divsi arg20 c32_i32
  let c32_i32_34 : BitVec 32 := 32#32
  let v128 : BitVec 32 := Scalar.muli v126 c32_i32_34
  let v129 : BitVec 32 := v128
  let v140 : Index := Scalar.indexCast v129
  let c0_37 : Index := 0#32
  ![v140.toNat, 0]
def k0_off19 (k0_t9 : Fin k0_t9_loop.trips) : Fin 2 → Nat :=
  let c0_38 : Index := 0#32
  let c0_i32_30 : BitVec 32 := 0#32
  let c1_i32_31 : BitVec 32 := 1#32
  let arg20 : BitVec 32 := Scf.iv c0_i32_30 c1_i32_31 k0_t9
  let c32_i32_33 : BitVec 32 := 32#32
  let v127 : BitVec 32 := Scalar.remsi arg20 c32_i32_33
  let c128_i32 : BitVec 32 := 128#32
  let v133 : BitVec 32 := Scalar.muli v127 c128_i32
  let v134 : BitVec 32 := v133
  let v143 : Index := Scalar.indexCast v134
  ![0, v143.toNat]
def k0_off20 (k0_t9 : Fin k0_t9_loop.trips) : Fin 2 → Nat :=
  let c0_i32_30 : BitVec 32 := 0#32
  let c1_i32_31 : BitVec 32 := 1#32
  let arg20 : BitVec 32 := Scf.iv c0_i32_30 c1_i32_31 k0_t9
  let c32_i32 : BitVec 32 := 32#32
  let v126 : BitVec 32 := Scalar.divsi arg20 c32_i32
  let c32_i32_35 : BitVec 32 := 32#32
  let v130 : BitVec 32 := Scalar.muli v126 c32_i32_35
  let c0_i32_36 : BitVec 32 := 0#32
  let v131 : BitVec 32 := Scalar.addi v130 c0_i32_36
  let v132 : BitVec 32 := v131
  let v174 : Index := Scalar.indexCast v132
  let c32_i32_33 : BitVec 32 := 32#32
  let v127 : BitVec 32 := Scalar.remsi arg20 c32_i32_33
  let c128_i32 : BitVec 32 := 128#32
  let v133 : BitVec 32 := Scalar.muli v127 c128_i32
  let v134 : BitVec 32 := v133
  let v175 : Index := Scalar.indexCast v134
  ![v174.toNat, v175.toNat]
def k0_off21 (k0_t9 : Fin k0_t9_loop.trips) : Fin 3 → Nat :=
  let c0_i32_30 : BitVec 32 := 0#32
  let c1_i32_31 : BitVec 32 := 1#32
  let arg20 : BitVec 32 := Scf.iv c0_i32_30 c1_i32_31 k0_t9
  let c32_i32_33 : BitVec 32 := 32#32
  let v127 : BitVec 32 := Scalar.remsi arg20 c32_i32_33
  let v183 : Index := Scalar.indexCast v127
  let c32_i32 : BitVec 32 := 32#32
  let v126 : BitVec 32 := Scalar.divsi arg20 c32_i32
  let c32_i32_34 : BitVec 32 := 32#32
  let v128 : BitVec 32 := Scalar.muli v126 c32_i32_34
  let v129 : BitVec 32 := v128
  let v184 : Index := Scalar.indexCast v129
  let c0_45 : Index := 0#32
  ![v183.toNat, v184.toNat, 0]
def cc0_transform_0 (i : grid0.Coords) : Fin 2 → Nat :=
  let arg0 : BitVec 32 := BitVec.ofNat 32 (i 0).val
  let c2_i32 : BitVec 32 := 2#32
  let v0 : BitVec 32 := Scalar.muli c2_i32 arg0
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_1 (i : grid0.Coords) : Fin 2 → Nat :=
  let arg0 : BitVec 32 := BitVec.ofNat 32 (i 0).val
  let c2_i32 : BitVec 32 := 2#32
  let v0 : BitVec 32 := Scalar.muli c2_i32 arg0
  let c15_i32 : BitVec 32 := 15#32
  let v1 : BitVec 32 := Scalar.minsi v0 c15_i32
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![v1.toNat, c0_i32_0.toNat, c0_i32_1.toNat]

def cc0_transform_6 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

def cc0_transform_7 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![v1.toNat, c0_i32_0.toNat, c0_i32_1.toNat]

def cc0_transform_8 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

def cc0_transform_9 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![v1.toNat, c0_i32_0.toNat, c0_i32_1.toNat]

def cc0_transform_10 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

def cc0_transform_11 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_12 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

abbrev stage0_0 : Fin 2 → Memref sig .tc .vmem S256x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4096x1536 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1536 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x4x128 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x4x128 .fp8e4m3 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S4x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x4x128 .fp8e4m3 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S4x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x4096 .fp8e4m3 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S32x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== ReferenceIdeal.lean ====
abbrev S1x4096x4096 : Shape := ⟨3, ![1, 4096, 4096]⟩
abbrev S4096 : Shape := ⟨1, ![4096]⟩
abbrev S4096x1536 : Shape := ⟨2, ![4096, 1536]⟩
abbrev S1536 : Shape := ⟨1, ![1536]⟩
abbrev S4096x4096 : Shape := ⟨2, ![4096, 4096]⟩
abbrev S1x4096 : Shape := ⟨2, ![1, 4096]⟩
abbrev S1x1536 : Shape := ⟨2, ![1, 1536]⟩
abbrev S4096x4x128 : Shape := ⟨3, ![4096, 4, 128]⟩
abbrev S4x4096 : Shape := ⟨2, ![4, 4096]⟩
abbrev S32x4096 : Shape := ⟨2, ![32, 4096]⟩
abbrev S4096x1 : Shape := ⟨2, ![4096, 1]⟩
abbrev S4096x32x128 : Shape := ⟨3, ![4096, 32, 128]⟩
abbrev S4096x32 : Shape := ⟨2, ![4096, 32]⟩
abbrev S4096x32x1 : Shape := ⟨3, ![4096, 32, 1]⟩
abbrev S4096x32x256 : Shape := ⟨3, ![4096, 32, 256]⟩
abbrev S4096x12x128 : Shape := ⟨3, ![4096, 12, 128]⟩
abbrev S4096x12 : Shape := ⟨2, ![4096, 12]⟩
abbrev S4096x12x1 : Shape := ⟨3, ![4096, 12, 1]⟩
abbrev S4096x12x256 : Shape := ⟨3, ![4096, 12, 256]⟩
abbrev S4096x4x1 : Shape := ⟨3, ![4096, 4, 1]⟩
abbrev S4096x4 : Shape := ⟨2, ![4096, 4]⟩

abbrev nBuf : Space → Nat
  | .hbm => 15
  | .vmem => 12
  | .smem => 0
  | _ => 0

abbrev bufTy : (tb : Table) → Fin (tcTables nBuf tb) → BufTy
  | .hbm, ⟨0, _⟩ => ⟨S1x4096x4096, .bf16⟩
  | .hbm, ⟨1, _⟩ => ⟨S4096, .bf16⟩
  | .hbm, ⟨2, _⟩ => ⟨S4096x1536, .fp8e4m3⟩
  | .hbm, ⟨3, _⟩ => ⟨S1536, .f32⟩
  | .hbm, ⟨4, _⟩ => ⟨S4096x4096, .bf16⟩
  | .hbm, ⟨5, _⟩ => ⟨S1x4096, .bf16⟩
  | .hbm, ⟨6, _⟩ => ⟨S1x1536, .f32⟩
  | .hbm, ⟨7, _⟩ => ⟨S4096x4x128, .fp8e4m3⟩
  | .hbm, ⟨8, _⟩ => ⟨S4x4096, .f32⟩
  | .hbm, ⟨9, _⟩ => ⟨S4096x4x128, .fp8e4m3⟩
  | .hbm, ⟨10, _⟩ => ⟨S4x4096, .f32⟩
  | .hbm, ⟨11, _⟩ => ⟨S4096x4x128, .fp8e4m3⟩
  | .hbm, ⟨12, _⟩ => ⟨S4x4096, .f32⟩
  | .hbm, ⟨13, _⟩ => ⟨S4096x4096, .fp8e4m3⟩
  | .hbm, ⟨14, _⟩ => ⟨S32x4096, .f32⟩
  | .local _ .vmem, ⟨0, _⟩ => ⟨S4096x4096, .bf16⟩
  | .local _ .vmem, ⟨1, _⟩ => ⟨S1x4096, .bf16⟩
  | .local _ .vmem, ⟨2, _⟩ => ⟨S4096x1536, .fp8e4m3⟩
  | .local _ .vmem, ⟨3, _⟩ => ⟨S1x1536, .f32⟩
  | .local _ .vmem, ⟨4, _⟩ => ⟨S4096x4x128, .fp8e4m3⟩
  | .local _ .vmem, ⟨5, _⟩ => ⟨S4x4096, .f32⟩
  | .local _ .vmem, ⟨6, _⟩ => ⟨S4096x4x128, .fp8e4m3⟩
  | .local _ .vmem, ⟨7, _⟩ => ⟨S4x4096, .f32⟩
  | .local _ .vmem, ⟨8, _⟩ => ⟨S4096x4x128, .fp8e4m3⟩
  | .local _ .vmem, ⟨9, _⟩ => ⟨S4x4096, .f32⟩
  | .local _ .vmem, ⟨10, _⟩ => ⟨S4096x4096, .fp8e4m3⟩
  | .local _ .vmem, ⟨11, _⟩ => ⟨S32x4096, .f32⟩
  | _, _ => ⟨S1x4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v3_3 : Ref sig .tc := ⟨.hbm, 10, rfl⟩
abbrev main_v3_4 : Ref sig .tc := ⟨.hbm, 11, rfl⟩
abbrev main_v3_5 : Ref sig .tc := ⟨.hbm, 12, rfl⟩
abbrev main_v3_6 : Ref sig .tc := ⟨.hbm, 13, rfl⟩
abbrev main_v3_7 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11

abbrev nD : Nat := 1
abbrev τ : Topo := Topo.v7x

variable {F : FTy → Type} [FloatOps F]

abbrev grid0 : Pipeline.Grid := .none

abbrev stage0_0 : Fin 1 → Memref sig .tc .vmem S4096x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x1536 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x1536 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096x4x128 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S4096x4x128 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S4x4096 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S4096x4x128 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S4x4096 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S4096x4096 .fp8e4m3 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S32x4096 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
-- ==== Proof.Scalar.lean ====
module

public import Idealize.ShloMosaic.Lib.Pipeline.ValueKit

@[expose] public section

/-! The block quantiser over the extended reals, one number at a time: the exponent the reference picks, the exponent
bits the kernel picks, and that the two give the same scale, the same reciprocal and the same recorded scale. -/

noncomputable section

open Idealize.ShloMosaic

namespace Cert.Val

/-- The word of a positive power of two is that power of two. -/
theorem bits_pow (n : ℕ) (h1 : 1 ≤ n) (h2 : n < 255) :
    Ideal.ofBits .f32 (BitVec.ofNat 32 (n * 2 ^ 23)) = (((2 : ℝ) ^ ((n : ℤ) - 127) : ℝ) : EReal) := by
  have e1 : (BitVec.ofNat 32 (n * 2 ^ 23)).extractLsb' 31 1 = 0#1 := by
    apply BitVec.eq_of_toNat_eq
    rw [BitVec.extractLsb'_toNat, BitVec.toNat_ofNat, Nat.shiftRight_eq_div_pow]
    show _ = 0
    omega
  have e2 : ((BitVec.ofNat 32 (n * 2 ^ 23)).extractLsb' 23 8).toNat = n := by
    rw [BitVec.extractLsb'_toNat, BitVec.toNat_ofNat, Nat.shiftRight_eq_div_pow]; omega
  have e3 : ((BitVec.ofNat 32 (n * 2 ^ 23)).extractLsb' 0 23).toNat = 0 := by
    rw [BitVec.extractLsb'_toNat, BitVec.toNat_ofNat, Nat.shiftRight_eq_div_pow]; omega
  show Ideal.ieee 8 23 _ = _
  unfold Ideal.ieee
  simp only [Nat.reduceAdd, e1, e2, e3]
  rw [if_neg (by omega), if_neg (by omega)]
  congr 1
  have : ((2 ^ 23 + 0 : ℕ) : ℝ) = (2 : ℝ) ^ (23 : ℤ) := by norm_num
  rw [this]
  have hx : (n : ℤ) - 127 = 23 + ((n : ℤ) - (2 ^ (8 - 1) - 1) - 23) := by norm_num
  rw [hx, zpow_add₀ (by norm_num : (2 : ℝ) ≠ 0)]
  simp

/-- The same with the word written out. -/
theorem bits_lit (n : ℕ) (b : BitVec 32) (hb : b = BitVec.ofNat 32 (n * 2 ^ 23)) (h1 : 1 ≤ n) (h2 : n < 255) :
    Ideal.ofBits .f32 b = (((2 : ℝ) ^ ((n : ℤ) - 127) : ℝ) : EReal) := by rw [hb]; exact bits_pow n h1 h2

theorem bits_zero : Ideal.ofBits .f32 0#32 = 0 := by simp [Ideal.ofBits, Ideal.ieee]
theorem bits_negzero : Ideal.ofBits .f32 2147483648#32 = 0 := by simp [Ideal.ofBits, Ideal.ieee]
theorem bits_inf : Ideal.ofBits .f32 2139095040#32 = ⊤ := by simp [Ideal.ofBits, Ideal.ieee]

theorem bits_quarter : Ideal.ofBits .f32 1048576000#32 = ((1 / 4 : ℝ) : EReal) := by
  rw [bits_lit 125 _ (by decide) (by norm_num) (by norm_num)]; norm_num
theorem bits_one : Ideal.ofBits .f32 1065353216#32 = 1 := by
  rw [bits_lit 127 _ (by decide) (by norm_num) (by norm_num)]; norm_num
theorem bits_4096 : Ideal.ofBits .f32 1166016512#32 = ((4096 : ℝ) : EReal) := by
  rw [bits_lit 139 _ (by decide) (by norm_num) (by norm_num)]; norm_num
theorem bits_inv4096 : Ideal.ofBits .f32 964689920#32 = ((1 / 4096 : ℝ) : EReal) := by
  rw [bits_lit 115 _ (by decide) (by norm_num) (by norm_num)]; norm_num

/-- The kernel's factor is eight times the reference's `1 / 448`. -/
theorem bits_factor : ∃ c : ℝ, Ideal.ofBits .f32 991054117#32 = (c : EReal) ∧
    Ideal.ofBits .f32 1016219941#32 = ((c * 8 : ℝ) : EReal) := by
  refine ⟨_, by simp only [Ideal.ofBits, Ideal.ieee]; rfl, ?_⟩
  simp [Ideal.ofBits, Ideal.ieee, -EReal.coe_mul]
  norm_num

/-- Division by 4096 is multiplication by its reciprocal. -/
theorem div_4096 (x : EReal) : Ideal.div x (Ideal.ofBits .f32 1166016512#32) = x * Ideal.ofBits .f32 964689920#32 := by
  rw [bits_4096, bits_inv4096]; unfold Ideal.div
  rw [if_neg (by norm_num), ← EReal.coe_inv]; norm_num

/-! ## The greatest exponent -/

theorem toInt_small (a : ℕ) (h : a < 2 ^ 31) : (BitVec.ofNat 32 a).toInt = a := by
  rw [BitVec.toInt_eq_toNat_cond, BitVec.toNat_ofNat]
  rw [Nat.mod_eq_of_lt (by omega), if_pos (by omega)]

theorem maxsi_small (a b : ℕ) (ha : a < 2 ^ 31) (hb : b < 2 ^ 31) :
    IntOp.maxsi (BitVec.ofNat 32 a) (BitVec.ofNat 32 b) = BitVec.ofNat 32 (max a b) := by
  unfold IntOp.maxsi
  rw [BitVec.slt_eq_decide, toInt_small a ha, toInt_small b hb]
  by_cases h : b < a
  · rw [if_pos (by simpa using h), max_eq_left h.le]
  · rw [if_neg (by simpa using h), max_eq_right (by omega)]

theorem maxsi_least (a : ℕ) (ha : a < 2 ^ 31) : IntOp.maxsi (BitVec.ofNat 32 a) 2147483648#32 = BitVec.ofNat 32 a := by
  unfold IntOp.maxsi
  rw [BitVec.slt_eq_decide, toInt_small a ha]
  rw [if_pos]
  have : (2147483648#32 : BitVec 32).toInt = -2147483648 := by decide
  simp only [this, decide_eq_true_eq]; omega

/-- Two maxima over the same positions, one of `n`, one of the word of `n`, are attained at one `n`. -/
theorem fold_pair (f g : Fin 256 → BitVec 32)
    (h : ∀ x, ∃ n < 256, f x = BitVec.ofNat 32 n ∧ g x = BitVec.ofNat 32 (n * 2 ^ 23)) (s : Finset (Fin 256)) :
    (s = ∅) ∨ ∃ n < 256, s.fold IntOp.maxsi 2147483648#32 f = BitVec.ofNat 32 n ∧
      s.fold IntOp.maxsi 2147483648#32 g = BitVec.ofNat 32 (n * 2 ^ 23) := by
  classical
  induction s using Finset.induction_on with
  | empty => exact .inl rfl
  | insert a s ha ih =>
    right
    obtain ⟨n, hn, h1, h2⟩ := h a
    rw [Finset.fold_insert ha, Finset.fold_insert ha, h1, h2]
    rcases ih with rfl | ⟨k, hk, h3, h4⟩
    · refine ⟨n, hn, ?_, ?_⟩
      · rw [Finset.fold_empty]; exact maxsi_least _ (by omega)
      · rw [Finset.fold_empty]; exact maxsi_least _ (by omega)
    · refine ⟨max n k, by omega, ?_, ?_⟩
      · rw [h3]; exact maxsi_small _ _ (by omega) (by omega)
      · rw [h4, maxsi_small _ _ (by omega) (by omega)]
        congr 1; omega

/-- The exponent the reference picks for a block of greatest modulus `A`. -/
def refBits (A : EReal) : BitVec 32 :=
  Finset.fold IntOp.maxsi (2147483648#32)
    (fun x : Fin 256 =>
      if Scalar.select (IntOp.cmpi CmpIPredicate.eq (BitVec.ofNat 32 x.val) 255#32) (Ideal.ofBits FTy.f32 2139095040#32)
          (Ideal.exp2 (((IntOp.subi (BitVec.ofNat 32 x.val) 130#32).toInt : ℝ) : EReal)) ≤
            A * Ideal.ofBits FTy.f32 991054117#32 then BitVec.ofNat 32 x.val else 0#32) Finset.univ

/-- The exponent bits the kernel picks for a block of greatest modulus `A`. -/
def kerBits (A : EReal) : BitVec 32 :=
  Finset.fold IntOp.maxsi (2147483648#32)
    (fun x : Fin 256 =>
      if Ideal.ofBits FTy.f32 (IntOp.shli ArithUnit.vector (BitVec.ofNat 32 x.val) 23#32) ≤
            A * Ideal.ofBits FTy.f32 1016219941#32 then IntOp.shli ArithUnit.vector (BitVec.ofNat 32 x.val) 23#32 else 0#32)
    Finset.univ

theorem shli_23 (x : ℕ) : IntOp.shli ArithUnit.vector (BitVec.ofNat 32 x) 23#32 = BitVec.ofNat 32 (x * 2 ^ 23) := by
  unfold IntOp.shli
  rw [if_pos (by decide)]
  apply BitVec.eq_of_toNat_eq
  simp only [BitVec.shiftLeft_eq', BitVec.toNat_shiftLeft, BitVec.toNat_ofNat, Nat.shiftLeft_eq]
  norm_num

theorem exp2_int (z : ℤ) : Ideal.exp2 (((z : ℝ)) : EReal) = (((2 : ℝ) ^ z : ℝ) : EReal) := by
  show ((Real.rpow 2 (z : ℝ) : ℝ) : EReal) = _
  congr 1
  exact Real.rpow_intCast 2 z

theorem le_mul8 (p : ℝ) (t : EReal) : ((p * 8 : ℝ) : EReal) ≤ t * ((8 : ℝ) : EReal) ↔ (p : EReal) ≤ t := by
  induction t with
  | bot => rw [EReal.bot_mul_coe_of_pos (by norm_num)]; simp [-EReal.coe_mul]
  | top => rw [EReal.top_mul_coe_of_pos (by norm_num)]; simp
  | coe r => rw [← EReal.coe_mul, EReal.coe_le_coe_iff, EReal.coe_le_coe_iff]; constructor <;> intro h <;> linarith

theorem top_le_mul8 (t : EReal) : ⊤ ≤ t * ((8 : ℝ) : EReal) ↔ ⊤ ≤ t := by
  induction t with
  | bot => rw [EReal.bot_mul_coe_of_pos (by norm_num)]
  | top => rw [EReal.top_mul_coe_of_pos (by norm_num)]
  | coe r => rw [← EReal.coe_mul]; simp [-EReal.coe_mul]

theorem subi_130 (x : ℕ) (h : x < 256) : (IntOp.subi (BitVec.ofNat 32 x) 130#32).toInt = (x : ℤ) - 130 := by
  unfold IntOp.subi
  rw [BitVec.toInt_sub, toInt_small x (by omega), show (130#32 : BitVec 32).toInt = 130 by decide]
  rw [Int.bmod_eq_of_le] <;> omega

theorem subi_129 (x : ℕ) (h : x < 256) : (IntOp.subi (BitVec.ofNat 32 x) 129#32).toInt = (x : ℤ) - 129 := by
  unfold IntOp.subi
  rw [BitVec.toInt_sub, toInt_small x (by omega), show (129#32 : BitVec 32).toInt = 129 by decide]
  rw [Int.bmod_eq_of_le] <;> omega

theorem cmpi_eq_lit (x k : ℕ) (h : x < 256) (hk : k < 256) {α : Type} (a b : α) :
    Scalar.select (IntOp.cmpi CmpIPredicate.eq (BitVec.ofNat 32 x) (BitVec.ofNat 32 k)) a b = if x = k then a else b := by
  unfold Scalar.select IntOp.cmpi
  by_cases hx : x = k
  · subst hx; simp
  · rw [if_neg hx, if_neg]
    intro hc
    apply hx
    change BitVec.ofBool (BitVec.ofNat 32 x == BitVec.ofNat 32 k) = 1 at hc
    have : (BitVec.ofNat 32 x == BitVec.ofNat 32 k) = true := by
      by_contra hh
      rw [Bool.not_eq_true] at hh
      rw [hh] at hc
      exact absurd hc (by decide)
    have h2 := congrArg BitVec.toNat (eq_of_beq this)
    rw [BitVec.toNat_ofNat, BitVec.toNat_ofNat] at h2
    omega

/-- One exponent serves both. -/
theorem bits_pair (A : EReal) : ∃ n < 256, refBits A = BitVec.ofNat 32 n ∧ kerBits A = BitVec.ofNat 32 (n * 2 ^ 23) := by
  obtain ⟨c, h1, h8⟩ := bits_factor
  have hl : ∀ x : Fin 256, ∃ n < 256, (if Scalar.select (IntOp.cmpi CmpIPredicate.eq (BitVec.ofNat 32 x.val) 255#32) (Ideal.ofBits FTy.f32 2139095040#32)
          (Ideal.exp2 (((IntOp.subi (BitVec.ofNat 32 x.val) 130#32).toInt : ℝ) : EReal)) ≤
            A * Ideal.ofBits FTy.f32 991054117#32 then BitVec.ofNat 32 x.val else 0#32) = BitVec.ofNat 32 n ∧
      (if Ideal.ofBits FTy.f32 (IntOp.shli ArithUnit.vector (BitVec.ofNat 32 x.val) 23#32) ≤
            A * Ideal.ofBits FTy.f32 1016219941#32 then IntOp.shli ArithUnit.vector (BitVec.ofNat 32 x.val) 23#32 else 0#32) = BitVec.ofNat 32 (n * 2 ^ 23) := by
    intro x
    obtain ⟨x, hx⟩ := x
    simp only [shli_23]
    rw [cmpi_eq_lit x 255 hx (by norm_num), subi_130 x hx, exp2_int, h1, h8, bits_inf, EReal.coe_mul, ← mul_assoc]
    by_cases h0 : x = 0
    · subst h0; exact ⟨0, by norm_num, by simp, by simp⟩
    have key : (Ideal.ofBits FTy.f32 (BitVec.ofNat 32 (x * 2 ^ 23)) ≤ A * (c : EReal) * ((8 : ℝ) : EReal)) ↔
        ((if x = 255 then (⊤ : EReal) else (((2 : ℝ) ^ ((x : ℤ) - 130) : ℝ) : EReal)) ≤ A * (c : EReal)) := by
      by_cases h255 : x = 255
      · subst h255
        rw [if_pos rfl, show BitVec.ofNat 32 (255 * 2 ^ 23) = 2139095040#32 by decide, bits_inf]
        exact top_le_mul8 _
      · rw [if_neg h255, bits_pow x (by omega) (by omega)]
        have : (2 : ℝ) ^ ((x : ℤ) - 127) = (2 : ℝ) ^ ((x : ℤ) - 130) * 8 := by
          rw [show (x : ℤ) - 127 = ((x : ℤ) - 130) + 3 by ring, zpow_add₀ (by norm_num)]; norm_num
        rw [this]; exact le_mul8 _ _
    simp only [key]
    by_cases h : (if x = 255 then (⊤ : EReal) else (((2 : ℝ) ^ ((x : ℤ) - 130) : ℝ) : EReal)) ≤ A * (c : EReal)
    · simp only [if_pos h]; exact ⟨x, hx, rfl, rfl⟩
    · simp only [if_neg h]; exact ⟨0, by norm_num, rfl, rfl⟩
  rcases fold_pair _ _ hl Finset.univ with h | h
  · exact absurd (Finset.univ_eq_empty_iff.mp h) (by simp)
  · exact h

/-- The exponent of a block, counted from 0. -/
def nn (A : EReal) : ℕ := (refBits A).toNat

theorem nn_spec (A : EReal) : nn A < 256 ∧ refBits A = BitVec.ofNat 32 (nn A) ∧ kerBits A = BitVec.ofNat 32 (nn A * 2 ^ 23) := by
  obtain ⟨n, hn, h1, h2⟩ := bits_pair A
  have : nn A = n := by
    unfold nn; rw [h1, BitVec.toNat_ofNat]; omega
  rw [this]; exact ⟨hn, h1, h2⟩

/-- The scale of exponent `n`. -/
def sc (n : ℕ) : EReal := if n = 0 then 0 else if n = 255 then ⊤ else (((2 : ℝ) ^ ((n : ℤ) - 129) : ℝ) : EReal)
/-- Its reciprocal. -/
def iv (n : ℕ) : EReal := if n = 0 then 0 else if n = 1 then ⊤ else (((2 : ℝ) ^ (-((n : ℤ) - 129)) : ℝ) : EReal)

theorem bits_m (n : ℕ) (h : n < 256) : Ideal.ofBits .f32 (BitVec.ofNat 32 (n * 2 ^ 23)) = ((4 : ℝ) : EReal) * sc n := by
  unfold sc
  by_cases h0 : n = 0
  · subst h0; simp [bits_zero]
  by_cases h1 : n = 255
  · subst h1
    rw [if_neg (by norm_num), if_pos rfl, show BitVec.ofNat 32 (255 * 2 ^ 23) = 2139095040#32 by decide, bits_inf,
      EReal.coe_mul_top_of_pos (by norm_num)]
  rw [if_neg h0, if_neg h1, bits_pow n (by omega) (by omega), ← EReal.coe_mul]
  congr 1
  rw [show (n : ℤ) - 127 = ((n : ℤ) - 129) + 2 by ring, zpow_add₀ (by norm_num)]; norm_num; ring

theorem bits_iv (n : ℕ) (h : n < 256) :
    Ideal.ofBits .f32 (IntOp.subi 2147483648#32 (BitVec.ofNat 32 (n * 2 ^ 23))) = iv n := by
  have e : IntOp.subi 2147483648#32 (BitVec.ofNat 32 (n * 2 ^ 23)) = BitVec.ofNat 32 ((256 - n) * 2 ^ 23) := by
    unfold IntOp.subi
    apply BitVec.eq_of_toNat_eq
    rw [BitVec.toNat_sub, BitVec.toNat_ofNat, BitVec.toNat_ofNat, BitVec.toNat_ofNat]
    omega
  rw [e]; unfold iv
  by_cases h0 : n = 0
  · subst h0; rw [if_pos rfl, show BitVec.ofNat 32 ((256 - 0) * 2 ^ 23) = 2147483648#32 by decide, bits_negzero]
  by_cases h1 : n = 1
  · subst h1
    rw [if_neg h0, if_pos rfl, show BitVec.ofNat 32 ((256 - 1) * 2 ^ 23) = 2139095040#32 by decide, bits_inf]
  rw [if_neg h0, if_neg h1, bits_pow (256 - n) (by omega) (by omega)]
  congr 2
  rw [Nat.cast_sub (by omega)]; push_cast; ring

/-- A number of a block of greatest modulus `A`, quantised. -/
def cod (A v : EReal) : EReal := min (Ideal.ofBits .f32 1138753536#32) (max (Ideal.ofBits .f32 3286237184#32) (v * iv (nn A)))

/-- The recorded scale of a block of greatest modulus `A`. -/
def fin (A : EReal) : EReal :=
  if sc (nn A) < Ideal.ofBits .f32 8388608#32 then Ideal.ofBits .f32 1065353216#32 else sc (nn A)

theorem quarter_four (x : EReal) : ((4 : ℝ) : EReal) * x * ((1 / 4 : ℝ) : EReal) = x := by
  rw [mul_comm, ← mul_assoc, ← EReal.coe_mul]; norm_num

/-- The kernel's recorded scale is the reference's. -/
theorem fin_ker (A : EReal) :
    (if ((4 : ℝ) : EReal) * sc (nn A) < Ideal.ofBits .f32 25165824#32 then Ideal.ofBits .f32 1065353216#32
      else ((4 : ℝ) : EReal) * sc (nn A) * Ideal.ofBits .f32 1048576000#32) = fin A := by
  unfold fin
  rw [bits_quarter, quarter_four, bits_lit 3 25165824#32 (by decide) (by norm_num) (by norm_num),
    bits_lit 1 8388608#32 (by decide) (by norm_num) (by norm_num)]
  have key : (((4 : ℝ) : EReal) * sc (nn A) < (((2 : ℝ) ^ (((3 : ℕ) : ℤ) - 127) : ℝ) : EReal)) ↔
      (sc (nn A) < (((2 : ℝ) ^ (((1 : ℕ) : ℤ) - 127) : ℝ) : EReal)) := by
    have e : (2 : ℝ) ^ (((3 : ℕ) : ℤ) - 127) = 4 * (2 : ℝ) ^ (((1 : ℕ) : ℤ) - 127) := by
      rw [show ((3 : ℕ) : ℤ) - 127 = 2 + (((1 : ℕ) : ℤ) - 127) by norm_num, zpow_add₀ (by norm_num)]; norm_num
    rw [e]
    generalize (2 : ℝ) ^ (((1 : ℕ) : ℤ) - 127) = q
    generalize sc (nn A) = x
    induction x with
    | bot => rw [EReal.coe_mul_bot_of_pos (by norm_num)]; simp [-EReal.coe_mul, EReal.bot_lt_coe]
    | top => rw [EReal.coe_mul_top_of_pos (by norm_num)]; simp
    | coe r => rw [← EReal.coe_mul, EReal.coe_lt_coe_iff, EReal.coe_lt_coe_iff]; constructor <;> intro h <;> linarith
  simp only [key]

/-- The reference's scale, as printed. -/
theorem sc_ref (n : ℕ) (h : n < 256) :
    Scalar.select (IntOp.cmpi CmpIPredicate.eq (BitVec.ofNat 32 n) 0#32) (Ideal.ofBits .f32 0#32)
      (Scalar.select (IntOp.cmpi CmpIPredicate.eq (BitVec.ofNat 32 n) 255#32) (Ideal.ofBits .f32 2139095040#32)
        (Ideal.exp2 (((IntOp.subi (BitVec.ofNat 32 n) 129#32).toInt : ℝ) : EReal))) = sc n := by
  rw [show (0#32) = BitVec.ofNat 32 0 from rfl, cmpi_eq_lit n 0 h (by norm_num), show (255#32) = BitVec.ofNat 32 255 from rfl,
    cmpi_eq_lit n 255 h (by norm_num), subi_129 n h, exp2_int, bits_inf]
  unfold sc; rw [show BitVec.ofNat 32 0 = 0#32 from rfl, bits_zero]

end Cert.Val
-- ==== Proof.Spec.lean ====
module

public import proofs.«01_k».proof.Proof.Scalar

@[expose] public section

set_option maxRecDepth 16384

noncomputable section

open Idealize.ShloMosaic Idealize.ShloMosaic.TcCoe Idealize.SL.Sem
open scoped BigOperators

/-! What one row of the problem comes to: the norm, the block quantiser, the projections and their quantiser, as
functions of the row `x`, the gain `g`, the weights `w` and their scales `s`. -/

namespace Cert.Val

/-- The greatest modulus of a block. -/
def amax (v : Fin 128 → EReal) : EReal :=
  Finset.fold max (Ideal.ofBits .f32 4286578688#32) (fun q => FloatOps.absf (F := Ideal) (φ := .f32) (v q)) Finset.univ

/-- The reciprocal of the row's root mean square. -/
def rinv (x : Fin 4096 → EReal) : EReal :=
  Ideal.rsqrt ((∑ i, x i * x i) * Ideal.ofBits .f32 964689920#32 + Ideal.ofBits .f32 897988541#32)

/-- The normalised row. -/
def hh (x g : Fin 4096 → EReal) (i : Fin 4096) : EReal := x i * rinv x * g i

/-- Position `q` of block `b`. -/
def at128 {n : ℕ} (b : Fin n) (q : Fin 128) (h : n * 128 ≤ 4096 := by norm_num) : Fin 4096 :=
  ⟨b.val * 128 + q.val, by have := b.isLt; have := q.isLt; omega⟩

/-- The greatest modulus of block `b` of the normalised row. -/
def bmax (x g : Fin 4096 → EReal) (b : Fin 32) : EReal := amax fun q => hh x g ⟨b.val * 128 + q.val, by omega⟩

/-- The code at block `b`, position `q`. -/
def xcode (x g : Fin 4096 → EReal) (b : Fin 32) (q : Fin 128) : EReal :=
  cod (bmax x g b) (hh x g ⟨b.val * 128 + q.val, by omega⟩)

/-- The scale of block `b`. -/
def xsc (x g : Fin 4096 → EReal) (b : Fin 32) : EReal := sc (nn (bmax x g b))

/-- The recorded scale of block `b`. -/
def xfin (x g : Fin 4096 → EReal) (b : Fin 32) : EReal := fin (bmax x g b)

/-- The row after quantising. -/
def xdeq (x g : Fin 4096 → EReal) (i : Fin 4096) : EReal :=
  xcode x g ⟨i.val / 128, by omega⟩ ⟨i.val % 128, by omega⟩ * xsc x g ⟨i.val / 128, by omega⟩

/-- Column `j` of the projections. -/
def proj (x g : Fin 4096 → EReal) (w : Fin 4096 → Fin 1536 → EReal) (s : Fin 1536 → EReal) (j : Fin 1536) : EReal :=
  (∑ i, xdeq x g i * w i j) * s j

/-- The greatest modulus of head `h`. -/
def pmax (x g : Fin 4096 → EReal) (w : Fin 4096 → Fin 1536 → EReal) (s : Fin 1536 → EReal) (h : Fin 12) : EReal :=
  amax fun q => proj x g w s ⟨h.val * 128 + q.val, by omega⟩

/-- The code of head `h`, position `q`. -/
def pcode (x g : Fin 4096 → EReal) (w : Fin 4096 → Fin 1536 → EReal) (s : Fin 1536 → EReal) (h : Fin 12) (q : Fin 128) : EReal :=
  cod (pmax x g w s h) (proj x g w s ⟨h.val * 128 + q.val, by omega⟩)

/-- The recorded scale of head `h`. -/
def pfin (x g : Fin 4096 → EReal) (w : Fin 4096 → Fin 1536 → EReal) (s : Fin 1536 → EReal) (h : Fin 12) : EReal :=
  fin (pmax x g w s h)

/-- The codes of the input, as an array. -/
def resXc (X : Fin 4096 → Fin 4096 → EReal) (g : Fin 4096 → EReal) : (⟨2, ![4096, 4096]⟩ : Shape).Idx → EReal := fun j =>
  xcode (X (j 0)) g ⟨(show Fin 4096 from j 1).val / 128, by omega⟩ ⟨(show Fin 4096 from j 1).val % 128, by omega⟩
/-- The recorded scales of the input, as an array. -/
def resXs (X : Fin 4096 → Fin 4096 → EReal) (g : Fin 4096 → EReal) : (⟨2, ![32, 4096]⟩ : Shape).Idx → EReal := fun j =>
  xfin (X (j 1)) g (j 0)
/-- The codes of projection `o`, as an array. -/
def resC (o : Fin 3) (X : Fin 4096 → Fin 4096 → EReal) (g : Fin 4096 → EReal) (w : Fin 4096 → Fin 1536 → EReal)
    (s : Fin 1536 → EReal) : (⟨3, ![4096, 4, 128]⟩ : Shape).Idx → EReal := fun j =>
  pcode (X (j 0)) g w s ⟨4 * o.val + (show Fin 4 from j 1).val, by omega⟩ (j 2)
/-- The recorded scales of projection `o`, as an array. -/
def resS (o : Fin 3) (X : Fin 4096 → Fin 4096 → EReal) (g : Fin 4096 → EReal) (w : Fin 4096 → Fin 1536 → EReal)
    (s : Fin 1536 → EReal) : (⟨2, ![4, 4096]⟩ : Shape).Idx → EReal := fun j =>
  pfin (X (j 1)) g w s ⟨4 * o.val + (show Fin 4 from j 0).val, by omega⟩

/-- A nonnegative real factor goes into a finite sum. -/
theorem mul_sum_real {ι : Type} (s : Finset ι) (f : ι → EReal) (c : ℝ) (hc : 0 ≤ c) :
    ∑ i ∈ s, ((c : EReal) * f i) = (c : EReal) * ∑ i ∈ s, f i := by
  classical
  induction s using Finset.induction_on with
  | empty => simp
  | insert a s ha ih =>
    rw [Finset.sum_insert ha, Finset.sum_insert ha, ih,
      EReal.left_distrib_of_nonneg_of_ne_top (by exact_mod_cast hc) (EReal.coe_ne_top c)]

/-- The kernel keeps four times the scale in the row and a quarter of the factor. -/
theorem proj_ker (x g : Fin 4096 → EReal) (w : Fin 4096 → Fin 1536 → EReal) (s : Fin 1536 → EReal) (j : Fin 1536)
    (y : Fin 4096 → EReal) (hy : ∀ i, y i = ((4 : ℝ) : EReal) * xdeq x g i) :
    (∑ i, y i * w i j) * (s j * Ideal.ofBits .f32 1048576000#32) = proj x g w s j := by
  have : ∀ i, y i * w i j = ((4 : ℝ) : EReal) * (xdeq x g i * w i j) := fun i => by rw [hy, mul_assoc]
  simp only [this]
  rw [mul_sum_real _ _ 4 (by norm_num), bits_quarter]
  unfold proj
  generalize (∑ i, xdeq x g i * w i j) = a
  rw [mul_comm (s j), ← mul_assoc, mul_comm _ a, mul_assoc a, ← EReal.coe_mul]
  norm_num

end Cert.Val
-- ==== Proof.KerQuant.lean ====
module

public import proofs.«01_k».proof.Proof.Gen.KernelIdeal.Skeleton
public import proofs.«01_k».proof.Proof.Spec

@[expose] public section

/-! The kernel's quantiser of one chunk of rows and one block of columns, over the extended reals: the code, the
dequantised value, and the record of the scales. Its three copies in the body are the same functions. -/

set_option maxRecDepth 16384

noncomputable section

open Idealize.ShloMosaic Idealize.ShloMosaic.TcCoe Idealize.SL.Sem
open scoped BigOperators

namespace Cert.KernelIdeal.Gen

open Cert.Val

/-- The normalised element. -/
theorem pay11_at (x : Vec Ideal S32x128 .bf16) (r : Vec Ideal S32x128 .f32) (g : Vec Ideal S1x128 .f32) (p : Fin 32) (q : Fin 128) :
    k0_pay11 x r g (ix2 p q) = x (ix2 p q) * r (ix2 p q) * g (ix2 0 q) := by
  pointwise [k0_pay11]

/-- The exponent bits of a row's block. -/
theorem pay12_at (x : Vec Ideal S32x128 .bf16) (r : Vec Ideal S32x128 .f32) (g : Vec Ideal S1x128 .f32) (p : Fin 32) :
    k0_pay12 x r g (ix2 p 0) = kerBits (amax fun q => x (ix2 p q) * r (ix2 p q) * g (ix2 0 q)) := by
  pointwise [k0_pay12, k0_pay11]
  rfl

section
variable (x : Vec Ideal S32x128 .bf16) (r : Vec Ideal S32x128 .f32) (g : Vec Ideal S1x128 .f32)
  (v : Fin 32 → Fin 128 → EReal) (hv : ∀ p q, x (ix2 p q) * r (ix2 p q) * g (ix2 0 q) = v p q)
include hv

/-- The exponent bits, named. -/
theorem pay12_v (p : Fin 32) : k0_pay12 x r g (ix2 p 0) = kerBits (amax (v p)) := by
  rw [pay12_at]; exact congrArg (fun f => kerBits (amax f)) (funext fun q => hv p q)

/-- Four times the scale. -/
theorem pay13_v (p : Fin 32) : k0_pay13 x r g (ix2 p 0) = ((4 : ℝ) : EReal) * sc (nn (amax (v p))) := by
  have h : k0_pay13 x r g (ix2 p 0) = Ideal.ofBits .f32 (k0_pay12 x r g (ix2 p 0)) := by
    unfold k0_pay13; generalize k0_pay12 x r g = y; rfl
  obtain ⟨h1, h2, h3⟩ := nn_spec (amax (v p))
  rw [h, pay12_v x r g v hv, h3, bits_m _ h1]

/-- The element divided by the scale. -/
theorem pay14_v (p : Fin 32) (q : Fin 128) : k0_pay14 x r g (ix2 p q) = v p q * iv (nn (amax (v p))) := by
  have h : k0_pay14 x r g (ix2 p q) = k0_pay11 x r g (ix2 p q) * Ideal.ofBits .f32 (IntOp.subi 2147483648#32 (k0_pay12 x r g (ix2 p 0))) := by
    unfold k0_pay14; generalize k0_pay12 x r g = y; generalize k0_pay11 x r g = z
    pointwise []
  obtain ⟨h1, h2, h3⟩ := nn_spec (amax (v p))
  rw [h, pay12_v x r g v hv, h3, bits_iv _ h1, pay11_at, hv]

/-- The code. -/
theorem pay35_v (p : Fin 32) (q : Fin 128) :
    k0_pay35 (k0_pay14 x r g) (Ideal.ofBits .f32 3286237184#32) (Ideal.ofBits .f32 1138753536#32) (ix2 p q) = cod (amax (v p)) (v p q) := by
  have h : ∀ z : FVec Ideal S32x128 .f32, k0_pay35 z (Ideal.ofBits .f32 3286237184#32) (Ideal.ofBits .f32 1138753536#32) (ix2 p q)
      = min (Ideal.ofBits .f32 1138753536#32) (max (Ideal.ofBits .f32 3286237184#32) (z (ix2 p q))) := fun z => by
    pointwise [k0_pay35]
  rw [h, pay14_v x r g v hv]; rfl

/-- Four times the dequantised element. -/
theorem pay36_v (p : Fin 32) (q : Fin 128) :
    k0_pay36 (k0_pay13 x r g) (k0_pay14 x r g) (Ideal.ofBits .f32 3286237184#32) (Ideal.ofBits .f32 1138753536#32) (ix3 0 p q)
      = ((4 : ℝ) : EReal) * (cod (amax (v p)) (v p q) * sc (nn (amax (v p)))) := by
  have h : ∀ (m : FVec Ideal S32x1 .f32) (z : FVec Ideal S32x128 .f32),
      k0_pay36 m z (Ideal.ofBits .f32 3286237184#32) (Ideal.ofBits .f32 1138753536#32) (ix3 0 p q)
      = k0_pay35 z (Ideal.ofBits .f32 3286237184#32) (Ideal.ofBits .f32 1138753536#32) (ix2 p q) * m (ix2 p 0) := fun m z => by
    unfold k0_pay36; generalize k0_pay35 z _ _ = y
    pointwise []
  rw [h, pay35_v x r g v hv, pay13_v x r g v hv, mul_left_comm]
end

/-- The record of the scales takes one lane. -/
theorem pay37_at (acc : FVec Ideal S32x128 .f32) (k : ℕ) (hk : k < 32) (m : FVec Ideal S32x1 .f32) (p : Fin 32) (l : Fin 128) :
    k0_pay37 (iota .tc S32x128 32 [1] iota_S32x128_d1_w32) acc (BitVec.ofNat 32 k) m (ix2 p l)
      = if l.val = k then m (ix2 p 0) else acc (ix2 p l) := by
  pointwise [k0_pay37]
  have := cmpi_eq_lit l.val k (by have := l.isLt; omega) (by omega) (m (ix2 p 0)) (acc (ix2 p l))
  exact this

/-- The record as it is given out. -/
theorem pay38_at (v12 : IVec S32x128 32) (acc : FVec Ideal S32x128 .f32) (b : BitVec 32) (m : FVec Ideal S32x1 .f32) (j : S32x128.Idx) :
    k0_pay38 v12 acc b m j
      = if k0_pay37 v12 acc b m j < Ideal.ofBits .f32 25165824#32 then Ideal.ofBits .f32 1065353216#32
        else k0_pay37 v12 acc b m j * Ideal.ofBits .f32 1048576000#32 := by
  obtain ⟨p, l, rfl⟩ : ∃ (p : Fin 32) (l : Fin 128), j = ix2 p l := ⟨j 0, j 1, by funext a; fin_cases a <;> rfl⟩
  unfold k0_pay38; generalize k0_pay37 v12 acc b m = y
  pointwise []

theorem pay15_eq : @k0_pay15 Ideal _ = k0_pay11 := rfl
theorem pay16_eq : @k0_pay16 Ideal _ = k0_pay12 := rfl
theorem pay17_eq : @k0_pay17 Ideal _ = k0_pay13 := rfl
theorem pay18_eq : @k0_pay18 Ideal _ = k0_pay14 := rfl
theorem pay196_eq : @k0_pay196 Ideal _ = k0_pay35 := rfl
theorem pay197_eq (z : FVec Ideal S32x128 .f32) (c d : Ideal .f32) : k0_pay197 z c d = k0_pay35 z c d := by
  unfold k0_pay197; rw [shapeCast_self]; rfl
theorem pay198_eq : @k0_pay198 Ideal _ = k0_pay36 := rfl
theorem pay199_eq : @k0_pay199 Ideal = k0_pay37 := rfl
theorem pay200_eq : @k0_pay200 Ideal _ = k0_pay38 := rfl
theorem pay352_eq : @k0_pay352 Ideal _ = k0_pay11 := rfl
theorem pay353_eq : @k0_pay353 Ideal _ = k0_pay12 := rfl
theorem pay354_eq : @k0_pay354 Ideal _ = k0_pay13 := rfl
theorem pay355_eq : @k0_pay355 Ideal _ = k0_pay14 := rfl
theorem pay6_eq : @k0_pay6 Ideal _ = k0_pay35 := rfl
theorem pay7_eq (z : FVec Ideal S32x128 .f32) (c d : Ideal .f32) : k0_pay7 z c d = k0_pay35 z c d := by
  unfold k0_pay7; rw [shapeCast_self]; rfl
theorem pay8_eq : @k0_pay8 Ideal _ = k0_pay36 := rfl
theorem pay9_eq : @k0_pay9 Ideal = k0_pay37 := rfl
theorem pay10_eq : @k0_pay10 Ideal _ = k0_pay38 := rfl

end Cert.KernelIdeal.Gen
-- ==== Proof.LoopRead.lean ====
module

public import proofs.«01_k».proof.Proof.KerQuant
public import Idealize.ShloMosaic.Lib.Pipeline.CanonAppend

@[expose] public section

/-! What the normalise-and-quantise loop leaves: a trip handles one chunk of 32 rows and one block of 128 columns, and
writes the codes, the dequantised block, and the chunk's record of the scales so far. -/

set_option maxRecDepth 16384

noncomputable section

open Idealize.ShloMosaic Idealize.ShloMosaic.TcCoe Idealize.SL.Sem
open scoped BigOperators

namespace Cert.KernelIdeal.Gen

open Cert.Val

section
variable {S : Shape} {e : EltTy} {N : ℕ} (L : ℕ → List (View.Piece (Elt Ideal) S e)) (P : Fin N → View.Piece (Elt Ideal) S e)
  (h0 : L 0 = []) (hs : ∀ k : Fin N, L (k.val + 1) = P k :: L k.val) (T : List (View.Piece (Elt Ideal) S e))
include h0 hs

/-- An element last written at trip `k0` holds what that trip wrote. -/
theorem canon_latest (y : S.Idx) (v : Elt Ideal e) (k0 : Fin N) (x : (P k0).1.shape.Idx) (hx : (P k0).1.emb x = y) (hv : (P k0).2 x = v)
    (hl : ∀ k : Fin N, k0 < k → y ∉ (P k).1.set) : View.canon (L N ++ T) y = v := by
  have : ∀ n ≤ N, k0.val < n → View.canon (L n ++ T) y = v := by
    intro n
    induction n with
    | zero => intro _ h; omega
    | succ n ih =>
      intro hn hk
      rw [hs ⟨n, hn⟩, List.cons_append]
      by_cases h : k0.val = n
      · obtain rfl : k0 = ⟨n, hn⟩ := Fin.ext h
        rw [← hx]
        exact (View.canon_cons_emb _ _ _ x).trans hv
      · rw [View.canon_cons_of_not_mem _ _ (hl ⟨n, hn⟩ (show k0.val < n by omega))]
        exact ih (by omega) (by omega)
  exact this N le_rfl k0.isLt

/-- An element no trip writes holds what was there before. -/
theorem canon_missed (y : S.Idx) (hl : ∀ k : Fin N, y ∉ (P k).1.set) : View.canon (L N ++ T) y = View.canon T y := by
  have : ∀ n ≤ N, View.canon (L n ++ T) y = View.canon T y := by
    intro n
    induction n with
    | zero => intro _; rw [h0]; rfl
    | succ n ih =>
      intro hn
      rw [hs ⟨n, hn⟩, List.cons_append, View.canon_cons_of_not_mem _ _ (hl ⟨n, hn⟩)]
      exact ih (by omega)
  exact this N le_rfl
end

/-- A rectangle's element by its coordinates, in two dimensions. -/
theorem emb2 {M N a b : ℕ} {off : Fin 2 → ℕ} (o1 o2 : ℕ) (h : off = ![o1, o2]) (inb) (p : Fin a) (q : Fin b) (r : Fin M) (i : Fin N)
    (h1 : r.val = o1 + p.val) (h2 : i.val = o2 + q.val) :
    (Rect.unit (s := ⟨2, ![M, N]⟩) off ![a, b] inb).emb (ix2 p q) = ix2 r i := by
  subst h
  funext t; apply Fin.ext; fin_cases t
  · show o1 + 1 * p.val = r.val; omega
  · show o2 + 1 * q.val = i.val; omega

/-- A rectangle's element by its coordinates, in three dimensions. -/
theorem emb3 {M N K a b c : ℕ} {off : Fin 3 → ℕ} (o1 o2 o3 : ℕ) (h : off = ![o1, o2, o3]) (inb) (p : Fin a) (q : Fin b) (u : Fin c)
    (r : Fin M) (i : Fin N) (j : Fin K) (h1 : r.val = o1 + p.val) (h2 : i.val = o2 + q.val) (h3 : j.val = o3 + u.val) :
    (Rect.unit (s := ⟨3, ![M, N, K]⟩) off ![a, b, c] inb).emb (ix3 p q u) = ix3 r i j := by
  subst h
  funext t; apply Fin.ext; fin_cases t
  · show o1 + 1 * p.val = r.val; omega
  · show o2 + 1 * q.val = i.val; omega
  · show o3 + 1 * u.val = j.val; omega

/-- An element outside a rectangle of two dimensions. -/
theorem nmem2 {M N a b : ℕ} {off : Fin 2 → ℕ} (o1 o2 : ℕ) (h : off = ![o1, o2]) (inb) (r : Fin M) (i : Fin N)
    (hn : ¬ ((o1 ≤ r.val ∧ r.val < o1 + a) ∧ (o2 ≤ i.val ∧ i.val < o2 + b))) :
    ix2 r i ∉ (Rect.unit (s := ⟨2, ![M, N]⟩) off ![a, b] inb).set := by
  subst h
  rw [Rect.mem_set_unit]
  intro hc
  exact hn ⟨hc 0, hc 1⟩

/-- An element outside a rectangle of three dimensions. -/
theorem nmem3 {M N K a b c : ℕ} {off : Fin 3 → ℕ} (o1 o2 o3 : ℕ) (h : off = ![o1, o2, o3]) (inb) (r : Fin M) (i : Fin N) (j : Fin K)
    (hn : ¬ ((o1 ≤ r.val ∧ r.val < o1 + a) ∧ (o2 ≤ i.val ∧ i.val < o2 + b) ∧ (o3 ≤ j.val ∧ j.val < o3 + c))) :
    ix3 r i j ∉ (Rect.unit (s := ⟨3, ![M, N, K]⟩) off ![a, b, c] inb).set := by
  subst h
  rw [Rect.mem_set_unit]
  intro hc
  exact hn ⟨hc 0, hc 1, hc 2⟩

theorem row_lt {N : ℕ} (hN : N = 256) (k : Fin N) (p : Fin 32) : 32 * (k.val / 32) + p.val < 256 := by
  have := k.isLt; have := p.isLt; omega
theorem col_lt {N : ℕ} (k : Fin N) (q : Fin 128) : k.val % 32 * 128 + q.val < 4096 := by
  have := q.isLt; omega
theorem div_lt (i : Fin 4096) : i.val / 128 < 32 := by
  have := i.isLt; omega
theorem mod_lt (i : Fin 4096) : i.val % 128 < 128 := by
  omega

section
variable {N : ℕ} (hN : N = 256) (X : Fin 256 → Fin 4096 → EReal) (G : Fin 4096 → EReal)
  (xk : Fin N → Vec Ideal S32x128 .bf16) (rk : Fin N → Vec Ideal S32x128 .f32) (gk : Fin N → Vec Ideal S1x128 .f32)
  (hv : ∀ (k : Fin N) (p : Fin 32) (q : Fin 128), xk k (ix2 p q) * rk k (ix2 p q) * gk k (ix2 0 q)
    = hh (X ⟨32 * (k.val / 32) + p.val, row_lt hN k p⟩) G ⟨k.val % 32 * 128 + q.val, col_lt k q⟩)
include hv

/-- The code a trip writes. -/
theorem trip_code (k : Fin N) (p : Fin 32) (q : Fin 128) (r : Fin 256) (b : Fin 32) (hr : r.val = 32 * (k.val / 32) + p.val) (hb : b.val = k.val % 32) :
    k0_pay35 (k0_pay14 (xk k) (rk k) (gk k)) (Ideal.ofBits .f32 3286237184#32) (Ideal.ofBits .f32 1138753536#32) (ix2 p q)
      = xcode (X r) G b q := by
  rw [pay35_v (xk k) (rk k) (gk k) _ (hv k)]
  have e1 : r = (⟨32 * (k.val / 32) + p.val, by rw [← hr]; exact r.isLt⟩ : Fin 256) := Fin.ext hr
  have e2 : b = (⟨k.val % 32, Nat.mod_lt _ (by norm_num)⟩ : Fin 32) := Fin.ext hb
  rw [e1, e2]
  rfl

/-- The dequantised block a trip writes. -/
theorem trip_deq (k : Fin N) (p : Fin 32) (q : Fin 128) (r : Fin 256) (b : Fin 32) (hr : r.val = 32 * (k.val / 32) + p.val) (hb : b.val = k.val % 32) :
    k0_pay36 (k0_pay13 (xk k) (rk k) (gk k)) (k0_pay14 (xk k) (rk k) (gk k)) (Ideal.ofBits .f32 3286237184#32) (Ideal.ofBits .f32 1138753536#32) (ix3 0 p q)
      = ((4 : ℝ) : EReal) * (xcode (X r) G b q * xsc (X r) G b) := by
  rw [pay36_v (xk k) (rk k) (gk k) _ (hv k)]
  have e1 : r = (⟨32 * (k.val / 32) + p.val, by rw [← hr]; exact r.isLt⟩ : Fin 256) := Fin.ext hr
  have e2 : b = (⟨k.val % 32, Nat.mod_lt _ (by norm_num)⟩ : Fin 32) := Fin.ext hb
  rw [e1, e2]
  rfl

/-- The scale a trip records. -/
theorem trip_sc (k : Fin N) (p : Fin 32) (r : Fin 256) (b : Fin 32) (hr : r.val = 32 * (k.val / 32) + p.val) (hb : b.val = k.val % 32) :
    k0_pay13 (xk k) (rk k) (gk k) (ix2 p 0) = ((4 : ℝ) : EReal) * xsc (X r) G b := by
  rw [pay13_v (xk k) (rk k) (gk k) _ (hv k)]
  have e1 : r = (⟨32 * (k.val / 32) + p.val, by rw [← hr]; exact r.isLt⟩ : Fin 256) := Fin.ext hr
  have e2 : b = (⟨k.val % 32, Nat.mod_lt _ (by norm_num)⟩ : Fin 32) := Fin.ext hb
  rw [e1, e2]
  rfl

include hN

/-- The codes after the loop, at row offset `o` of their array. -/
theorem codes_at {M : ℕ} (o : ℕ) (L : ℕ → List (View.Piece (Elt Ideal) ⟨2, ![M, 4096]⟩ .fp8e4m3)) (h0 : L 0 = [])
    (off : Fin N → Fin 2 → ℕ) (hoff : ∀ k, off k = ![32 * (k.val / 32) + o, 128 * (k.val % 32)]) (inb : ∀ k a, off k a + (![32, 128] : Fin 2 → ℕ) a ≤ (⟨2, ![M, 4096]⟩ : Shape).size a)
    (hs : ∀ k : Fin N, L (k.val + 1) = (⟨Rect.unit (off k) ![32, 128] (inb k),
      k0_pay35 (k0_pay14 (xk k) (rk k) (gk k)) (Ideal.ofBits .f32 3286237184#32) (Ideal.ofBits .f32 1138753536#32)⟩ : View.Piece (Elt Ideal) ⟨2, ![M, 4096]⟩ .fp8e4m3) :: L k.val)
    (T) (r : Fin 256) (i : Fin 4096) (r' : Fin M) (hr : r'.val = r.val + o) :
    View.canon (L N ++ T) (ix2 r' i) = xcode (X r) G ⟨i.val / 128, div_lt i⟩ ⟨i.val % 128, mod_lt i⟩ := by
  have hN' := hN
  subst hN
  have := r.isLt; have := i.isLt
  refine canon_latest L _ h0 hs T _ _ ⟨32 * (r.val / 32) + i.val / 128, by omega⟩
    (ix2 (⟨r.val % 32, by omega⟩ : Fin 32) (⟨i.val % 128, by omega⟩ : Fin 128)) ?_ ?_ ?_
  · exact emb2 _ _ (hoff _) (inb _) _ _ _ _ (by show r'.val = 32 * ((32 * (r.val / 32) + i.val / 128) / 32) + o + r.val % 32; omega)
      (by show i.val = 128 * ((32 * (r.val / 32) + i.val / 128) % 32) + i.val % 128; omega)
  · exact trip_code hN' X G xk rk gk hv _ _ _ _ _ (by show r.val = 32 * ((32 * (r.val / 32) + i.val / 128) / 32) + r.val % 32; omega)
      (by show i.val / 128 = (32 * (r.val / 32) + i.val / 128) % 32; omega)
  · intro k hk
    have hk' : 32 * (r.val / 32) + i.val / 128 < k.val := hk
    refine nmem2 _ _ (hoff k) (inb k) _ _ ?_
    omega

/-- The codes' loop leaves the rows before its offset. -/
theorem codes_before {M : ℕ} (o : ℕ) (L : ℕ → List (View.Piece (Elt Ideal) ⟨2, ![M, 4096]⟩ .fp8e4m3)) (h0 : L 0 = [])
    (off : Fin N → Fin 2 → ℕ) (hoff : ∀ k, off k = ![32 * (k.val / 32) + o, 128 * (k.val % 32)]) (inb : ∀ k a, off k a + (![32, 128] : Fin 2 → ℕ) a ≤ (⟨2, ![M, 4096]⟩ : Shape).size a)
    (hs : ∀ k : Fin N, L (k.val + 1) = (⟨Rect.unit (off k) ![32, 128] (inb k),
      k0_pay35 (k0_pay14 (xk k) (rk k) (gk k)) (Ideal.ofBits .f32 3286237184#32) (Ideal.ofBits .f32 1138753536#32)⟩ : View.Piece (Elt Ideal) ⟨2, ![M, 4096]⟩ .fp8e4m3) :: L k.val)
    (T) (i : Fin 4096) (r' : Fin M) (hr : r'.val < o) :
    View.canon (L N ++ T) (ix2 r' i) = View.canon T (ix2 r' i) := by
  refine canon_missed L _ h0 hs T _ fun k => nmem2 _ _ (hoff k) (inb k) _ _ ?_
  omega

/-- The dequantised blocks after the loop. -/
theorem deq_at (L : ℕ → List (View.Piece (Elt Ideal) ⟨3, ![32, 256, 128]⟩ .bf16)) (h0 : L 0 = [])
    (off : Fin N → Fin 3 → ℕ) (hoff : ∀ k, off k = ![k.val % 32, 32 * (k.val / 32), 0]) (inb : ∀ k a, off k a + (![1, 32, 128] : Fin 3 → ℕ) a ≤ (⟨3, ![32, 256, 128]⟩ : Shape).size a)
    (hs : ∀ k : Fin N, L (k.val + 1) = (⟨Rect.unit (off k) ![1, 32, 128] (inb k),
      k0_pay36 (k0_pay13 (xk k) (rk k) (gk k)) (k0_pay14 (xk k) (rk k) (gk k)) (Ideal.ofBits .f32 3286237184#32) (Ideal.ofBits .f32 1138753536#32)⟩ : View.Piece (Elt Ideal) ⟨3, ![32, 256, 128]⟩ .bf16) :: L k.val)
    (T) (b : Fin 32) (r : Fin 256) (q : Fin 128) :
    View.canon (L N ++ T) (ix3 b r q) = ((4 : ℝ) : EReal) * (xcode (X r) G b q * xsc (X r) G b) := by
  have hN' := hN
  subst hN
  have := r.isLt; have := b.isLt
  refine canon_latest L _ h0 hs T _ _ ⟨32 * (r.val / 32) + b.val, by omega⟩
    (ix3 (0 : Fin 1) (⟨r.val % 32, by omega⟩ : Fin 32) q) ?_ ?_ ?_
  · exact emb3 _ _ _ (hoff _) (inb _) _ _ _ _ _ _ (by show b.val = (32 * (r.val / 32) + b.val) % 32 + 0; omega)
      (by show r.val = 32 * ((32 * (r.val / 32) + b.val) / 32) + r.val % 32; omega) (by omega)
  · exact trip_deq hN' X G xk rk gk hv _ _ _ _ _ (by show r.val = 32 * ((32 * (r.val / 32) + b.val) / 32) + r.val % 32; omega)
      (by show b.val = (32 * (r.val / 32) + b.val) % 32; omega)
  · intro k hk
    have hk' : 32 * (r.val / 32) + b.val < k.val := hk
    refine nmem3 _ _ _ (hoff k) (inb k) _ _ _ ?_
    omega

/-- The record of the scales carried by the loop. -/
theorem acc_at (acc : ℕ → FVec Ideal S32x128 .f32)
    (hs : ∀ k : Fin N, acc (k.val + 1) = k0_pay37 (iota .tc S32x128 32 [1] iota_S32x128_d1_w32) (acc k.val) (BitVec.ofNat 32 (k.val % 32)) (k0_pay13 (xk k) (rk k) (gk k)))
    (n : ℕ) (hn : n ≤ 256) (r : Fin 256) (l : Fin 128) (b : Fin 32) (hb : l.val = b.val) (p : Fin 32) (hp : r.val % 32 = p.val)
    (h1 : 32 * (r.val / 32) + l.val < n) (h2 : n ≤ 32 * (r.val / 32) + 32) :
    acc n (ix2 p l) = ((4 : ℝ) : EReal) * xsc (X r) G b := by
  have hN' := hN
  subst hN
  have := r.isLt; have := l.isLt; have := b.isLt; have := p.isLt
  induction n with
  | zero => omega
  | succ n ih =>
    rw [hs ⟨n, hn⟩, pay37_at _ _ (Nat.mod_lt _ (by norm_num))]
    by_cases h : l.val = n % 32
    · rw [if_pos h]
      exact trip_sc hN' X G xk rk gk hv _ _ _ _ (by show r.val = 32 * (n / 32) + p.val; omega) (by show b.val = n % 32; omega)
    · rw [if_neg h]
      exact ih (by omega) (by omega) (by omega)

/-- The recorded scales after the loop. -/
theorem scales_at (L : ℕ → List (View.Piece (Elt Ideal) ⟨2, ![256, 128]⟩ .f32)) (h0 : L 0 = [])
    (acc : ℕ → FVec Ideal S32x128 .f32)
    (hacc : ∀ k : Fin N, acc (k.val + 1) = k0_pay37 (iota .tc S32x128 32 [1] iota_S32x128_d1_w32) (acc k.val) (BitVec.ofNat 32 (k.val % 32)) (k0_pay13 (xk k) (rk k) (gk k)))
    (off : Fin N → Fin 2 → ℕ) (hoff : ∀ k, off k = ![32 * (k.val / 32), 0]) (inb : ∀ k a, off k a + (![32, 128] : Fin 2 → ℕ) a ≤ (⟨2, ![256, 128]⟩ : Shape).size a)
    (hs : ∀ k : Fin N, L (k.val + 1) = (⟨Rect.unit (off k) ![32, 128] (inb k),
      k0_pay38 (iota .tc S32x128 32 [1] iota_S32x128_d1_w32) (acc k.val) (BitVec.ofNat 32 (k.val % 32)) (k0_pay13 (xk k) (rk k) (gk k))⟩ : View.Piece (Elt Ideal) ⟨2, ![256, 128]⟩ .f32) :: L k.val)
    (T) (r : Fin 256) (l : Fin 128) (b : Fin 32) (hb : l.val = b.val) :
    View.canon (L N ++ T) (ix2 r l) = xfin (X r) G b := by
  have hN' := hN
  subst hN
  have := r.isLt; have := l.isLt; have := b.isLt
  refine canon_latest L _ h0 hs T _ _ ⟨32 * (r.val / 32) + 31, by omega⟩
    (ix2 (⟨r.val % 32, by omega⟩ : Fin 32) l) ?_ ?_ ?_
  · exact emb2 _ _ (hoff _) (inb _) _ _ _ _ (by show r.val = 32 * ((32 * (r.val / 32) + 31) / 32) + r.val % 32; omega) (by omega)
  · show k0_pay38 _ _ _ _ (ix2 _ l) = _
    rw [pay38_at, ← hacc, acc_at hN' X G xk rk gk hv acc hacc _ (by show 32 * (r.val / 32) + 31 + 1 ≤ 256; omega) r l b hb _ rfl
      (by show 32 * (r.val / 32) + l.val < 32 * (r.val / 32) + 31 + 1; omega) (by show 32 * (r.val / 32) + 31 + 1 ≤ _; omega)]
    exact fin_ker _
  · intro k hk
    have hk' : 32 * (r.val / 32) + 31 < k.val := hk
    refine nmem2 _ _ (hoff k) (inb k) _ _ ?_
    omega
end

end Cert.KernelIdeal.Gen
-- ==== Proof.Stats.lean ====
module

public import proofs.«01_k».proof.Proof.KerQuant
public import Idealize.ShloMosaic.Lib.KernelVsHost.SublaneAllReduce

@[expose] public section

/-! The kernel's row statistics: squares summed block by block, the 128 lanes summed by slices of eight and three
rotations, then the reciprocal square root. -/

set_option maxRecDepth 16384

noncomputable section

open Idealize.ShloMosaic Idealize.ShloMosaic.TcCoe Idealize.SL.Sem
open scoped BigOperators

namespace Cert.KernelIdeal.Gen

open Cert.Val Idealize.ShloMosaic.SublaneAllReduce

/-- The sixteen slices of eight, summed. -/
def s16 (v : FVec Ideal S128x128 .f32) : FVec Ideal S8x128 .f32 := fun j =>
  ∑ m : Fin 16, v (ix2 (j 1 : Fin 128) (⟨8 * m.val + (show Fin 8 from j 0).val, by have := m.isLt; have := (show Fin 8 from j 0).isLt; omega⟩ : Fin 128))

/-- The slices the kernel adds. -/
def s16k (v : FVec Ideal S128x128 .f32) : FVec Ideal S8x128 .f32 :=
  have v13 : FVec Ideal S128x128 .f32 := transpose S128x128 [1, 0] v transposes_S128x128_p1_0_S128x128
  (addf (addf (addf (addf (addf (addf (addf (addf (addf (addf (addf (addf (addf (addf (addf (extractStridedSlice S8x128 ![0, 0] v13 slices_S128x128_o0_0_S8x128)
    (extractStridedSlice S8x128 ![8, 0] v13 slices_S128x128_o8_0_S8x128))
    (extractStridedSlice S8x128 ![16, 0] v13 slices_S128x128_o16_0_S8x128))
    (extractStridedSlice S8x128 ![24, 0] v13 slices_S128x128_o24_0_S8x128))
    (extractStridedSlice S8x128 ![32, 0] v13 slices_S128x128_o32_0_S8x128))
    (extractStridedSlice S8x128 ![40, 0] v13 slices_S128x128_o40_0_S8x128))
    (extractStridedSlice S8x128 ![48, 0] v13 slices_S128x128_o48_0_S8x128))
    (extractStridedSlice S8x128 ![56, 0] v13 slices_S128x128_o56_0_S8x128))
    (extractStridedSlice S8x128 ![64, 0] v13 slices_S128x128_o64_0_S8x128))
    (extractStridedSlice S8x128 ![72, 0] v13 slices_S128x128_o72_0_S8x128))
    (extractStridedSlice S8x128 ![80, 0] v13 slices_S128x128_o80_0_S8x128))
    (extractStridedSlice S8x128 ![88, 0] v13 slices_S128x128_o88_0_S8x128))
    (extractStridedSlice S8x128 ![96, 0] v13 slices_S128x128_o96_0_S8x128))
    (extractStridedSlice S8x128 ![104, 0] v13 slices_S128x128_o104_0_S8x128))
    (extractStridedSlice S8x128 ![112, 0] v13 slices_S128x128_o112_0_S8x128))
    (extractStridedSlice S8x128 ![120, 0] v13 slices_S128x128_o120_0_S8x128))

theorem s16k_eq (v : FVec Ideal S128x128 .f32) : s16k v = s16 v := by
  funext j
  obtain ⟨s, p, rfl⟩ : ∃ (s : Fin 8) (p : Fin 128), j = ix2 s p := ⟨j 0, j 1, by funext a; fin_cases a <;> rfl⟩
  unfold s16
  simp only [Fin.sum_univ_castSucc, Fin.sum_univ_zero, zero_add]
  have h : ∀ (z : FVec Ideal S128x128 .f32), transpose S128x128 [1, 0] z transposes_S128x128_p1_0_S128x128 = fun j => z (ix2 (j 1 : Fin 128) (j 0 : Fin 128)) := fun z => by
    funext j
    obtain ⟨a, b, rfl⟩ : ∃ (a : Fin 128) (b : Fin 128), j = ix2 a b := ⟨j 0, j 1, by funext a; fin_cases a <;> rfl⟩
    pointwise []
  have hsl : ∀ (o : ℕ) (ho : o + 8 ≤ 128) (hh) , extractStridedSlice S8x128 ![o, 0] (fun j : S128x128.Idx => v (ix2 (j 1 : Fin 128) (j 0 : Fin 128))) hh (ix2 s p)
      = v (ix2 p (⟨o + s.val, by omega⟩ : Fin 128)) := fun o ho hh => by
    unfold extractStridedSlice
    refine congrArg v ?_
    funext a; apply Fin.ext; fin_cases a
    · show 0 + p.val = p.val; omega
    · rfl
  have hadd : ∀ a b : FVec Ideal S8x128 .f32, addf a b (ix2 s p) = a (ix2 s p) + b (ix2 s p) := fun _ _ => rfl
  unfold s16k
  rw [h]
  simp only [hadd]
  rw [hsl 0 (by norm_num), hsl 8 (by norm_num), hsl 16 (by norm_num), hsl 24 (by norm_num), hsl 32 (by norm_num), hsl 40 (by norm_num), hsl 48 (by norm_num), hsl 56 (by norm_num), hsl 64 (by norm_num), hsl 72 (by norm_num), hsl 80 (by norm_num), hsl 88 (by norm_num), hsl 96 (by norm_num), hsl 104 (by norm_num), hsl 112 (by norm_num), hsl 120 (by norm_num)]
  rfl

/-- The sum of a row's 128 lanes. -/
theorem lanes (f : Fin 128 → EReal) :
    combine8 (fun a b : EReal => a + b) (fun k : Fin 8 => ∑ m : Fin 16, f ⟨8 * m.val + k.val, by omega⟩) = ∑ q, f q := by
  have h := fold_univ_fin8 (fun a b : EReal => a + b) 0 (fun k : Fin 8 => ∑ m : Fin 16, f ⟨8 * m.val + k.val, by omega⟩)
  rw [zero_add] at h
  rw [← h]
  rw [← Equiv.sum_comp (finProdFinEquiv (m := 16) (n := 8)) (fun q : Fin 128 => f q), Fintype.sum_prod_type, Finset.sum_comm]
  rw [← Finset.sum_eq_fold]
  refine Finset.sum_congr rfl fun k _ => Finset.sum_congr rfl fun m _ => ?_
  congr 1
  apply Fin.ext
  simp [finProdFinEquiv]
  omega

/-- The mean square and the small constant, the same in each of the eight rows. -/
theorem pay358_at (v : FVec Ideal S128x128 .f32) (s : Fin 8) (p : Fin 128) :
    k0_pay358 v (ix2 s p) = (∑ q : Fin 128, v (ix2 p q)) * Ideal.ofBits .f32 964689920#32 + Ideal.ofBits .f32 897988541#32 := by
  have h := sublaneAllReduce_apply (n := 128) (fun a b : EReal => a + b) rotates_S8x128_d0 (s16k v) s p
  have e : k0_pay358 v (ix2 s p) = combine8 (fun a b : EReal => a + b) (fun k => s16k v (ix2 k p)) * Ideal.ofBits .f32 964689920#32 + Ideal.ofBits .f32 897988541#32 := by
    refine Eq.trans ?_ (congrArg (fun t => t * Ideal.ofBits .f32 964689920#32 + Ideal.ofBits .f32 897988541#32) h)
    rfl
  rw [e, s16k_eq]
  exact congrArg (fun t => t * Ideal.ofBits .f32 964689920#32 + Ideal.ofBits .f32 897988541#32) (lanes fun q => v (ix2 p q))

/-- The reciprocal square root, repeated over the lanes. -/
theorem pay359_at (y : FVec Ideal S8x128 .f32) (c : Fin 128 → EReal) (hy : ∀ s p, y (ix2 s p) = c p) (p l : Fin 128) :
    k0_pay359 y (ix2 p l) = Ideal.rsqrt (c p) := by
  have h1 : ∀ z : FVec Ideal S128x128 .f32, shapeCast S128x128 (transpose S128x128 [1, 0] z transposes_S128x128_p1_0_S128x128) shapeCasts_S128x128_S128x128 (ix2 p l) = z (ix2 l p) := fun z => by
    pointwise []
  unfold k0_pay359
  refine (h1 _).trans ?_
  refine (concatenate_replicate_apply (t := S128x128) (s₁ := S8x128) (0 : Fin 2) 16 (rsqrt y) _ rfl (ix2 l p) (ix2 (⟨l.val % 8, by omega⟩ : Fin 8) p) rfl ?_).trans ?_
  · intro b hb; fin_cases b
    · exact absurd rfl hb
    · rfl
  · exact congrArg Ideal.rsqrt (hy _ _)

/-- The squares of a row, block by block. -/
theorem acc_sq {N : ℕ} (hN : N = 31) (Y : Fin 128 → Fin 4096 → EReal) (acc : ℕ → FVec Ideal S128x128 .f32)
    (x0 : Vec Ideal S128x128 .bf16) (xk : Fin N → Vec Ideal S128x128 .bf16) (h0 : acc 0 = k0_pay356 x0)
    (hs : ∀ k : Fin N, acc (k.val + 1) = k0_pay357 (acc k.val) (xk k))
    (hx0 : ∀ p q : Fin 128, x0 (ix2 p q) = Y p ⟨q.val, by omega⟩)
    (hxk : ∀ (k : Fin N) (p q : Fin 128), xk k (ix2 p q) = Y p ⟨128 * k.val + 128 + q.val, by omega⟩) (p q : Fin 128) :
    acc N (ix2 p q) = ∑ b : Fin 32, Y p ⟨b.val * 128 + q.val, by omega⟩ * Y p ⟨b.val * 128 + q.val, by omega⟩ := by
  have hb : ∀ y : Vec Ideal S128x128 .bf16, k0_pay356 y (ix2 p q) = y (ix2 p q) * y (ix2 p q) := fun y => by pointwise [k0_pay356]
  have ha : ∀ (a : FVec Ideal S128x128 .f32) (y : Vec Ideal S128x128 .bf16), k0_pay357 a y (ix2 p q) = a (ix2 p q) + y (ix2 p q) * y (ix2 p q) := fun a y => by
    pointwise [k0_pay357]
  have main : ∀ n (hn : n ≤ 31), acc n (ix2 p q) = ∑ b : Fin (n + 1), Y p ⟨b.val * 128 + q.val, by omega⟩ * Y p ⟨b.val * 128 + q.val, by omega⟩ := by
    intro n
    induction n with
    | zero => intro _; rw [h0, hb, hx0]; simp
    | succ n ih =>
      intro hn
      rw [hs ⟨n, by omega⟩, ha, ih (by omega), hxk, Fin.sum_univ_castSucc (n := n + 1)]
      congr 1
      have e : (⟨128 * n + 128 + q.val, by omega⟩ : Fin 4096) = ⟨(Fin.last (n + 1)).val * 128 + q.val, by simp; omega⟩ := Fin.ext (by simp; omega)
      rw [e]
  rw [hN]
  exact main 31 le_rfl

/-- The reciprocal of the row's root mean square. -/
theorem stats_at {N : ℕ} (hN : N = 31) (Y : Fin 128 → Fin 4096 → EReal) (acc : ℕ → FVec Ideal S128x128 .f32)
    (x0 : Vec Ideal S128x128 .bf16) (xk : Fin N → Vec Ideal S128x128 .bf16) (h0 : acc 0 = k0_pay356 x0)
    (hs : ∀ k : Fin N, acc (k.val + 1) = k0_pay357 (acc k.val) (xk k))
    (hx0 : ∀ p q : Fin 128, x0 (ix2 p q) = Y p ⟨q.val, by omega⟩)
    (hxk : ∀ (k : Fin N) (p q : Fin 128), xk k (ix2 p q) = Y p ⟨128 * k.val + 128 + q.val, by omega⟩) (p l : Fin 128) :
    k0_pay359 (k0_pay358 (acc N)) (ix2 p l) = rinv (Y p) := by
  rw [pay359_at _ _ (fun s p => pay358_at (acc N) s p)]
  unfold rinv
  have : (∑ q : Fin 128, acc N (ix2 p q)) = ∑ i, Y p i * Y p i := by
    simp only [acc_sq hN Y acc x0 xk h0 hs hx0 hxk]
    rw [Finset.sum_comm, ← Equiv.sum_comp (finProdFinEquiv (m := 32) (n := 128)) (fun i : Fin 4096 => Y p i * Y p i), Fintype.sum_prod_type]
    refine Finset.sum_congr rfl fun b _ => Finset.sum_congr rfl fun q _ => ?_
    have e : (⟨b.val * 128 + q.val, by omega⟩ : Fin 4096) = finProdFinEquiv (m := 32) (n := 128) (b, q) := Fin.ext (by simp [finProdFinEquiv]; omega)
    rw [e]
  rw [this]

theorem pay25_eq (v : FVec Ideal S128x128 .f32) : k0_pay25 (k0_pay23 v) (k0_pay24 v) = k0_pay359 (k0_pay358 v) := rfl
theorem pay31_eq (v : FVec Ideal S128x128 .f32) : k0_pay31 (k0_pay28 v) (k0_pay29 v) (k0_pay30 v) = k0_pay359 (k0_pay358 v) := rfl
theorem pay187_eq (v : FVec Ideal S128x128 .f32) : k0_pay187 (k0_pay185 v) (k0_pay186 v) = k0_pay359 (k0_pay358 v) := rfl
theorem pay192_eq (v : FVec Ideal S128x128 .f32) : k0_pay192 (k0_pay190 v) (k0_pay191 v) = k0_pay359 (k0_pay358 v) := rfl
theorem pay2_eq (v : FVec Ideal S128x128 .f32) : k0_pay2 (k0_pay362 v) 1#32 = k0_pay359 (k0_pay358 v) := rfl
theorem pay20_eq : @k0_pay20 Ideal _ = k0_pay356 := rfl
theorem pay26_eq : @k0_pay26 Ideal _ = k0_pay356 := rfl
theorem pay183_eq : @k0_pay183 Ideal _ = k0_pay356 := rfl
theorem pay188_eq : @k0_pay188 Ideal _ = k0_pay356 := rfl
theorem pay360_eq : @k0_pay360 Ideal _ = k0_pay356 := rfl
theorem pay21_eq : @k0_pay21 Ideal _ = k0_pay357 := rfl
theorem pay27_eq : @k0_pay27 Ideal _ = k0_pay357 := rfl
theorem pay184_eq : @k0_pay184 Ideal _ = k0_pay357 := rfl
theorem pay189_eq : @k0_pay189 Ideal _ = k0_pay357 := rfl
theorem pay361_eq : @k0_pay361 Ideal _ = k0_pay357 := rfl

end Cert.KernelIdeal.Gen
-- ==== Proof.TripRead.lean ====
module

public import proofs.«01_k».proof.Proof.Gen.KernelIdeal.Loops
public import proofs.«01_k».proof.Proof.LoopRead
public import proofs.«01_k».proof.Proof.Stats

@[expose] public section

/-! The kernel's loops: what the statistics' loops sum, and what the three normalise-and-quantise loops leave. -/

set_option maxRecDepth 16384

noncomputable section

open Idealize.ShloMosaic Idealize.ShloMosaic.TcCoe Idealize.SL.Sem
open scoped BigOperators

namespace Cert.KernelIdeal.Gen

open Cert.Val

/-- A load of a rectangle of two dimensions, read at its coordinates. -/
theorem rd2 {e : EltTy} {M N a b : ℕ} (arg : Memref sig .tc .vmem ⟨2, ![M, N]⟩ e) (X : BufTy.Contents (Elt Ideal) arg.view.ty)
    {off : Fin 2 → ℕ} (o1 o2 : ℕ) (hoff : off = ![o1, o2]) (inb) (p : Fin a) (q : Fin b) (r : Fin M) (i : Fin N)
    (h1 : r.val = o1 + p.val) (h2 : i.val = o2 + q.val) :
    arg.view.readAt (Elt Ideal) (Rect.unit (s := ⟨2, ![M, N]⟩) off ![a, b] inb).toLoadRect X (ix2 p q) = arg.view.read (Elt Ideal) X (ix2 r i) := by
  rw [View.readAt_eq_ld]
  exact congrArg (arg.view.read (Elt Ideal) X) (emb2 o1 o2 hoff inb p q r i h1 h2)

/-- A loop's counter modulo the number of blocks. -/
theorem remsi_iv : ∀ k : Fin 256, Scalar.remsi (Scf.iv 0#32 1#32 k.val) 32#32 = BitVec.ofNat 32 (k.val % 32) := by decide +kernel

section
variable (c : Dev nD) (i : grid0.Coords) (arg1 : Memref sig .tc .vmem S256x4096 .bf16) (harg1 : arg1.IsWhole) (arg2 : Memref sig .tc .vmem S256x4096 .bf16) (harg2 : arg2.IsWhole) (arg3 : Memref sig .tc .vmem S1x4096 .f32) (harg3 : arg3.IsWhole) (arg4 : Memref sig .tc .vmem S4096x1536 .fp8e4m3) (harg4 : arg4.IsWhole) (arg5 : Memref sig .tc .vmem S1x1536 .f32) (harg5 : arg5.IsWhole) (arg6 : Memref sig .tc .vmem S512x4x128 .fp8e4m3) (harg6 : arg6.IsWhole) (arg7 : Memref sig .tc .vmem S4x512 .f32) (harg7 : arg7.IsWhole) (arg8 : Memref sig .tc .vmem S512x4x128 .fp8e4m3) (harg8 : arg8.IsWhole) (arg9 : Memref sig .tc .vmem S4x512 .f32) (harg9 : arg9.IsWhole) (arg10 : Memref sig .tc .vmem S512x4x128 .fp8e4m3) (harg10 : arg10.IsWhole) (arg11 : Memref sig .tc .vmem S4x512 .f32) (harg11 : arg11.IsWhole) (arg12 : Memref sig .tc .vmem S512x4096 .fp8e4m3) (harg12 : arg12.IsWhole) (arg13 : Memref sig .tc .vmem S32x512 .f32) (harg13 : arg13.IsWhole) (arg14 : Memref sig .tc .vmem S32x256x128 .bf16) (harg14 : arg14.IsWhole) (arg15 : Memref sig .tc .vmem S32x256x128 .bf16) (harg15 : arg15.IsWhole) (arg16 : Memref sig .tc .vmem S256x4096 .fp8e4m3) (harg16 : arg16.IsWhole) (arg17 : Memref sig .tc .vmem S256x128 .f32) (harg17 : arg17.IsWhole) (arg18 : Memref sig .tc .vmem S256x128 .f32) (harg18 : arg18.IsWhole) (arg19 : Memref sig .tc .vmem S256x128 .f32) (harg19 : arg19.IsWhole)

/-- The statistics of rows 0 to 127. -/
theorem stats_t1 (k0_h1 : k0_cond1 i = 1#1) (x : Vec Ideal S256x4096 .bf16) (inb) (p l : Fin 128) :
    k0_pay359 (k0_pay358 (st_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_h1 (harg1.unread x) (k0_pay20 (arg1.view.readAt (Elt Ideal) (Rect.unit (s := S256x4096) ![0, 0] S128x128.size inb).toLoadRect (harg1.unread x))) k0_t1_loop.trips)) (ix2 p l)
      = rinv (fun j => x (ix2 (⟨0 + p.val, by omega⟩ : Fin 256) j)) := by
  refine stats_at (N := k0_t1_loop.trips) (by decide) (fun (p : Fin 128) j => x (ix2 (⟨0 + p.val, by omega⟩ : Fin 256) j))
    (fun n => st_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_h1 (harg1.unread x) (k0_pay20 (arg1.view.readAt (Elt Ideal) (Rect.unit (s := S256x4096) ![0, 0] S128x128.size inb).toLoadRect (harg1.unread x))) n)
    (arg1.view.readAt (Elt Ideal) (Rect.unit (s := S256x4096) ![0, 0] S128x128.size inb).toLoadRect (harg1.unread x))
    (fun k => arg1.view.readAt (Elt Ideal) (Rect.unit (s := S256x4096) (k0_off1 k) S128x128.size (k0_off1_inb i k k0_h1)).toLoadRect (harg1.unread x)) ?_ ?_ ?_ ?_ p l
  · exact (st_k0_t1_zero (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_h1 _ _)
  · intro k
    refine (st_k0_t1_succ (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_h1 _ _ k).trans ?_
    show (trip_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_h1 _ k).1 _ = _
    unfold trip_k0_t1
    rfl
  · intro p q
    refine (rd2 arg1 _ 0 0 rfl _ p q (⟨0 + p.val, by omega⟩ : Fin 256) ⟨q.val, by omega⟩ rfl (by show q.val = 0 + q.val; omega)).trans ?_
    rw [harg1.read_unread]
  · intro k p q
    have hk : k.val < 31 := Nat.lt_of_lt_of_eq k.isLt (by decide)
    refine (rd2 arg1 _ 0 (128 * k.val + 128) (k0_off1_eq k) _ p q (⟨0 + p.val, by omega⟩ : Fin 256) ⟨128 * k.val + 128 + q.val, by omega⟩ rfl rfl).trans ?_
    rw [harg1.read_unread]

/-- The statistics of rows 128 to 255. -/
theorem stats_t2 (k0_h1 : k0_cond1 i = 1#1) (v48 : FVec Ideal S8x128 .f32) (v49 : FVec Ideal S8x128 .f32) (x : Vec Ideal S256x4096 .bf16) (inb) (p l : Fin 128) :
    k0_pay359 (k0_pay358 (st_k0_t2 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_h1 v48 v49 (harg1.unread x) (k0_pay26 (arg1.view.readAt (Elt Ideal) (Rect.unit (s := S256x4096) ![128, 0] S128x128.size inb).toLoadRect (harg1.unread x))) k0_t2_loop.trips)) (ix2 p l)
      = rinv (fun j => x (ix2 (⟨128 + p.val, by omega⟩ : Fin 256) j)) := by
  refine stats_at (N := k0_t2_loop.trips) (by decide) (fun (p : Fin 128) j => x (ix2 (⟨128 + p.val, by omega⟩ : Fin 256) j))
    (fun n => st_k0_t2 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_h1 v48 v49 (harg1.unread x) (k0_pay26 (arg1.view.readAt (Elt Ideal) (Rect.unit (s := S256x4096) ![128, 0] S128x128.size inb).toLoadRect (harg1.unread x))) n)
    (arg1.view.readAt (Elt Ideal) (Rect.unit (s := S256x4096) ![128, 0] S128x128.size inb).toLoadRect (harg1.unread x))
    (fun k => arg1.view.readAt (Elt Ideal) (Rect.unit (s := S256x4096) (k0_off2 k) S128x128.size (k0_off2_inb i k k0_h1)).toLoadRect (harg1.unread x)) ?_ ?_ ?_ ?_ p l
  · exact (st_k0_t2_zero (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_h1 v48 v49 _ _)
  · intro k
    refine (st_k0_t2_succ (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_h1 v48 v49 _ _ k).trans ?_
    show (trip_k0_t2 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_h1 v48 v49 _ k).1 _ = _
    unfold trip_k0_t2
    rfl
  · intro p q
    refine (rd2 arg1 _ 128 0 rfl _ p q (⟨128 + p.val, by omega⟩ : Fin 256) ⟨q.val, by omega⟩ rfl (by show q.val = 0 + q.val; omega)).trans ?_
    rw [harg1.read_unread]
  · intro k p q
    have hk : k.val < 31 := Nat.lt_of_lt_of_eq k.isLt (by decide)
    refine (rd2 arg1 _ 128 (128 * k.val + 128) (k0_off2_eq k) _ p q (⟨128 + p.val, by omega⟩ : Fin 256) ⟨128 * k.val + 128 + q.val, by omega⟩ rfl rfl).trans ?_
    rw [harg1.read_unread]

/-- The statistics of rows 0 to 127. -/
theorem stats_t4 (k0_h1 : k0_cond1 i = 1#1) (v815 : FVec Ideal S128x256 .f32) (v816 : FVec Ideal S4x256 .f32) (x : Vec Ideal S256x4096 .bf16) (inb) (p l : Fin 128) :
    k0_pay359 (k0_pay358 (st_k0_t4 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_h1 v815 v816 (harg2.unread x) (k0_pay183 (arg2.view.readAt (Elt Ideal) (Rect.unit (s := S256x4096) ![0, 0] S128x128.size inb).toLoadRect (harg2.unread x))) k0_t4_loop.trips)) (ix2 p l)
      = rinv (fun j => x (ix2 (⟨0 + p.val, by omega⟩ : Fin 256) j)) := by
  refine stats_at (N := k0_t4_loop.trips) (by decide) (fun (p : Fin 128) j => x (ix2 (⟨0 + p.val, by omega⟩ : Fin 256) j))
    (fun n => st_k0_t4 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_h1 v815 v816 (harg2.unread x) (k0_pay183 (arg2.view.readAt (Elt Ideal) (Rect.unit (s := S256x4096) ![0, 0] S128x128.size inb).toLoadRect (harg2.unread x))) n)
    (arg2.view.readAt (Elt Ideal) (Rect.unit (s := S256x4096) ![0, 0] S128x128.size inb).toLoadRect (harg2.unread x))
    (fun k => arg2.view.readAt (Elt Ideal) (Rect.unit (s := S256x4096) (k0_off8 k) S128x128.size (k0_off8_inb i k k0_h1)).toLoadRect (harg2.unread x)) ?_ ?_ ?_ ?_ p l
  · exact (st_k0_t4_zero (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_h1 v815 v816 _ _)
  · intro k
    refine (st_k0_t4_succ (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_h1 v815 v816 _ _ k).trans ?_
    show (trip_k0_t4 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_h1 v815 v816 _ k).1 _ = _
    unfold trip_k0_t4
    rfl
  · intro p q
    refine (rd2 arg2 _ 0 0 rfl _ p q (⟨0 + p.val, by omega⟩ : Fin 256) ⟨q.val, by omega⟩ rfl (by show q.val = 0 + q.val; omega)).trans ?_
    rw [harg2.read_unread]
  · intro k p q
    have hk : k.val < 31 := Nat.lt_of_lt_of_eq k.isLt (by decide)
    refine (rd2 arg2 _ 0 (128 * k.val + 128) (k0_off8_eq k) _ p q (⟨0 + p.val, by omega⟩ : Fin 256) ⟨128 * k.val + 128 + q.val, by omega⟩ rfl rfl).trans ?_
    rw [harg2.read_unread]

/-- The statistics of rows 128 to 255. -/
theorem stats_t5 (k0_h1 : k0_cond1 i = 1#1) (v833 : FVec Ideal S128x128 .f32) (v856 : FVec Ideal S8x128 .f32) (x : Vec Ideal S256x4096 .bf16) (inb) (p l : Fin 128) :
    k0_pay359 (k0_pay358 (st_k0_t5 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_h1 v833 v856 (harg2.unread x) (k0_pay188 (arg2.view.readAt (Elt Ideal) (Rect.unit (s := S256x4096) ![128, 0] S128x128.size inb).toLoadRect (harg2.unread x))) k0_t5_loop.trips)) (ix2 p l)
      = rinv (fun j => x (ix2 (⟨128 + p.val, by omega⟩ : Fin 256) j)) := by
  refine stats_at (N := k0_t5_loop.trips) (by decide) (fun (p : Fin 128) j => x (ix2 (⟨128 + p.val, by omega⟩ : Fin 256) j))
    (fun n => st_k0_t5 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_h1 v833 v856 (harg2.unread x) (k0_pay188 (arg2.view.readAt (Elt Ideal) (Rect.unit (s := S256x4096) ![128, 0] S128x128.size inb).toLoadRect (harg2.unread x))) n)
    (arg2.view.readAt (Elt Ideal) (Rect.unit (s := S256x4096) ![128, 0] S128x128.size inb).toLoadRect (harg2.unread x))
    (fun k => arg2.view.readAt (Elt Ideal) (Rect.unit (s := S256x4096) (k0_off9 k) S128x128.size (k0_off9_inb i k k0_h1)).toLoadRect (harg2.unread x)) ?_ ?_ ?_ ?_ p l
  · exact (st_k0_t5_zero (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_h1 v833 v856 _ _)
  · intro k
    refine (st_k0_t5_succ (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_h1 v833 v856 _ _ k).trans ?_
    show (trip_k0_t5 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_h1 v833 v856 _ k).1 _ = _
    unfold trip_k0_t5
    rfl
  · intro p q
    refine (rd2 arg2 _ 128 0 rfl _ p q (⟨128 + p.val, by omega⟩ : Fin 256) ⟨q.val, by omega⟩ rfl (by show q.val = 0 + q.val; omega)).trans ?_
    rw [harg2.read_unread]
  · intro k p q
    have hk : k.val < 31 := Nat.lt_of_lt_of_eq k.isLt (by decide)
    refine (rd2 arg2 _ 128 (128 * k.val + 128) (k0_off9_eq k) _ p q (⟨128 + p.val, by omega⟩ : Fin 256) ⟨128 * k.val + 128 + q.val, by omega⟩ rfl rfl).trans ?_
    rw [harg2.read_unread]

/-- The statistics of rows 0 to 127. -/
theorem stats_t7 (k0_h2 : k0_cond2 i = 1#1) (x : Vec Ideal S256x4096 .bf16) (inb) (p l : Fin 128) :
    k0_pay359 (k0_pay358 (st_k0_t7 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_h2 (harg2.unread x) (k0_pay356 (arg2.view.readAt (Elt Ideal) (Rect.unit (s := S256x4096) ![0, 0] S128x128.size inb).toLoadRect (harg2.unread x))) k0_t7_loop.trips)) (ix2 p l)
      = rinv (fun j => x (ix2 (⟨0 + p.val, by omega⟩ : Fin 256) j)) := by
  refine stats_at (N := k0_t7_loop.trips) (by decide) (fun (p : Fin 128) j => x (ix2 (⟨0 + p.val, by omega⟩ : Fin 256) j))
    (fun n => st_k0_t7 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_h2 (harg2.unread x) (k0_pay356 (arg2.view.readAt (Elt Ideal) (Rect.unit (s := S256x4096) ![0, 0] S128x128.size inb).toLoadRect (harg2.unread x))) n)
    (arg2.view.readAt (Elt Ideal) (Rect.unit (s := S256x4096) ![0, 0] S128x128.size inb).toLoadRect (harg2.unread x))
    (fun k => arg2.view.readAt (Elt Ideal) (Rect.unit (s := S256x4096) (k0_off15 k) S128x128.size (k0_off15_inb i k k0_h2)).toLoadRect (harg2.unread x)) ?_ ?_ ?_ ?_ p l
  · exact (st_k0_t7_zero (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_h2 _ _)
  · intro k
    refine (st_k0_t7_succ (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_h2 _ _ k).trans ?_
    show (trip_k0_t7 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_h2 _ k).1 _ = _
    unfold trip_k0_t7
    rfl
  · intro p q
    refine (rd2 arg2 _ 0 0 rfl _ p q (⟨0 + p.val, by omega⟩ : Fin 256) ⟨q.val, by omega⟩ rfl (by show q.val = 0 + q.val; omega)).trans ?_
    rw [harg2.read_unread]
  · intro k p q
    have hk : k.val < 31 := Nat.lt_of_lt_of_eq k.isLt (by decide)
    refine (rd2 arg2 _ 0 (128 * k.val + 128) (k0_off15_eq k) _ p q (⟨0 + p.val, by omega⟩ : Fin 256) ⟨128 * k.val + 128 + q.val, by omega⟩ rfl rfl).trans ?_
    rw [harg2.read_unread]

/-- The statistics of rows 128 to 255. -/
theorem stats_t8 (k0_h2 : k0_cond2 i = 1#1) (v54 : FVec Ideal S8x128 .f32) (x : Vec Ideal S256x4096 .bf16) (inb) (p l : Fin 128) :
    k0_pay359 (k0_pay358 (st_k0_t8 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_h2 v54 (harg2.unread x) (k0_pay360 (arg2.view.readAt (Elt Ideal) (Rect.unit (s := S256x4096) ![128, 0] S128x128.size inb).toLoadRect (harg2.unread x))) k0_t8_loop.trips)) (ix2 p l)
      = rinv (fun j => x (ix2 (⟨128 + p.val, by omega⟩ : Fin 256) j)) := by
  refine stats_at (N := k0_t8_loop.trips) (by decide) (fun (p : Fin 128) j => x (ix2 (⟨128 + p.val, by omega⟩ : Fin 256) j))
    (fun n => st_k0_t8 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_h2 v54 (harg2.unread x) (k0_pay360 (arg2.view.readAt (Elt Ideal) (Rect.unit (s := S256x4096) ![128, 0] S128x128.size inb).toLoadRect (harg2.unread x))) n)
    (arg2.view.readAt (Elt Ideal) (Rect.unit (s := S256x4096) ![128, 0] S128x128.size inb).toLoadRect (harg2.unread x))
    (fun k => arg2.view.readAt (Elt Ideal) (Rect.unit (s := S256x4096) (k0_off16 k) S128x128.size (k0_off16_inb i k k0_h2)).toLoadRect (harg2.unread x)) ?_ ?_ ?_ ?_ p l
  · exact (st_k0_t8_zero (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_h2 v54 _ _)
  · intro k
    refine (st_k0_t8_succ (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_h2 v54 _ _ k).trans ?_
    show (trip_k0_t8 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_h2 v54 _ k).1 _ = _
    unfold trip_k0_t8
    rfl
  · intro p q
    refine (rd2 arg2 _ 128 0 rfl _ p q (⟨128 + p.val, by omega⟩ : Fin 256) ⟨q.val, by omega⟩ rfl (by show q.val = 0 + q.val; omega)).trans ?_
    rw [harg2.read_unread]
  · intro k p q
    have hk : k.val < 31 := Nat.lt_of_lt_of_eq k.isLt (by decide)
    refine (rd2 arg2 _ 128 (128 * k.val + 128) (k0_off16_eq k) _ p q (⟨128 + p.val, by omega⟩ : Fin 256) ⟨128 * k.val + 128 + q.val, by omega⟩ rfl rfl).trans ?_
    rw [harg2.read_unread]

/-- The factors a trip multiplies. -/
theorem hv_t3 (k0_h1 : k0_cond1 i = 1#1) (x : Vec Ideal S256x4096 .bf16) (g : Vec Ideal S1x4096 .f32) (X19 : BufTy.Contents (Elt Ideal) arg19.view.ty)
    (hR : ∀ (r : Fin 256) (l : Fin 128), arg19.view.read (Elt Ideal) X19 (ix2 r l) = rinv (fun j => x (ix2 r j)))
    (k : Fin k0_t3_loop.trips) (p : Fin 32) (q : Fin 128) :
    (fun k : Fin k0_t3_loop.trips => arg1.view.readAt (Elt Ideal) (Rect.unit (s := S256x4096) (k0_off3 k) S32x128.size (k0_off3_inb i k k0_h1)).toLoadRect (harg1.unread x)) k (ix2 p q) * (fun k : Fin k0_t3_loop.trips => arg19.view.readAt (Elt Ideal) (Rect.unit (s := S256x128) (k0_off4 k) S32x128.size (k0_off4_inb i k k0_h1)).toLoadRect X19) k (ix2 p q) * (fun k : Fin k0_t3_loop.trips => arg3.view.readAt (Elt Ideal) (Rect.unit (s := S1x4096) (k0_off5 k) S1x128.size (k0_off5_inb i k k0_h1)).toLoadRect (harg3.unread g)) k (ix2 0 q)
    = hh ((fun (r : Fin 256) j => x (ix2 r j)) ⟨32 * (k.val / 32) + p.val, by have hk : k.val < 256 := Nat.lt_of_lt_of_eq k.isLt (by decide); have := p.isLt; omega⟩) (fun j : Fin 4096 => g (ix2 (0 : Fin 1) j)) ⟨k.val % 32 * 128 + q.val, by have := q.isLt; omega⟩ := by
  have hk : k.val < 256 := Nat.lt_of_lt_of_eq k.isLt (by decide)
  have e1 := rd2 arg1 (harg1.unread x) _ _ (k0_off3_eq k) (k0_off3_inb i k k0_h1) p q (⟨32 * (k.val / 32) + p.val, by omega⟩ : Fin 256) (⟨k.val % 32 * 128 + q.val, by omega⟩ : Fin 4096) rfl (by show k.val % 32 * 128 + q.val = 128 * (k.val % 32) + q.val; omega)
  have e2 := rd2 arg19 X19 _ _ (k0_off4_eq k) (k0_off4_inb i k k0_h1) p q (⟨32 * (k.val / 32) + p.val, by omega⟩ : Fin 256) q rfl (by omega)
  have e3 := rd2 arg3 (harg3.unread g) _ _ (k0_off5_eq k) (k0_off5_inb i k k0_h1) (0 : Fin 1) q (0 : Fin 1) (⟨k.val % 32 * 128 + q.val, by omega⟩ : Fin 4096) rfl (by show k.val % 32 * 128 + q.val = 128 * (k.val % 32) + q.val; omega)
  rw [harg1.read_unread] at e1
  rw [hR] at e2
  rw [harg3.read_unread] at e3
  exact congrArg₂ (· * ·) (congrArg₂ (· * ·) e1 e2) e3

/-- The record of the scales after one more trip. -/
theorem succR_t3 (k0_h1 : k0_cond1 i = 1#1) (v73 : FVec Ideal S128x128 .f32) (v94 : FVec Ideal S8x128 .f32) (v95 : FVec Ideal S8x128 .f32) (x : Vec Ideal S256x4096 .bf16) (g : Vec Ideal S1x4096 .f32)
    (X19 : BufTy.Contents (Elt Ideal) arg19.view.ty) (init : FVec Ideal S32x128 .f32) (k : Fin k0_t3_loop.trips) :
    (st_k0_t3 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_h1 (iota .tc S32x128 32 [1] iota_S32x128_d1_w32) v73 v94 v95 (harg1.unread x) (harg3.unread g) X19 init (k.val + 1)).1 = k0_pay37 (iota .tc S32x128 32 [1] iota_S32x128_d1_w32) (st_k0_t3 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_h1 (iota .tc S32x128 32 [1] iota_S32x128_d1_w32) v73 v94 v95 (harg1.unread x) (harg3.unread g) X19 init k.val).1 (BitVec.ofNat 32 (k.val % 32)) (k0_pay13 ((fun k : Fin k0_t3_loop.trips => arg1.view.readAt (Elt Ideal) (Rect.unit (s := S256x4096) (k0_off3 k) S32x128.size (k0_off3_inb i k k0_h1)).toLoadRect (harg1.unread x)) k) ((fun k : Fin k0_t3_loop.trips => arg19.view.readAt (Elt Ideal) (Rect.unit (s := S256x128) (k0_off4 k) S32x128.size (k0_off4_inb i k k0_h1)).toLoadRect X19) k) ((fun k : Fin k0_t3_loop.trips => arg3.view.readAt (Elt Ideal) (Rect.unit (s := S1x4096) (k0_off5 k) S1x128.size (k0_off5_inb i k k0_h1)).toLoadRect (harg3.unread g)) k)) := by
  rw [st_k0_t3_succ, ← remsi_iv k]
  show (trip_k0_t3 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_h1 (iota .tc S32x128 32 [1] iota_S32x128_d1_w32) v73 v94 v95 (harg1.unread x) (harg3.unread g) X19 k).1 _ = _
  unfold trip_k0_t3
  rfl

/-- The codes after one more trip. -/
theorem succC_t3 (k0_h1 : k0_cond1 i = 1#1) (v73 : FVec Ideal S128x128 .f32) (v94 : FVec Ideal S8x128 .f32) (v95 : FVec Ideal S8x128 .f32) (x : Vec Ideal S256x4096 .bf16) (g : Vec Ideal S1x4096 .f32)
    (X19 : BufTy.Contents (Elt Ideal) arg19.view.ty) (init : FVec Ideal S32x128 .f32) (k : Fin k0_t3_loop.trips) :
    (st_k0_t3 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_h1 (iota .tc S32x128 32 [1] iota_S32x128_d1_w32) v73 v94 v95 (harg1.unread x) (harg3.unread g) X19 init (k.val + 1)).2.1 = (⟨Rect.unit (k0_off6 k) ![32, 128] (k0_off6_inb i k k0_h1), k0_pay35 (k0_pay14 ((fun k : Fin k0_t3_loop.trips => arg1.view.readAt (Elt Ideal) (Rect.unit (s := S256x4096) (k0_off3 k) S32x128.size (k0_off3_inb i k k0_h1)).toLoadRect (harg1.unread x)) k) ((fun k : Fin k0_t3_loop.trips => arg19.view.readAt (Elt Ideal) (Rect.unit (s := S256x128) (k0_off4 k) S32x128.size (k0_off4_inb i k k0_h1)).toLoadRect X19) k) ((fun k : Fin k0_t3_loop.trips => arg3.view.readAt (Elt Ideal) (Rect.unit (s := S1x4096) (k0_off5 k) S1x128.size (k0_off5_inb i k k0_h1)).toLoadRect (harg3.unread g)) k)) (Ideal.ofBits .f32 3286237184#32) (Ideal.ofBits .f32 1138753536#32)⟩ : View.Piece (Elt Ideal) ⟨2, ![512, 4096]⟩ .fp8e4m3) :: (st_k0_t3 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_h1 (iota .tc S32x128 32 [1] iota_S32x128_d1_w32) v73 v94 v95 (harg1.unread x) (harg3.unread g) X19 init k.val).2.1 := by
  rw [st_k0_t3_succ]
  show (trip_k0_t3 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_h1 (iota .tc S32x128 32 [1] iota_S32x128_d1_w32) v73 v94 v95 (harg1.unread x) (harg3.unread g) X19 k).2.1 _ ++ _ = _
  unfold trip_k0_t3
  refine congrArg (fun w => (⟨Rect.unit (k0_off6 k) ![32, 128] (k0_off6_inb i k k0_h1), w⟩ : View.Piece (Elt Ideal) ⟨2, ![512, 4096]⟩ .fp8e4m3) :: _) ?_
  rfl

/-- The dequantised blocks after one more trip. -/
theorem succB_t3 (k0_h1 : k0_cond1 i = 1#1) (v73 : FVec Ideal S128x128 .f32) (v94 : FVec Ideal S8x128 .f32) (v95 : FVec Ideal S8x128 .f32) (x : Vec Ideal S256x4096 .bf16) (g : Vec Ideal S1x4096 .f32)
    (X19 : BufTy.Contents (Elt Ideal) arg19.view.ty) (init : FVec Ideal S32x128 .f32) (k : Fin k0_t3_loop.trips) :
    (st_k0_t3 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_h1 (iota .tc S32x128 32 [1] iota_S32x128_d1_w32) v73 v94 v95 (harg1.unread x) (harg3.unread g) X19 init (k.val + 1)).2.2.1 = (⟨Rect.unit (k0_off7 k) ![1, 32, 128] (k0_off7_inb i k k0_h1), k0_pay36 (k0_pay13 ((fun k : Fin k0_t3_loop.trips => arg1.view.readAt (Elt Ideal) (Rect.unit (s := S256x4096) (k0_off3 k) S32x128.size (k0_off3_inb i k k0_h1)).toLoadRect (harg1.unread x)) k) ((fun k : Fin k0_t3_loop.trips => arg19.view.readAt (Elt Ideal) (Rect.unit (s := S256x128) (k0_off4 k) S32x128.size (k0_off4_inb i k k0_h1)).toLoadRect X19) k) ((fun k : Fin k0_t3_loop.trips => arg3.view.readAt (Elt Ideal) (Rect.unit (s := S1x4096) (k0_off5 k) S1x128.size (k0_off5_inb i k k0_h1)).toLoadRect (harg3.unread g)) k)) (k0_pay14 ((fun k : Fin k0_t3_loop.trips => arg1.view.readAt (Elt Ideal) (Rect.unit (s := S256x4096) (k0_off3 k) S32x128.size (k0_off3_inb i k k0_h1)).toLoadRect (harg1.unread x)) k) ((fun k : Fin k0_t3_loop.trips => arg19.view.readAt (Elt Ideal) (Rect.unit (s := S256x128) (k0_off4 k) S32x128.size (k0_off4_inb i k k0_h1)).toLoadRect X19) k) ((fun k : Fin k0_t3_loop.trips => arg3.view.readAt (Elt Ideal) (Rect.unit (s := S1x4096) (k0_off5 k) S1x128.size (k0_off5_inb i k k0_h1)).toLoadRect (harg3.unread g)) k)) (Ideal.ofBits .f32 3286237184#32) (Ideal.ofBits .f32 1138753536#32)⟩ : View.Piece (Elt Ideal) ⟨3, ![32, 256, 128]⟩ .bf16) :: (st_k0_t3 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_h1 (iota .tc S32x128 32 [1] iota_S32x128_d1_w32) v73 v94 v95 (harg1.unread x) (harg3.unread g) X19 init k.val).2.2.1 := by
  rw [st_k0_t3_succ]
  show (trip_k0_t3 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_h1 (iota .tc S32x128 32 [1] iota_S32x128_d1_w32) v73 v94 v95 (harg1.unread x) (harg3.unread g) X19 k).2.2.1 _ ++ _ = _
  unfold trip_k0_t3
  rfl

/-- The recorded scales after one more trip. -/
theorem succS_t3 (k0_h1 : k0_cond1 i = 1#1) (v73 : FVec Ideal S128x128 .f32) (v94 : FVec Ideal S8x128 .f32) (v95 : FVec Ideal S8x128 .f32) (x : Vec Ideal S256x4096 .bf16) (g : Vec Ideal S1x4096 .f32)
    (X19 : BufTy.Contents (Elt Ideal) arg19.view.ty) (init : FVec Ideal S32x128 .f32) (k : Fin k0_t3_loop.trips) :
    (st_k0_t3 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_h1 (iota .tc S32x128 32 [1] iota_S32x128_d1_w32) v73 v94 v95 (harg1.unread x) (harg3.unread g) X19 init (k.val + 1)).2.2.2 = (⟨Rect.unit (k0_off4 k) ![32, 128] (k0_off4_inb i k k0_h1), k0_pay38 (iota .tc S32x128 32 [1] iota_S32x128_d1_w32) (st_k0_t3 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_h1 (iota .tc S32x128 32 [1] iota_S32x128_d1_w32) v73 v94 v95 (harg1.unread x) (harg3.unread g) X19 init k.val).1 (BitVec.ofNat 32 (k.val % 32)) (k0_pay13 ((fun k : Fin k0_t3_loop.trips => arg1.view.readAt (Elt Ideal) (Rect.unit (s := S256x4096) (k0_off3 k) S32x128.size (k0_off3_inb i k k0_h1)).toLoadRect (harg1.unread x)) k) ((fun k : Fin k0_t3_loop.trips => arg19.view.readAt (Elt Ideal) (Rect.unit (s := S256x128) (k0_off4 k) S32x128.size (k0_off4_inb i k k0_h1)).toLoadRect X19) k) ((fun k : Fin k0_t3_loop.trips => arg3.view.readAt (Elt Ideal) (Rect.unit (s := S1x4096) (k0_off5 k) S1x128.size (k0_off5_inb i k k0_h1)).toLoadRect (harg3.unread g)) k))⟩ : View.Piece (Elt Ideal) ⟨2, ![256, 128]⟩ .f32) :: (st_k0_t3 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_h1 (iota .tc S32x128 32 [1] iota_S32x128_d1_w32) v73 v94 v95 (harg1.unread x) (harg3.unread g) X19 init k.val).2.2.2 := by
  rw [st_k0_t3_succ, ← remsi_iv k]
  show (trip_k0_t3 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_h1 (iota .tc S32x128 32 [1] iota_S32x128_d1_w32) v73 v94 v95 (harg1.unread x) (harg3.unread g) X19 k).2.2.2.1 _ ++ _ = _
  unfold trip_k0_t3
  rfl

/-- The codes the loop leaves. -/
theorem codes_t3 (k0_h1 : k0_cond1 i = 1#1) (v73 : FVec Ideal S128x128 .f32) (v94 : FVec Ideal S8x128 .f32) (v95 : FVec Ideal S8x128 .f32) (x : Vec Ideal S256x4096 .bf16) (g : Vec Ideal S1x4096 .f32)
    (X19 : BufTy.Contents (Elt Ideal) arg19.view.ty) (init : FVec Ideal S32x128 .f32)
    (hR : ∀ (r : Fin 256) (l : Fin 128), arg19.view.read (Elt Ideal) X19 (ix2 r l) = rinv (fun j => x (ix2 r j)))
    (T) (r : Fin 256) (j : Fin 4096) (r' : Fin 512) (hr : r'.val = r.val + 256) :
    View.canon ((st_k0_t3 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_h1 (iota .tc S32x128 32 [1] iota_S32x128_d1_w32) v73 v94 v95 (harg1.unread x) (harg3.unread g) X19 init k0_t3_loop.trips).2.1 ++ T) (ix2 r' j) = xcode (fun j => x (ix2 r j)) (fun j : Fin 4096 => g (ix2 (0 : Fin 1) j)) ⟨j.val / 128, by have := j.isLt; omega⟩ ⟨j.val % 128, by omega⟩ :=
  codes_at (N := k0_t3_loop.trips) (by decide) (fun (r : Fin 256) j => x (ix2 r j)) (fun j : Fin 4096 => g (ix2 (0 : Fin 1) j)) (fun k : Fin k0_t3_loop.trips => arg1.view.readAt (Elt Ideal) (Rect.unit (s := S256x4096) (k0_off3 k) S32x128.size (k0_off3_inb i k k0_h1)).toLoadRect (harg1.unread x)) (fun k : Fin k0_t3_loop.trips => arg19.view.readAt (Elt Ideal) (Rect.unit (s := S256x128) (k0_off4 k) S32x128.size (k0_off4_inb i k k0_h1)).toLoadRect X19) (fun k : Fin k0_t3_loop.trips => arg3.view.readAt (Elt Ideal) (Rect.unit (s := S1x4096) (k0_off5 k) S1x128.size (k0_off5_inb i k k0_h1)).toLoadRect (harg3.unread g)) (hv_t3 i arg1 harg1 arg3 harg3 arg19 k0_h1 x g X19 hR) 256 (fun n => (st_k0_t3 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_h1 (iota .tc S32x128 32 [1] iota_S32x128_d1_w32) v73 v94 v95 (harg1.unread x) (harg3.unread g) X19 init n).2.1) rfl
    (fun k => k0_off6 k) (fun k => k0_off6_eq k) (fun k => k0_off6_inb i k k0_h1)
    (fun k => succC_t3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_h1 v73 v94 v95 x g X19 init k) T r j r' hr

/-- The dequantised blocks the loop leaves. -/
theorem deq_t3 (k0_h1 : k0_cond1 i = 1#1) (v73 : FVec Ideal S128x128 .f32) (v94 : FVec Ideal S8x128 .f32) (v95 : FVec Ideal S8x128 .f32) (x : Vec Ideal S256x4096 .bf16) (g : Vec Ideal S1x4096 .f32)
    (X19 : BufTy.Contents (Elt Ideal) arg19.view.ty) (init : FVec Ideal S32x128 .f32)
    (hR : ∀ (r : Fin 256) (l : Fin 128), arg19.view.read (Elt Ideal) X19 (ix2 r l) = rinv (fun j => x (ix2 r j)))
    (T) (b : Fin 32) (r : Fin 256) (q : Fin 128) :
    View.canon ((st_k0_t3 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_h1 (iota .tc S32x128 32 [1] iota_S32x128_d1_w32) v73 v94 v95 (harg1.unread x) (harg3.unread g) X19 init k0_t3_loop.trips).2.2.1 ++ T) (ix3 b r q) = ((4 : ℝ) : EReal) * (xcode (fun j => x (ix2 r j)) (fun j : Fin 4096 => g (ix2 (0 : Fin 1) j)) b q * xsc (fun j => x (ix2 r j)) (fun j : Fin 4096 => g (ix2 (0 : Fin 1) j)) b) :=
  deq_at (N := k0_t3_loop.trips) (by decide) (fun (r : Fin 256) j => x (ix2 r j)) (fun j : Fin 4096 => g (ix2 (0 : Fin 1) j)) (fun k : Fin k0_t3_loop.trips => arg1.view.readAt (Elt Ideal) (Rect.unit (s := S256x4096) (k0_off3 k) S32x128.size (k0_off3_inb i k k0_h1)).toLoadRect (harg1.unread x)) (fun k : Fin k0_t3_loop.trips => arg19.view.readAt (Elt Ideal) (Rect.unit (s := S256x128) (k0_off4 k) S32x128.size (k0_off4_inb i k k0_h1)).toLoadRect X19) (fun k : Fin k0_t3_loop.trips => arg3.view.readAt (Elt Ideal) (Rect.unit (s := S1x4096) (k0_off5 k) S1x128.size (k0_off5_inb i k k0_h1)).toLoadRect (harg3.unread g)) (hv_t3 i arg1 harg1 arg3 harg3 arg19 k0_h1 x g X19 hR) (fun n => (st_k0_t3 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_h1 (iota .tc S32x128 32 [1] iota_S32x128_d1_w32) v73 v94 v95 (harg1.unread x) (harg3.unread g) X19 init n).2.2.1) rfl
    (fun k => k0_off7 k) (fun k => k0_off7_eq k) (fun k => k0_off7_inb i k k0_h1)
    (fun k => succB_t3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_h1 v73 v94 v95 x g X19 init k) T b r q

/-- The recorded scales the loop leaves. -/
theorem scales_t3 (k0_h1 : k0_cond1 i = 1#1) (v73 : FVec Ideal S128x128 .f32) (v94 : FVec Ideal S8x128 .f32) (v95 : FVec Ideal S8x128 .f32) (x : Vec Ideal S256x4096 .bf16) (g : Vec Ideal S1x4096 .f32)
    (X19 : BufTy.Contents (Elt Ideal) arg19.view.ty) (init : FVec Ideal S32x128 .f32)
    (hR : ∀ (r : Fin 256) (l : Fin 128), arg19.view.read (Elt Ideal) X19 (ix2 r l) = rinv (fun j => x (ix2 r j)))
    (T) (r : Fin 256) (l : Fin 128) (b : Fin 32) (hb : l.val = b.val) :
    View.canon ((st_k0_t3 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_h1 (iota .tc S32x128 32 [1] iota_S32x128_d1_w32) v73 v94 v95 (harg1.unread x) (harg3.unread g) X19 init k0_t3_loop.trips).2.2.2 ++ T) (ix2 r l) = xfin (fun j => x (ix2 r j)) (fun j : Fin 4096 => g (ix2 (0 : Fin 1) j)) b :=
  scales_at (N := k0_t3_loop.trips) (by decide) (fun (r : Fin 256) j => x (ix2 r j)) (fun j : Fin 4096 => g (ix2 (0 : Fin 1) j)) (fun k : Fin k0_t3_loop.trips => arg1.view.readAt (Elt Ideal) (Rect.unit (s := S256x4096) (k0_off3 k) S32x128.size (k0_off3_inb i k k0_h1)).toLoadRect (harg1.unread x)) (fun k : Fin k0_t3_loop.trips => arg19.view.readAt (Elt Ideal) (Rect.unit (s := S256x128) (k0_off4 k) S32x128.size (k0_off4_inb i k k0_h1)).toLoadRect X19) (fun k : Fin k0_t3_loop.trips => arg3.view.readAt (Elt Ideal) (Rect.unit (s := S1x4096) (k0_off5 k) S1x128.size (k0_off5_inb i k k0_h1)).toLoadRect (harg3.unread g)) (hv_t3 i arg1 harg1 arg3 harg3 arg19 k0_h1 x g X19 hR) (fun n => (st_k0_t3 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_h1 (iota .tc S32x128 32 [1] iota_S32x128_d1_w32) v73 v94 v95 (harg1.unread x) (harg3.unread g) X19 init n).2.2.2) rfl
    (fun n => (st_k0_t3 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_h1 (iota .tc S32x128 32 [1] iota_S32x128_d1_w32) v73 v94 v95 (harg1.unread x) (harg3.unread g) X19 init n).1) (fun k => succR_t3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_h1 v73 v94 v95 x g X19 init k)
    (fun k => k0_off4 k) (fun k => k0_off4_eq k) (fun k => k0_off4_inb i k k0_h1)
    (fun k => succS_t3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_h1 v73 v94 v95 x g X19 init k) T r l b hb

/-- The loop leaves the rows before its own. -/
theorem codes_before_t3 (k0_h1 : k0_cond1 i = 1#1) (v73 : FVec Ideal S128x128 .f32) (v94 : FVec Ideal S8x128 .f32) (v95 : FVec Ideal S8x128 .f32) (x : Vec Ideal S256x4096 .bf16) (g : Vec Ideal S1x4096 .f32)
    (X19 : BufTy.Contents (Elt Ideal) arg19.view.ty) (init : FVec Ideal S32x128 .f32)
    (hR : ∀ (r : Fin 256) (l : Fin 128), arg19.view.read (Elt Ideal) X19 (ix2 r l) = rinv (fun j => x (ix2 r j)))
    (T) (j : Fin 4096) (r' : Fin 512) (hr : r'.val < 256) :
    View.canon ((st_k0_t3 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_h1 (iota .tc S32x128 32 [1] iota_S32x128_d1_w32) v73 v94 v95 (harg1.unread x) (harg3.unread g) X19 init k0_t3_loop.trips).2.1 ++ T) (ix2 r' j) = View.canon T (ix2 r' j) :=
  codes_before (N := k0_t3_loop.trips) (by decide) (fun (r : Fin 256) j => x (ix2 r j)) (fun j : Fin 4096 => g (ix2 (0 : Fin 1) j)) (fun k : Fin k0_t3_loop.trips => arg1.view.readAt (Elt Ideal) (Rect.unit (s := S256x4096) (k0_off3 k) S32x128.size (k0_off3_inb i k k0_h1)).toLoadRect (harg1.unread x)) (fun k : Fin k0_t3_loop.trips => arg19.view.readAt (Elt Ideal) (Rect.unit (s := S256x128) (k0_off4 k) S32x128.size (k0_off4_inb i k k0_h1)).toLoadRect X19) (fun k : Fin k0_t3_loop.trips => arg3.view.readAt (Elt Ideal) (Rect.unit (s := S1x4096) (k0_off5 k) S1x128.size (k0_off5_inb i k k0_h1)).toLoadRect (harg3.unread g)) (hv_t3 i arg1 harg1 arg3 harg3 arg19 k0_h1 x g X19 hR) 256 (fun n => (st_k0_t3 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_h1 (iota .tc S32x128 32 [1] iota_S32x128_d1_w32) v73 v94 v95 (harg1.unread x) (harg3.unread g) X19 init n).2.1) rfl
    (fun k => k0_off6 k) (fun k => k0_off6_eq k) (fun k => k0_off6_inb i k k0_h1)
    (fun k => succC_t3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_h1 v73 v94 v95 x g X19 init k) T j r' hr

/-- The factors a trip multiplies. -/
theorem hv_t6 (k0_h1 : k0_cond1 i = 1#1) (x : Vec Ideal S256x4096 .bf16) (g : Vec Ideal S1x4096 .f32) (X19 : BufTy.Contents (Elt Ideal) arg19.view.ty)
    (hR : ∀ (r : Fin 256) (l : Fin 128), arg19.view.read (Elt Ideal) X19 (ix2 r l) = rinv (fun j => x (ix2 r j)))
    (k : Fin k0_t6_loop.trips) (p : Fin 32) (q : Fin 128) :
    (fun k : Fin k0_t6_loop.trips => arg2.view.readAt (Elt Ideal) (Rect.unit (s := S256x4096) (k0_off10 k) S32x128.size (k0_off10_inb i k k0_h1)).toLoadRect (harg2.unread x)) k (ix2 p q) * (fun k : Fin k0_t6_loop.trips => arg19.view.readAt (Elt Ideal) (Rect.unit (s := S256x128) (k0_off11 k) S32x128.size (k0_off11_inb i k k0_h1)).toLoadRect X19) k (ix2 p q) * (fun k : Fin k0_t6_loop.trips => arg3.view.readAt (Elt Ideal) (Rect.unit (s := S1x4096) (k0_off12 k) S1x128.size (k0_off12_inb i k k0_h1)).toLoadRect (harg3.unread g)) k (ix2 0 q)
    = hh ((fun (r : Fin 256) j => x (ix2 r j)) ⟨32 * (k.val / 32) + p.val, by have hk : k.val < 256 := Nat.lt_of_lt_of_eq k.isLt (by decide); have := p.isLt; omega⟩) (fun j : Fin 4096 => g (ix2 (0 : Fin 1) j)) ⟨k.val % 32 * 128 + q.val, by have := q.isLt; omega⟩ := by
  have hk : k.val < 256 := Nat.lt_of_lt_of_eq k.isLt (by decide)
  have e1 := rd2 arg2 (harg2.unread x) _ _ (k0_off10_eq k) (k0_off10_inb i k k0_h1) p q (⟨32 * (k.val / 32) + p.val, by omega⟩ : Fin 256) (⟨k.val % 32 * 128 + q.val, by omega⟩ : Fin 4096) rfl (by show k.val % 32 * 128 + q.val = 128 * (k.val % 32) + q.val; omega)
  have e2 := rd2 arg19 X19 _ _ (k0_off11_eq k) (k0_off11_inb i k k0_h1) p q (⟨32 * (k.val / 32) + p.val, by omega⟩ : Fin 256) q rfl (by omega)
  have e3 := rd2 arg3 (harg3.unread g) _ _ (k0_off12_eq k) (k0_off12_inb i k k0_h1) (0 : Fin 1) q (0 : Fin 1) (⟨k.val % 32 * 128 + q.val, by omega⟩ : Fin 4096) rfl (by show k.val % 32 * 128 + q.val = 128 * (k.val % 32) + q.val; omega)
  rw [harg2.read_unread] at e1
  rw [hR] at e2
  rw [harg3.read_unread] at e3
  exact congrArg₂ (· * ·) (congrArg₂ (· * ·) e1 e2) e3

/-- The record of the scales after one more trip. -/
theorem succR_t6 (k0_h1 : k0_cond1 i = 1#1) (v943 : FVec Ideal S32x128 .f32) (x : Vec Ideal S256x4096 .bf16) (g : Vec Ideal S1x4096 .f32)
    (X19 : BufTy.Contents (Elt Ideal) arg19.view.ty) (init : FVec Ideal S32x128 .f32) (k : Fin k0_t6_loop.trips) :
    (st_k0_t6 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_h1 (iota .tc S32x128 32 [1] iota_S32x128_d1_w32) v943 0#32 (harg2.unread x) (harg3.unread g) X19 init (k.val + 1)).1 = k0_pay37 (iota .tc S32x128 32 [1] iota_S32x128_d1_w32) (st_k0_t6 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_h1 (iota .tc S32x128 32 [1] iota_S32x128_d1_w32) v943 0#32 (harg2.unread x) (harg3.unread g) X19 init k.val).1 (BitVec.ofNat 32 (k.val % 32)) (k0_pay13 ((fun k : Fin k0_t6_loop.trips => arg2.view.readAt (Elt Ideal) (Rect.unit (s := S256x4096) (k0_off10 k) S32x128.size (k0_off10_inb i k k0_h1)).toLoadRect (harg2.unread x)) k) ((fun k : Fin k0_t6_loop.trips => arg19.view.readAt (Elt Ideal) (Rect.unit (s := S256x128) (k0_off11 k) S32x128.size (k0_off11_inb i k k0_h1)).toLoadRect X19) k) ((fun k : Fin k0_t6_loop.trips => arg3.view.readAt (Elt Ideal) (Rect.unit (s := S1x4096) (k0_off12 k) S1x128.size (k0_off12_inb i k k0_h1)).toLoadRect (harg3.unread g)) k)) := by
  rw [st_k0_t6_succ, ← remsi_iv k]
  show (trip_k0_t6 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_h1 (iota .tc S32x128 32 [1] iota_S32x128_d1_w32) v943 0#32 (harg2.unread x) (harg3.unread g) X19 k).1 _ = _
  unfold trip_k0_t6
  rfl

/-- The codes after one more trip. -/
theorem succC_t6 (k0_h1 : k0_cond1 i = 1#1) (v943 : FVec Ideal S32x128 .f32) (x : Vec Ideal S256x4096 .bf16) (g : Vec Ideal S1x4096 .f32)
    (X19 : BufTy.Contents (Elt Ideal) arg19.view.ty) (init : FVec Ideal S32x128 .f32) (k : Fin k0_t6_loop.trips) :
    (st_k0_t6 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_h1 (iota .tc S32x128 32 [1] iota_S32x128_d1_w32) v943 0#32 (harg2.unread x) (harg3.unread g) X19 init (k.val + 1)).2.2.1 = (⟨Rect.unit (k0_off13 k) ![32, 128] (k0_off13_inb i k k0_h1), k0_pay35 (k0_pay14 ((fun k : Fin k0_t6_loop.trips => arg2.view.readAt (Elt Ideal) (Rect.unit (s := S256x4096) (k0_off10 k) S32x128.size (k0_off10_inb i k k0_h1)).toLoadRect (harg2.unread x)) k) ((fun k : Fin k0_t6_loop.trips => arg19.view.readAt (Elt Ideal) (Rect.unit (s := S256x128) (k0_off11 k) S32x128.size (k0_off11_inb i k k0_h1)).toLoadRect X19) k) ((fun k : Fin k0_t6_loop.trips => arg3.view.readAt (Elt Ideal) (Rect.unit (s := S1x4096) (k0_off12 k) S1x128.size (k0_off12_inb i k k0_h1)).toLoadRect (harg3.unread g)) k)) (Ideal.ofBits .f32 3286237184#32) (Ideal.ofBits .f32 1138753536#32)⟩ : View.Piece (Elt Ideal) ⟨2, ![256, 4096]⟩ .fp8e4m3) :: (st_k0_t6 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_h1 (iota .tc S32x128 32 [1] iota_S32x128_d1_w32) v943 0#32 (harg2.unread x) (harg3.unread g) X19 init k.val).2.2.1 := by
  rw [st_k0_t6_succ]
  show (trip_k0_t6 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_h1 (iota .tc S32x128 32 [1] iota_S32x128_d1_w32) v943 0#32 (harg2.unread x) (harg3.unread g) X19 k).2.2.1 _ ++ _ = _
  unfold trip_k0_t6
  refine congrArg (fun w => (⟨Rect.unit (k0_off13 k) ![32, 128] (k0_off13_inb i k k0_h1), w⟩ : View.Piece (Elt Ideal) ⟨2, ![256, 4096]⟩ .fp8e4m3) :: _) ?_
  exact pay197_eq _ _ _

/-- The dequantised blocks after one more trip. -/
theorem succB_t6 (k0_h1 : k0_cond1 i = 1#1) (v943 : FVec Ideal S32x128 .f32) (x : Vec Ideal S256x4096 .bf16) (g : Vec Ideal S1x4096 .f32)
    (X19 : BufTy.Contents (Elt Ideal) arg19.view.ty) (init : FVec Ideal S32x128 .f32) (k : Fin k0_t6_loop.trips) :
    (st_k0_t6 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_h1 (iota .tc S32x128 32 [1] iota_S32x128_d1_w32) v943 0#32 (harg2.unread x) (harg3.unread g) X19 init (k.val + 1)).2.1 = (⟨Rect.unit (k0_off14 k) ![1, 32, 128] (k0_off14_inb i k k0_h1), k0_pay36 (k0_pay13 ((fun k : Fin k0_t6_loop.trips => arg2.view.readAt (Elt Ideal) (Rect.unit (s := S256x4096) (k0_off10 k) S32x128.size (k0_off10_inb i k k0_h1)).toLoadRect (harg2.unread x)) k) ((fun k : Fin k0_t6_loop.trips => arg19.view.readAt (Elt Ideal) (Rect.unit (s := S256x128) (k0_off11 k) S32x128.size (k0_off11_inb i k k0_h1)).toLoadRect X19) k) ((fun k : Fin k0_t6_loop.trips => arg3.view.readAt (Elt Ideal) (Rect.unit (s := S1x4096) (k0_off12 k) S1x128.size (k0_off12_inb i k k0_h1)).toLoadRect (harg3.unread g)) k)) (k0_pay14 ((fun k : Fin k0_t6_loop.trips => arg2.view.readAt (Elt Ideal) (Rect.unit (s := S256x4096) (k0_off10 k) S32x128.size (k0_off10_inb i k k0_h1)).toLoadRect (harg2.unread x)) k) ((fun k : Fin k0_t6_loop.trips => arg19.view.readAt (Elt Ideal) (Rect.unit (s := S256x128) (k0_off11 k) S32x128.size (k0_off11_inb i k k0_h1)).toLoadRect X19) k) ((fun k : Fin k0_t6_loop.trips => arg3.view.readAt (Elt Ideal) (Rect.unit (s := S1x4096) (k0_off12 k) S1x128.size (k0_off12_inb i k k0_h1)).toLoadRect (harg3.unread g)) k)) (Ideal.ofBits .f32 3286237184#32) (Ideal.ofBits .f32 1138753536#32)⟩ : View.Piece (Elt Ideal) ⟨3, ![32, 256, 128]⟩ .bf16) :: (st_k0_t6 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_h1 (iota .tc S32x128 32 [1] iota_S32x128_d1_w32) v943 0#32 (harg2.unread x) (harg3.unread g) X19 init k.val).2.1 := by
  rw [st_k0_t6_succ]
  show (trip_k0_t6 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_h1 (iota .tc S32x128 32 [1] iota_S32x128_d1_w32) v943 0#32 (harg2.unread x) (harg3.unread g) X19 k).2.1 _ ++ _ = _
  unfold trip_k0_t6
  rfl

/-- The recorded scales after one more trip. -/
theorem succS_t6 (k0_h1 : k0_cond1 i = 1#1) (v943 : FVec Ideal S32x128 .f32) (x : Vec Ideal S256x4096 .bf16) (g : Vec Ideal S1x4096 .f32)
    (X19 : BufTy.Contents (Elt Ideal) arg19.view.ty) (init : FVec Ideal S32x128 .f32) (k : Fin k0_t6_loop.trips) :
    (st_k0_t6 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_h1 (iota .tc S32x128 32 [1] iota_S32x128_d1_w32) v943 0#32 (harg2.unread x) (harg3.unread g) X19 init (k.val + 1)).2.2.2 = (⟨Rect.unit (k0_off11 k) ![32, 128] (k0_off11_inb i k k0_h1), k0_pay38 (iota .tc S32x128 32 [1] iota_S32x128_d1_w32) (st_k0_t6 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_h1 (iota .tc S32x128 32 [1] iota_S32x128_d1_w32) v943 0#32 (harg2.unread x) (harg3.unread g) X19 init k.val).1 (BitVec.ofNat 32 (k.val % 32)) (k0_pay13 ((fun k : Fin k0_t6_loop.trips => arg2.view.readAt (Elt Ideal) (Rect.unit (s := S256x4096) (k0_off10 k) S32x128.size (k0_off10_inb i k k0_h1)).toLoadRect (harg2.unread x)) k) ((fun k : Fin k0_t6_loop.trips => arg19.view.readAt (Elt Ideal) (Rect.unit (s := S256x128) (k0_off11 k) S32x128.size (k0_off11_inb i k k0_h1)).toLoadRect X19) k) ((fun k : Fin k0_t6_loop.trips => arg3.view.readAt (Elt Ideal) (Rect.unit (s := S1x4096) (k0_off12 k) S1x128.size (k0_off12_inb i k k0_h1)).toLoadRect (harg3.unread g)) k))⟩ : View.Piece (Elt Ideal) ⟨2, ![256, 128]⟩ .f32) :: (st_k0_t6 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_h1 (iota .tc S32x128 32 [1] iota_S32x128_d1_w32) v943 0#32 (harg2.unread x) (harg3.unread g) X19 init k.val).2.2.2 := by
  rw [st_k0_t6_succ, ← remsi_iv k]
  show (trip_k0_t6 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_h1 (iota .tc S32x128 32 [1] iota_S32x128_d1_w32) v943 0#32 (harg2.unread x) (harg3.unread g) X19 k).2.2.2.1 _ ++ _ = _
  unfold trip_k0_t6
  rfl

/-- The codes the loop leaves. -/
theorem codes_t6 (k0_h1 : k0_cond1 i = 1#1) (v943 : FVec Ideal S32x128 .f32) (x : Vec Ideal S256x4096 .bf16) (g : Vec Ideal S1x4096 .f32)
    (X19 : BufTy.Contents (Elt Ideal) arg19.view.ty) (init : FVec Ideal S32x128 .f32)
    (hR : ∀ (r : Fin 256) (l : Fin 128), arg19.view.read (Elt Ideal) X19 (ix2 r l) = rinv (fun j => x (ix2 r j)))
    (T) (r : Fin 256) (j : Fin 4096) (r' : Fin 256) (hr : r'.val = r.val + 0) :
    View.canon ((st_k0_t6 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_h1 (iota .tc S32x128 32 [1] iota_S32x128_d1_w32) v943 0#32 (harg2.unread x) (harg3.unread g) X19 init k0_t6_loop.trips).2.2.1 ++ T) (ix2 r' j) = xcode (fun j => x (ix2 r j)) (fun j : Fin 4096 => g (ix2 (0 : Fin 1) j)) ⟨j.val / 128, by have := j.isLt; omega⟩ ⟨j.val % 128, by omega⟩ :=
  codes_at (N := k0_t6_loop.trips) (by decide) (fun (r : Fin 256) j => x (ix2 r j)) (fun j : Fin 4096 => g (ix2 (0 : Fin 1) j)) (fun k : Fin k0_t6_loop.trips => arg2.view.readAt (Elt Ideal) (Rect.unit (s := S256x4096) (k0_off10 k) S32x128.size (k0_off10_inb i k k0_h1)).toLoadRect (harg2.unread x)) (fun k : Fin k0_t6_loop.trips => arg19.view.readAt (Elt Ideal) (Rect.unit (s := S256x128) (k0_off11 k) S32x128.size (k0_off11_inb i k k0_h1)).toLoadRect X19) (fun k : Fin k0_t6_loop.trips => arg3.view.readAt (Elt Ideal) (Rect.unit (s := S1x4096) (k0_off12 k) S1x128.size (k0_off12_inb i k k0_h1)).toLoadRect (harg3.unread g)) (hv_t6 i arg2 harg2 arg3 harg3 arg19 k0_h1 x g X19 hR) 0 (fun n => (st_k0_t6 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_h1 (iota .tc S32x128 32 [1] iota_S32x128_d1_w32) v943 0#32 (harg2.unread x) (harg3.unread g) X19 init n).2.2.1) rfl
    (fun k => k0_off13 k) (fun k => k0_off13_eq k) (fun k => k0_off13_inb i k k0_h1)
    (fun k => succC_t6 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_h1 v943 x g X19 init k) T r j r' hr

/-- The dequantised blocks the loop leaves. -/
theorem deq_t6 (k0_h1 : k0_cond1 i = 1#1) (v943 : FVec Ideal S32x128 .f32) (x : Vec Ideal S256x4096 .bf16) (g : Vec Ideal S1x4096 .f32)
    (X19 : BufTy.Contents (Elt Ideal) arg19.view.ty) (init : FVec Ideal S32x128 .f32)
    (hR : ∀ (r : Fin 256) (l : Fin 128), arg19.view.read (Elt Ideal) X19 (ix2 r l) = rinv (fun j => x (ix2 r j)))
    (T) (b : Fin 32) (r : Fin 256) (q : Fin 128) :
    View.canon ((st_k0_t6 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_h1 (iota .tc S32x128 32 [1] iota_S32x128_d1_w32) v943 0#32 (harg2.unread x) (harg3.unread g) X19 init k0_t6_loop.trips).2.1 ++ T) (ix3 b r q) = ((4 : ℝ) : EReal) * (xcode (fun j => x (ix2 r j)) (fun j : Fin 4096 => g (ix2 (0 : Fin 1) j)) b q * xsc (fun j => x (ix2 r j)) (fun j : Fin 4096 => g (ix2 (0 : Fin 1) j)) b) :=
  deq_at (N := k0_t6_loop.trips) (by decide) (fun (r : Fin 256) j => x (ix2 r j)) (fun j : Fin 4096 => g (ix2 (0 : Fin 1) j)) (fun k : Fin k0_t6_loop.trips => arg2.view.readAt (Elt Ideal) (Rect.unit (s := S256x4096) (k0_off10 k) S32x128.size (k0_off10_inb i k k0_h1)).toLoadRect (harg2.unread x)) (fun k : Fin k0_t6_loop.trips => arg19.view.readAt (Elt Ideal) (Rect.unit (s := S256x128) (k0_off11 k) S32x128.size (k0_off11_inb i k k0_h1)).toLoadRect X19) (fun k : Fin k0_t6_loop.trips => arg3.view.readAt (Elt Ideal) (Rect.unit (s := S1x4096) (k0_off12 k) S1x128.size (k0_off12_inb i k k0_h1)).toLoadRect (harg3.unread g)) (hv_t6 i arg2 harg2 arg3 harg3 arg19 k0_h1 x g X19 hR) (fun n => (st_k0_t6 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_h1 (iota .tc S32x128 32 [1] iota_S32x128_d1_w32) v943 0#32 (harg2.unread x) (harg3.unread g) X19 init n).2.1) rfl
    (fun k => k0_off14 k) (fun k => k0_off14_eq k) (fun k => k0_off14_inb i k k0_h1)
    (fun k => succB_t6 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_h1 v943 x g X19 init k) T b r q

/-- The recorded scales the loop leaves. -/
theorem scales_t6 (k0_h1 : k0_cond1 i = 1#1) (v943 : FVec Ideal S32x128 .f32) (x : Vec Ideal S256x4096 .bf16) (g : Vec Ideal S1x4096 .f32)
    (X19 : BufTy.Contents (Elt Ideal) arg19.view.ty) (init : FVec Ideal S32x128 .f32)
    (hR : ∀ (r : Fin 256) (l : Fin 128), arg19.view.read (Elt Ideal) X19 (ix2 r l) = rinv (fun j => x (ix2 r j)))
    (T) (r : Fin 256) (l : Fin 128) (b : Fin 32) (hb : l.val = b.val) :
    View.canon ((st_k0_t6 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_h1 (iota .tc S32x128 32 [1] iota_S32x128_d1_w32) v943 0#32 (harg2.unread x) (harg3.unread g) X19 init k0_t6_loop.trips).2.2.2 ++ T) (ix2 r l) = xfin (fun j => x (ix2 r j)) (fun j : Fin 4096 => g (ix2 (0 : Fin 1) j)) b :=
  scales_at (N := k0_t6_loop.trips) (by decide) (fun (r : Fin 256) j => x (ix2 r j)) (fun j : Fin 4096 => g (ix2 (0 : Fin 1) j)) (fun k : Fin k0_t6_loop.trips => arg2.view.readAt (Elt Ideal) (Rect.unit (s := S256x4096) (k0_off10 k) S32x128.size (k0_off10_inb i k k0_h1)).toLoadRect (harg2.unread x)) (fun k : Fin k0_t6_loop.trips => arg19.view.readAt (Elt Ideal) (Rect.unit (s := S256x128) (k0_off11 k) S32x128.size (k0_off11_inb i k k0_h1)).toLoadRect X19) (fun k : Fin k0_t6_loop.trips => arg3.view.readAt (Elt Ideal) (Rect.unit (s := S1x4096) (k0_off12 k) S1x128.size (k0_off12_inb i k k0_h1)).toLoadRect (harg3.unread g)) (hv_t6 i arg2 harg2 arg3 harg3 arg19 k0_h1 x g X19 hR) (fun n => (st_k0_t6 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_h1 (iota .tc S32x128 32 [1] iota_S32x128_d1_w32) v943 0#32 (harg2.unread x) (harg3.unread g) X19 init n).2.2.2) rfl
    (fun n => (st_k0_t6 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_h1 (iota .tc S32x128 32 [1] iota_S32x128_d1_w32) v943 0#32 (harg2.unread x) (harg3.unread g) X19 init n).1) (fun k => succR_t6 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_h1 v943 x g X19 init k)
    (fun k => k0_off11 k) (fun k => k0_off11_eq k) (fun k => k0_off11_inb i k k0_h1)
    (fun k => succS_t6 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_h1 v943 x g X19 init k) T r l b hb

/-- The factors a trip multiplies. -/
theorem hv_t9 (k0_h2 : k0_cond2 i = 1#1) (x : Vec Ideal S256x4096 .bf16) (g : Vec Ideal S1x4096 .f32) (X19 : BufTy.Contents (Elt Ideal) arg19.view.ty)
    (hR : ∀ (r : Fin 256) (l : Fin 128), arg19.view.read (Elt Ideal) X19 (ix2 r l) = rinv (fun j => x (ix2 r j)))
    (k : Fin k0_t9_loop.trips) (p : Fin 32) (q : Fin 128) :
    (fun k : Fin k0_t9_loop.trips => arg2.view.readAt (Elt Ideal) (Rect.unit (s := S256x4096) (k0_off17 k) S32x128.size (k0_off17_inb i k k0_h2)).toLoadRect (harg2.unread x)) k (ix2 p q) * (fun k : Fin k0_t9_loop.trips => arg19.view.readAt (Elt Ideal) (Rect.unit (s := S256x128) (k0_off18 k) S32x128.size (k0_off18_inb i k k0_h2)).toLoadRect X19) k (ix2 p q) * (fun k : Fin k0_t9_loop.trips => arg3.view.readAt (Elt Ideal) (Rect.unit (s := S1x4096) (k0_off19 k) S1x128.size (k0_off19_inb i k k0_h2)).toLoadRect (harg3.unread g)) k (ix2 0 q)
    = hh ((fun (r : Fin 256) j => x (ix2 r j)) ⟨32 * (k.val / 32) + p.val, by have hk : k.val < 256 := Nat.lt_of_lt_of_eq k.isLt (by decide); have := p.isLt; omega⟩) (fun j : Fin 4096 => g (ix2 (0 : Fin 1) j)) ⟨k.val % 32 * 128 + q.val, by have := q.isLt; omega⟩ := by
  have hk : k.val < 256 := Nat.lt_of_lt_of_eq k.isLt (by decide)
  have e1 := rd2 arg2 (harg2.unread x) _ _ (k0_off17_eq k) (k0_off17_inb i k k0_h2) p q (⟨32 * (k.val / 32) + p.val, by omega⟩ : Fin 256) (⟨k.val % 32 * 128 + q.val, by omega⟩ : Fin 4096) rfl (by show k.val % 32 * 128 + q.val = 128 * (k.val % 32) + q.val; omega)
  have e2 := rd2 arg19 X19 _ _ (k0_off18_eq k) (k0_off18_inb i k k0_h2) p q (⟨32 * (k.val / 32) + p.val, by omega⟩ : Fin 256) q rfl (by omega)
  have e3 := rd2 arg3 (harg3.unread g) _ _ (k0_off19_eq k) (k0_off19_inb i k k0_h2) (0 : Fin 1) q (0 : Fin 1) (⟨k.val % 32 * 128 + q.val, by omega⟩ : Fin 4096) rfl (by show k.val % 32 * 128 + q.val = 128 * (k.val % 32) + q.val; omega)
  rw [harg2.read_unread] at e1
  rw [hR] at e2
  rw [harg3.read_unread] at e3
  exact congrArg₂ (· * ·) (congrArg₂ (· * ·) e1 e2) e3

/-- The record of the scales after one more trip. -/
theorem succR_t9 (k0_h2 : k0_cond2 i = 1#1) (x : Vec Ideal S256x4096 .bf16) (g : Vec Ideal S1x4096 .f32)
    (X19 : BufTy.Contents (Elt Ideal) arg19.view.ty) (init : FVec Ideal S32x128 .f32) (k : Fin k0_t9_loop.trips) :
    (st_k0_t9 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_h2 (iota .tc S32x128 32 [1] iota_S32x128_d1_w32) (harg2.unread x) (harg3.unread g) X19 init (k.val + 1)).1 = k0_pay37 (iota .tc S32x128 32 [1] iota_S32x128_d1_w32) (st_k0_t9 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_h2 (iota .tc S32x128 32 [1] iota_S32x128_d1_w32) (harg2.unread x) (harg3.unread g) X19 init k.val).1 (BitVec.ofNat 32 (k.val % 32)) (k0_pay13 ((fun k : Fin k0_t9_loop.trips => arg2.view.readAt (Elt Ideal) (Rect.unit (s := S256x4096) (k0_off17 k) S32x128.size (k0_off17_inb i k k0_h2)).toLoadRect (harg2.unread x)) k) ((fun k : Fin k0_t9_loop.trips => arg19.view.readAt (Elt Ideal) (Rect.unit (s := S256x128) (k0_off18 k) S32x128.size (k0_off18_inb i k k0_h2)).toLoadRect X19) k) ((fun k : Fin k0_t9_loop.trips => arg3.view.readAt (Elt Ideal) (Rect.unit (s := S1x4096) (k0_off19 k) S1x128.size (k0_off19_inb i k k0_h2)).toLoadRect (harg3.unread g)) k)) := by
  rw [st_k0_t9_succ, ← remsi_iv k]
  show (trip_k0_t9 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_h2 (iota .tc S32x128 32 [1] iota_S32x128_d1_w32) (harg2.unread x) (harg3.unread g) X19 k).1 _ = _
  unfold trip_k0_t9
  rfl

/-- The codes after one more trip. -/
theorem succC_t9 (k0_h2 : k0_cond2 i = 1#1) (x : Vec Ideal S256x4096 .bf16) (g : Vec Ideal S1x4096 .f32)
    (X19 : BufTy.Contents (Elt Ideal) arg19.view.ty) (init : FVec Ideal S32x128 .f32) (k : Fin k0_t9_loop.trips) :
    (st_k0_t9 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_h2 (iota .tc S32x128 32 [1] iota_S32x128_d1_w32) (harg2.unread x) (harg3.unread g) X19 init (k.val + 1)).2.2.1 = (⟨Rect.unit (k0_off20 k) ![32, 128] (k0_off20_inb i k k0_h2), k0_pay35 (k0_pay14 ((fun k : Fin k0_t9_loop.trips => arg2.view.readAt (Elt Ideal) (Rect.unit (s := S256x4096) (k0_off17 k) S32x128.size (k0_off17_inb i k k0_h2)).toLoadRect (harg2.unread x)) k) ((fun k : Fin k0_t9_loop.trips => arg19.view.readAt (Elt Ideal) (Rect.unit (s := S256x128) (k0_off18 k) S32x128.size (k0_off18_inb i k k0_h2)).toLoadRect X19) k) ((fun k : Fin k0_t9_loop.trips => arg3.view.readAt (Elt Ideal) (Rect.unit (s := S1x4096) (k0_off19 k) S1x128.size (k0_off19_inb i k k0_h2)).toLoadRect (harg3.unread g)) k)) (Ideal.ofBits .f32 3286237184#32) (Ideal.ofBits .f32 1138753536#32)⟩ : View.Piece (Elt Ideal) ⟨2, ![256, 4096]⟩ .fp8e4m3) :: (st_k0_t9 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_h2 (iota .tc S32x128 32 [1] iota_S32x128_d1_w32) (harg2.unread x) (harg3.unread g) X19 init k.val).2.2.1 := by
  rw [st_k0_t9_succ]
  show (trip_k0_t9 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_h2 (iota .tc S32x128 32 [1] iota_S32x128_d1_w32) (harg2.unread x) (harg3.unread g) X19 k).2.2.1 _ ++ _ = _
  unfold trip_k0_t9
  refine congrArg (fun w => (⟨Rect.unit (k0_off20 k) ![32, 128] (k0_off20_inb i k k0_h2), w⟩ : View.Piece (Elt Ideal) ⟨2, ![256, 4096]⟩ .fp8e4m3) :: _) ?_
  exact pay7_eq _ _ _

/-- The dequantised blocks after one more trip. -/
theorem succB_t9 (k0_h2 : k0_cond2 i = 1#1) (x : Vec Ideal S256x4096 .bf16) (g : Vec Ideal S1x4096 .f32)
    (X19 : BufTy.Contents (Elt Ideal) arg19.view.ty) (init : FVec Ideal S32x128 .f32) (k : Fin k0_t9_loop.trips) :
    (st_k0_t9 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_h2 (iota .tc S32x128 32 [1] iota_S32x128_d1_w32) (harg2.unread x) (harg3.unread g) X19 init (k.val + 1)).2.1 = (⟨Rect.unit (k0_off21 k) ![1, 32, 128] (k0_off21_inb i k k0_h2), k0_pay36 (k0_pay13 ((fun k : Fin k0_t9_loop.trips => arg2.view.readAt (Elt Ideal) (Rect.unit (s := S256x4096) (k0_off17 k) S32x128.size (k0_off17_inb i k k0_h2)).toLoadRect (harg2.unread x)) k) ((fun k : Fin k0_t9_loop.trips => arg19.view.readAt (Elt Ideal) (Rect.unit (s := S256x128) (k0_off18 k) S32x128.size (k0_off18_inb i k k0_h2)).toLoadRect X19) k) ((fun k : Fin k0_t9_loop.trips => arg3.view.readAt (Elt Ideal) (Rect.unit (s := S1x4096) (k0_off19 k) S1x128.size (k0_off19_inb i k k0_h2)).toLoadRect (harg3.unread g)) k)) (k0_pay14 ((fun k : Fin k0_t9_loop.trips => arg2.view.readAt (Elt Ideal) (Rect.unit (s := S256x4096) (k0_off17 k) S32x128.size (k0_off17_inb i k k0_h2)).toLoadRect (harg2.unread x)) k) ((fun k : Fin k0_t9_loop.trips => arg19.view.readAt (Elt Ideal) (Rect.unit (s := S256x128) (k0_off18 k) S32x128.size (k0_off18_inb i k k0_h2)).toLoadRect X19) k) ((fun k : Fin k0_t9_loop.trips => arg3.view.readAt (Elt Ideal) (Rect.unit (s := S1x4096) (k0_off19 k) S1x128.size (k0_off19_inb i k k0_h2)).toLoadRect (harg3.unread g)) k)) (Ideal.ofBits .f32 3286237184#32) (Ideal.ofBits .f32 1138753536#32)⟩ : View.Piece (Elt Ideal) ⟨3, ![32, 256, 128]⟩ .bf16) :: (st_k0_t9 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_h2 (iota .tc S32x128 32 [1] iota_S32x128_d1_w32) (harg2.unread x) (harg3.unread g) X19 init k.val).2.1 := by
  rw [st_k0_t9_succ]
  show (trip_k0_t9 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_h2 (iota .tc S32x128 32 [1] iota_S32x128_d1_w32) (harg2.unread x) (harg3.unread g) X19 k).2.1 _ ++ _ = _
  unfold trip_k0_t9
  rfl

/-- The recorded scales after one more trip. -/
theorem succS_t9 (k0_h2 : k0_cond2 i = 1#1) (x : Vec Ideal S256x4096 .bf16) (g : Vec Ideal S1x4096 .f32)
    (X19 : BufTy.Contents (Elt Ideal) arg19.view.ty) (init : FVec Ideal S32x128 .f32) (k : Fin k0_t9_loop.trips) :
    (st_k0_t9 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_h2 (iota .tc S32x128 32 [1] iota_S32x128_d1_w32) (harg2.unread x) (harg3.unread g) X19 init (k.val + 1)).2.2.2 = (⟨Rect.unit (k0_off18 k) ![32, 128] (k0_off18_inb i k k0_h2), k0_pay38 (iota .tc S32x128 32 [1] iota_S32x128_d1_w32) (st_k0_t9 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_h2 (iota .tc S32x128 32 [1] iota_S32x128_d1_w32) (harg2.unread x) (harg3.unread g) X19 init k.val).1 (BitVec.ofNat 32 (k.val % 32)) (k0_pay13 ((fun k : Fin k0_t9_loop.trips => arg2.view.readAt (Elt Ideal) (Rect.unit (s := S256x4096) (k0_off17 k) S32x128.size (k0_off17_inb i k k0_h2)).toLoadRect (harg2.unread x)) k) ((fun k : Fin k0_t9_loop.trips => arg19.view.readAt (Elt Ideal) (Rect.unit (s := S256x128) (k0_off18 k) S32x128.size (k0_off18_inb i k k0_h2)).toLoadRect X19) k) ((fun k : Fin k0_t9_loop.trips => arg3.view.readAt (Elt Ideal) (Rect.unit (s := S1x4096) (k0_off19 k) S1x128.size (k0_off19_inb i k k0_h2)).toLoadRect (harg3.unread g)) k))⟩ : View.Piece (Elt Ideal) ⟨2, ![256, 128]⟩ .f32) :: (st_k0_t9 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_h2 (iota .tc S32x128 32 [1] iota_S32x128_d1_w32) (harg2.unread x) (harg3.unread g) X19 init k.val).2.2.2 := by
  rw [st_k0_t9_succ, ← remsi_iv k]
  show (trip_k0_t9 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_h2 (iota .tc S32x128 32 [1] iota_S32x128_d1_w32) (harg2.unread x) (harg3.unread g) X19 k).2.2.2.1 _ ++ _ = _
  unfold trip_k0_t9
  rfl

/-- The codes the loop leaves. -/
theorem codes_t9 (k0_h2 : k0_cond2 i = 1#1) (x : Vec Ideal S256x4096 .bf16) (g : Vec Ideal S1x4096 .f32)
    (X19 : BufTy.Contents (Elt Ideal) arg19.view.ty) (init : FVec Ideal S32x128 .f32)
    (hR : ∀ (r : Fin 256) (l : Fin 128), arg19.view.read (Elt Ideal) X19 (ix2 r l) = rinv (fun j => x (ix2 r j)))
    (T) (r : Fin 256) (j : Fin 4096) (r' : Fin 256) (hr : r'.val = r.val + 0) :
    View.canon ((st_k0_t9 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_h2 (iota .tc S32x128 32 [1] iota_S32x128_d1_w32) (harg2.unread x) (harg3.unread g) X19 init k0_t9_loop.trips).2.2.1 ++ T) (ix2 r' j) = xcode (fun j => x (ix2 r j)) (fun j : Fin 4096 => g (ix2 (0 : Fin 1) j)) ⟨j.val / 128, by have := j.isLt; omega⟩ ⟨j.val % 128, by omega⟩ :=
  codes_at (N := k0_t9_loop.trips) (by decide) (fun (r : Fin 256) j => x (ix2 r j)) (fun j : Fin 4096 => g (ix2 (0 : Fin 1) j)) (fun k : Fin k0_t9_loop.trips => arg2.view.readAt (Elt Ideal) (Rect.unit (s := S256x4096) (k0_off17 k) S32x128.size (k0_off17_inb i k k0_h2)).toLoadRect (harg2.unread x)) (fun k : Fin k0_t9_loop.trips => arg19.view.readAt (Elt Ideal) (Rect.unit (s := S256x128) (k0_off18 k) S32x128.size (k0_off18_inb i k k0_h2)).toLoadRect X19) (fun k : Fin k0_t9_loop.trips => arg3.view.readAt (Elt Ideal) (Rect.unit (s := S1x4096) (k0_off19 k) S1x128.size (k0_off19_inb i k k0_h2)).toLoadRect (harg3.unread g)) (hv_t9 i arg2 harg2 arg3 harg3 arg19 k0_h2 x g X19 hR) 0 (fun n => (st_k0_t9 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_h2 (iota .tc S32x128 32 [1] iota_S32x128_d1_w32) (harg2.unread x) (harg3.unread g) X19 init n).2.2.1) rfl
    (fun k => k0_off20 k) (fun k => k0_off20_eq k) (fun k => k0_off20_inb i k k0_h2)
    (fun k => succC_t9 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_h2 x g X19 init k) T r j r' hr

/-- The dequantised blocks the loop leaves. -/
theorem deq_t9 (k0_h2 : k0_cond2 i = 1#1) (x : Vec Ideal S256x4096 .bf16) (g : Vec Ideal S1x4096 .f32)
    (X19 : BufTy.Contents (Elt Ideal) arg19.view.ty) (init : FVec Ideal S32x128 .f32)
    (hR : ∀ (r : Fin 256) (l : Fin 128), arg19.view.read (Elt Ideal) X19 (ix2 r l) = rinv (fun j => x (ix2 r j)))
    (T) (b : Fin 32) (r : Fin 256) (q : Fin 128) :
    View.canon ((st_k0_t9 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_h2 (iota .tc S32x128 32 [1] iota_S32x128_d1_w32) (harg2.unread x) (harg3.unread g) X19 init k0_t9_loop.trips).2.1 ++ T) (ix3 b r q) = ((4 : ℝ) : EReal) * (xcode (fun j => x (ix2 r j)) (fun j : Fin 4096 => g (ix2 (0 : Fin 1) j)) b q * xsc (fun j => x (ix2 r j)) (fun j : Fin 4096 => g (ix2 (0 : Fin 1) j)) b) :=
  deq_at (N := k0_t9_loop.trips) (by decide) (fun (r : Fin 256) j => x (ix2 r j)) (fun j : Fin 4096 => g (ix2 (0 : Fin 1) j)) (fun k : Fin k0_t9_loop.trips => arg2.view.readAt (Elt Ideal) (Rect.unit (s := S256x4096) (k0_off17 k) S32x128.size (k0_off17_inb i k k0_h2)).toLoadRect (harg2.unread x)) (fun k : Fin k0_t9_loop.trips => arg19.view.readAt (Elt Ideal) (Rect.unit (s := S256x128) (k0_off18 k) S32x128.size (k0_off18_inb i k k0_h2)).toLoadRect X19) (fun k : Fin k0_t9_loop.trips => arg3.view.readAt (Elt Ideal) (Rect.unit (s := S1x4096) (k0_off19 k) S1x128.size (k0_off19_inb i k k0_h2)).toLoadRect (harg3.unread g)) (hv_t9 i arg2 harg2 arg3 harg3 arg19 k0_h2 x g X19 hR) (fun n => (st_k0_t9 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_h2 (iota .tc S32x128 32 [1] iota_S32x128_d1_w32) (harg2.unread x) (harg3.unread g) X19 init n).2.1) rfl
    (fun k => k0_off21 k) (fun k => k0_off21_eq k) (fun k => k0_off21_inb i k k0_h2)
    (fun k => succB_t9 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_h2 x g X19 init k) T b r q

/-- The recorded scales the loop leaves. -/
theorem scales_t9 (k0_h2 : k0_cond2 i = 1#1) (x : Vec Ideal S256x4096 .bf16) (g : Vec Ideal S1x4096 .f32)
    (X19 : BufTy.Contents (Elt Ideal) arg19.view.ty) (init : FVec Ideal S32x128 .f32)
    (hR : ∀ (r : Fin 256) (l : Fin 128), arg19.view.read (Elt Ideal) X19 (ix2 r l) = rinv (fun j => x (ix2 r j)))
    (T) (r : Fin 256) (l : Fin 128) (b : Fin 32) (hb : l.val = b.val) :
    View.canon ((st_k0_t9 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_h2 (iota .tc S32x128 32 [1] iota_S32x128_d1_w32) (harg2.unread x) (harg3.unread g) X19 init k0_t9_loop.trips).2.2.2 ++ T) (ix2 r l) = xfin (fun j => x (ix2 r j)) (fun j : Fin 4096 => g (ix2 (0 : Fin 1) j)) b :=
  scales_at (N := k0_t9_loop.trips) (by decide) (fun (r : Fin 256) j => x (ix2 r j)) (fun j : Fin 4096 => g (ix2 (0 : Fin 1) j)) (fun k : Fin k0_t9_loop.trips => arg2.view.readAt (Elt Ideal) (Rect.unit (s := S256x4096) (k0_off17 k) S32x128.size (k0_off17_inb i k k0_h2)).toLoadRect (harg2.unread x)) (fun k : Fin k0_t9_loop.trips => arg19.view.readAt (Elt Ideal) (Rect.unit (s := S256x128) (k0_off18 k) S32x128.size (k0_off18_inb i k k0_h2)).toLoadRect X19) (fun k : Fin k0_t9_loop.trips => arg3.view.readAt (Elt Ideal) (Rect.unit (s := S1x4096) (k0_off19 k) S1x128.size (k0_off19_inb i k k0_h2)).toLoadRect (harg3.unread g)) (hv_t9 i arg2 harg2 arg3 harg3 arg19 k0_h2 x g X19 hR) (fun n => (st_k0_t9 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_h2 (iota .tc S32x128 32 [1] iota_S32x128_d1_w32) (harg2.unread x) (harg3.unread g) X19 init n).2.2.2) rfl
    (fun n => (st_k0_t9 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_h2 (iota .tc S32x128 32 [1] iota_S32x128_d1_w32) (harg2.unread x) (harg3.unread g) X19 init n).1) (fun k => succR_t9 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_h2 x g X19 init k)
    (fun k => k0_off18 k) (fun k => k0_off18_eq k) (fun k => k0_off18_inb i k k0_h2)
    (fun k => succS_t9 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_h2 x g X19 init k) T r l b hb

end

end Cert.KernelIdeal.Gen
-- ==== Proof.RunNQ.lean ====
module

public import proofs.«01_k».proof.Proof.Gen.KernelIdeal.Frame
public import proofs.«01_k».proof.Proof.TripRead

@[expose] public section

/-! What a grid point leaves in the scratch arrays, in the codes' output and in the scales' output. -/

set_option maxRecDepth 16384

noncomputable section

open Idealize.ShloMosaic Idealize.ShloMosaic.TcCoe Idealize.SL.Sem
open scoped BigOperators

namespace Cert.KernelIdeal.Gen

open Cert.Val

/-- Two stores of 128 rows each, read at a row. -/
theorem two_halves (f : Fin 256 → EReal) (a b : FVec Ideal S128x128 .f32) (i1 i2) (L : List (View.Piece (Elt Ideal) S256x128 .f32))
    (ha : ∀ p l : Fin 128, a (ix2 p l) = f ⟨128 + p.val, by omega⟩) (hb : ∀ p l : Fin 128, b (ix2 p l) = f ⟨0 + p.val, by omega⟩)
    (r : Fin 256) (l : Fin 128) :
    View.canon ((⟨Rect.unit (s := S256x128) ![128, 0] ![128, 128] i1, a⟩ : View.Piece (Elt Ideal) S256x128 .f32)
      :: (⟨Rect.unit (s := S256x128) ![0, 0] ![128, 128] i2, b⟩ : View.Piece (Elt Ideal) S256x128 .f32) :: L) (ix2 r l) = f r := by
  by_cases h : 128 ≤ r.val
  · have e := emb2 (M := 256) (N := 128) 128 0 rfl i1 (⟨r.val - 128, by omega⟩ : Fin 128) l r l (by show r.val = 128 + (r.val - 128); omega) (by omega)
    rw [← e]
    refine (View.canon_cons_emb (Val := Elt Ideal) (e := .f32) _ _ _ _).trans ?_
    refine (ha _ _).trans (congrArg f (Fin.ext ?_))
    show 128 + (r.val - 128) = r.val
    omega
  · have e := emb2 (M := 256) (N := 128) 0 0 rfl i2 (⟨r.val, by omega⟩ : Fin 128) l r l (by show r.val = 0 + r.val; omega) (by omega)
    refine (View.canon_cons_of_not_mem (Val := Elt Ideal) (e := .f32) _ _ ?_).trans ?_
    · exact nmem2 (M := 256) (N := 128) (a := 128) (b := 128) 128 0 rfl i1 r l (by omega)
    rw [← e]
    refine (View.canon_cons_emb (Val := Elt Ideal) (e := .f32) _ _ _ _).trans ?_
    refine (hb _ _).trans (congrArg f (Fin.ext ?_))
    show 0 + r.val = r.val
    omega

section
variable (c : Dev nD) (i : grid0.Coords) (arg1 : Memref sig .tc .vmem S256x4096 .bf16) (harg1 : arg1.IsWhole) (arg2 : Memref sig .tc .vmem S256x4096 .bf16) (harg2 : arg2.IsWhole) (arg3 : Memref sig .tc .vmem S1x4096 .f32) (harg3 : arg3.IsWhole) (arg4 : Memref sig .tc .vmem S4096x1536 .fp8e4m3) (harg4 : arg4.IsWhole) (arg5 : Memref sig .tc .vmem S1x1536 .f32) (harg5 : arg5.IsWhole) (arg6 : Memref sig .tc .vmem S512x4x128 .fp8e4m3) (harg6 : arg6.IsWhole) (arg7 : Memref sig .tc .vmem S4x512 .f32) (harg7 : arg7.IsWhole) (arg8 : Memref sig .tc .vmem S512x4x128 .fp8e4m3) (harg8 : arg8.IsWhole) (arg9 : Memref sig .tc .vmem S4x512 .f32) (harg9 : arg9.IsWhole) (arg10 : Memref sig .tc .vmem S512x4x128 .fp8e4m3) (harg10 : arg10.IsWhole) (arg11 : Memref sig .tc .vmem S4x512 .f32) (harg11 : arg11.IsWhole) (arg12 : Memref sig .tc .vmem S512x4096 .fp8e4m3) (harg12 : arg12.IsWhole) (arg13 : Memref sig .tc .vmem S32x512 .f32) (harg13 : arg13.IsWhole) (arg14 : Memref sig .tc .vmem S32x256x128 .bf16) (harg14 : arg14.IsWhole) (arg15 : Memref sig .tc .vmem S32x256x128 .bf16) (harg15 : arg15.IsWhole) (arg16 : Memref sig .tc .vmem S256x4096 .fp8e4m3) (harg16 : arg16.IsWhole) (arg17 : Memref sig .tc .vmem S256x128 .f32) (harg17 : arg17.IsWhole) (arg18 : Memref sig .tc .vmem S256x128 .f32) (harg18 : arg18.IsWhole) (arg19 : Memref sig .tc .vmem S256x128 .f32) (harg19 : arg19.IsWhole)

/-- The statistics the first point leaves. -/
theorem statA (hc0 : ¬cond0_0 i) (hc1 : cond0_1 i) (x0 : Vec Ideal S256x4096 .bf16) (x1 : Vec Ideal S256x4096 .bf16) (x2 : Vec Ideal S1x4096 .f32) (x3 : Vec Ideal S4096x1536 .fp8e4m3) (x4 : Vec Ideal S1x1536 .f32) (r : Fin 256) (l : Fin 128) :
    arg19.view.read (Elt Ideal) (arg19.view.writes (Elt Ideal) arg19.view.junk (kernelRun0_A.sl.HS5_2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc1 x1)) (ix2 r l)
      = rinv (fun j : Fin 4096 => x1 (ix2 r j)) := by
  refine (View.read_writes_junk_apply_eq_canon (Val := Elt Ideal) arg19.view (ix2 r l) _).trans ?_
  unfold kernelRun0_A.sl.HS5_2
  refine two_halves (fun r => rinv (fun j : Fin 4096 => x1 (ix2 r j))) _ _ _ _ [] (fun p l => ?_) (fun p l => ?_) r l
  · unfold kernelRun0_A.sl.r_1
    rw [pay2_eq]
    exact stats_t8 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc1 _ x1 _ p l
  · unfold kernelRun0_A.sl.r
    exact stats_t7 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc1 x1 _ p l

/-- The statistics of the block a later point quantises for itself. -/
theorem statB1 (hc0 : cond0_0 i) (hc1 : ¬cond0_1 i) (x0 : Vec Ideal S256x4096 .bf16) (x1 : Vec Ideal S256x4096 .bf16) (x2 : Vec Ideal S1x4096 .f32) (x3 : Vec Ideal S4096x1536 .fp8e4m3) (x4 : Vec Ideal S1x1536 .f32) (xs0 : Vec Ideal S32x256x128 .bf16) (xs2 : Vec Ideal S256x4096 .fp8e4m3) (xs3 : Vec Ideal S256x128 .f32) (r : Fin 256) (l : Fin 128) :
    arg19.view.read (Elt Ideal) (arg19.view.writes (Elt Ideal) arg19.view.junk (kernelRun0_B.sl.HS5_2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0)) (ix2 r l)
      = rinv (fun j : Fin 4096 => x0 (ix2 r j)) := by
  refine (View.read_writes_junk_apply_eq_canon (Val := Elt Ideal) arg19.view (ix2 r l) _).trans ?_
  unfold kernelRun0_B.sl.HS5_2
  refine two_halves (fun r => rinv (fun j : Fin 4096 => x0 (ix2 r j))) _ _ _ _ [] (fun p l => ?_) (fun p l => ?_) r l
  · unfold kernelRun0_B.sl.r_2 kernelRun0_B.sl.r_3 kernelRun0_B.sl.r_4
    rw [pay31_eq]
    exact stats_t2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 _ _ x0 _ p l
  · unfold kernelRun0_B.sl.r kernelRun0_B.sl.r_1
    rw [pay25_eq]
    exact stats_t1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 _ p l

/-- The statistics of the block a later point quantises for the next one. -/
theorem statB2 (hc0 : cond0_0 i) (hc1 : ¬cond0_1 i) (x0 : Vec Ideal S256x4096 .bf16) (x1 : Vec Ideal S256x4096 .bf16) (x2 : Vec Ideal S1x4096 .f32) (x3 : Vec Ideal S4096x1536 .fp8e4m3) (x4 : Vec Ideal S1x1536 .f32) (xs0 : Vec Ideal S32x256x128 .bf16) (xs2 : Vec Ideal S256x4096 .fp8e4m3) (xs3 : Vec Ideal S256x128 .f32) (i1) (i2) (r : Fin 256) (l : Fin 128) :
    arg19.view.read (Elt Ideal) (arg19.view.writes (Elt Ideal) arg19.view.junk
      ((⟨Rect.unit (s := S256x128) ![128, 0] ![128, 128] i1, k0_pay192 (kernelRun0_B.sl.r_66 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x1 x3 x4 xs0) (kernelRun0_B.sl.r_67 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x1 x3 x4 xs0)⟩ : View.Piece (Elt Ideal) S256x128 .f32)
        :: (⟨Rect.unit (s := S256x128) ![0, 0] ![128, 128] i2, k0_pay187 (kernelRun0_B.sl.r_64 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x1 x3 x4 xs0) (kernelRun0_B.sl.r_65 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x1 x3 x4 xs0)⟩ : View.Piece (Elt Ideal) S256x128 .f32)
        :: kernelRun0_B.sl.HS5_2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0)) (ix2 r l)
      = rinv (fun j : Fin 4096 => x1 (ix2 r j)) := by
  refine (View.read_writes_junk_apply_eq_canon (Val := Elt Ideal) arg19.view (ix2 r l) _).trans ?_
  refine two_halves (fun r => rinv (fun j : Fin 4096 => x1 (ix2 r j))) _ _ _ _ _ (fun p l => ?_) (fun p l => ?_) r l
  · unfold kernelRun0_B.sl.r_66 kernelRun0_B.sl.r_67
    rw [pay192_eq]
    exact stats_t5 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 _ _ x1 _ p l
  · unfold kernelRun0_B.sl.r_64 kernelRun0_B.sl.r_65
    rw [pay187_eq]
    exact stats_t4 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 _ _ x1 _ p l

/-- The dequantised blocks carried on. -/
theorem s0A (hc0 : ¬cond0_0 i) (hc1 : cond0_1 i) (x0 : Vec Ideal S256x4096 .bf16) (x1 : Vec Ideal S256x4096 .bf16) (x2 : Vec Ideal S1x4096 .f32) (x3 : Vec Ideal S4096x1536 .fp8e4m3) (x4 : Vec Ideal S1x1536 .f32) (b : Fin 32) (r : Fin 256) (q : Fin 128) :
    sout0_A_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 (ix3 b r q) = ((4 : ℝ) : EReal) * (xcode (fun j : Fin 4096 => x1 (ix2 r j)) (fun j : Fin 4096 => x2 (ix2 (0 : Fin 1) j)) b q * xsc (fun j : Fin 4096 => x1 (ix2 r j)) (fun j : Fin 4096 => x2 (ix2 (0 : Fin 1) j)) b) := by
  unfold sout0_A_0 kernelRun0_A
  dsimp only
  refine (View.read_writes_junk_apply_eq_canon (Val := Elt Ideal) VS0_0 (ix3 b r q) _).trans ?_
  exact deq_t9 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc1 x1 x2 _ _ (statA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4) _ b r q

/-- The codes carried on. -/
theorem s2A (hc0 : ¬cond0_0 i) (hc1 : cond0_1 i) (x0 : Vec Ideal S256x4096 .bf16) (x1 : Vec Ideal S256x4096 .bf16) (x2 : Vec Ideal S1x4096 .f32) (x3 : Vec Ideal S4096x1536 .fp8e4m3) (x4 : Vec Ideal S1x1536 .f32) (r : Fin 256) (j : Fin 4096) :
    sout0_A_2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 (ix2 r j) = xcode (fun j : Fin 4096 => x1 (ix2 r j)) (fun j : Fin 4096 => x2 (ix2 (0 : Fin 1) j)) ⟨j.val / 128, by have := j.isLt; omega⟩ ⟨j.val % 128, by omega⟩ := by
  unfold sout0_A_2 kernelRun0_A
  dsimp only
  refine (View.read_writes_junk_apply_eq_canon (Val := Elt Ideal) VS0_2 (ix2 r j) _).trans ?_
  rw [← List.append_nil (Prod.fst (Prod.snd (Prod.snd _)))]
  exact codes_t9 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc1 x1 x2 _ _ (statA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4) [] r j r rfl

/-- The recorded scales carried on. -/
theorem s3A (hc0 : ¬cond0_0 i) (hc1 : cond0_1 i) (x0 : Vec Ideal S256x4096 .bf16) (x1 : Vec Ideal S256x4096 .bf16) (x2 : Vec Ideal S1x4096 .f32) (x3 : Vec Ideal S4096x1536 .fp8e4m3) (x4 : Vec Ideal S1x1536 .f32) (r : Fin 256) (l : Fin 128) (b : Fin 32) (hb : l.val = b.val) :
    sout0_A_3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 (ix2 r l) = xfin (fun j : Fin 4096 => x1 (ix2 r j)) (fun j : Fin 4096 => x2 (ix2 (0 : Fin 1) j)) b := by
  unfold sout0_A_3 kernelRun0_A
  dsimp only
  refine (View.read_writes_junk_apply_eq_canon (Val := Elt Ideal) VS0_3 (ix2 r l) _).trans ?_
  exact scales_t9 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc1 x1 x2 _ _ (statA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4) _ r l b hb

/-- The dequantised blocks carried on. -/
theorem s0B (hc0 : cond0_0 i) (hc1 : ¬cond0_1 i) (x0 : Vec Ideal S256x4096 .bf16) (x1 : Vec Ideal S256x4096 .bf16) (x2 : Vec Ideal S1x4096 .f32) (x3 : Vec Ideal S4096x1536 .fp8e4m3) (x4 : Vec Ideal S1x1536 .f32) (xs0 : Vec Ideal S32x256x128 .bf16) (xs2 : Vec Ideal S256x4096 .fp8e4m3) (xs3 : Vec Ideal S256x128 .f32) (b : Fin 32) (r : Fin 256) (q : Fin 128) :
    sout0_B_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 xs0 xs2 xs3 (ix3 b r q) = ((4 : ℝ) : EReal) * (xcode (fun j : Fin 4096 => x1 (ix2 r j)) (fun j : Fin 4096 => x2 (ix2 (0 : Fin 1) j)) b q * xsc (fun j : Fin 4096 => x1 (ix2 r j)) (fun j : Fin 4096 => x2 (ix2 (0 : Fin 1) j)) b) := by
  unfold sout0_B_0 kernelRun0_B
  dsimp only
  refine (View.read_writes_junk_apply_eq_canon (Val := Elt Ideal) VS0_0 (ix3 b r q) _).trans ?_
  exact deq_t6 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 k0_pay195 x1 x2 _ _ (statB2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 xs0 xs2 xs3 _ _) _ b r q

/-- The codes carried on. -/
theorem s2B (hc0 : cond0_0 i) (hc1 : ¬cond0_1 i) (x0 : Vec Ideal S256x4096 .bf16) (x1 : Vec Ideal S256x4096 .bf16) (x2 : Vec Ideal S1x4096 .f32) (x3 : Vec Ideal S4096x1536 .fp8e4m3) (x4 : Vec Ideal S1x1536 .f32) (xs0 : Vec Ideal S32x256x128 .bf16) (xs2 : Vec Ideal S256x4096 .fp8e4m3) (xs3 : Vec Ideal S256x128 .f32) (r : Fin 256) (j : Fin 4096) :
    sout0_B_2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 xs0 xs2 xs3 (ix2 r j) = xcode (fun j : Fin 4096 => x1 (ix2 r j)) (fun j : Fin 4096 => x2 (ix2 (0 : Fin 1) j)) ⟨j.val / 128, by have := j.isLt; omega⟩ ⟨j.val % 128, by omega⟩ := by
  unfold sout0_B_2 kernelRun0_B
  dsimp only
  refine (View.read_writes_junk_apply_eq_canon (Val := Elt Ideal) VS0_2 (ix2 r j) _).trans ?_
  rw [← List.append_nil (Prod.fst (Prod.snd (Prod.snd _)))]
  exact codes_t6 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 k0_pay195 x1 x2 _ _ (statB2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 xs0 xs2 xs3 _ _) [] r j r rfl

/-- The recorded scales carried on. -/
theorem s3B (hc0 : cond0_0 i) (hc1 : ¬cond0_1 i) (x0 : Vec Ideal S256x4096 .bf16) (x1 : Vec Ideal S256x4096 .bf16) (x2 : Vec Ideal S1x4096 .f32) (x3 : Vec Ideal S4096x1536 .fp8e4m3) (x4 : Vec Ideal S1x1536 .f32) (xs0 : Vec Ideal S32x256x128 .bf16) (xs2 : Vec Ideal S256x4096 .fp8e4m3) (xs3 : Vec Ideal S256x128 .f32) (r : Fin 256) (l : Fin 128) (b : Fin 32) (hb : l.val = b.val) :
    sout0_B_3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 xs0 xs2 xs3 (ix2 r l) = xfin (fun j : Fin 4096 => x1 (ix2 r j)) (fun j : Fin 4096 => x2 (ix2 (0 : Fin 1) j)) b := by
  unfold sout0_B_3 kernelRun0_B
  dsimp only
  refine (View.read_writes_junk_apply_eq_canon (Val := Elt Ideal) VS0_3 (ix2 r l) _).trans ?_
  exact scales_t6 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 k0_pay195 x1 x2 _ _ (statB2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 xs0 xs2 xs3 _ _) _ r l b hb

/-- The codes given out: the block the point quantised. -/
theorem o11_hi (hc0 : cond0_0 i) (hc1 : ¬cond0_1 i) (x0 : Vec Ideal S256x4096 .bf16) (x1 : Vec Ideal S256x4096 .bf16) (x2 : Vec Ideal S1x4096 .f32) (x3 : Vec Ideal S4096x1536 .fp8e4m3) (x4 : Vec Ideal S1x1536 .f32) (xs0 : Vec Ideal S32x256x128 .bf16) (xs2 : Vec Ideal S256x4096 .fp8e4m3) (xs3 : Vec Ideal S256x128 .f32) (r : Fin 256) (j : Fin 4096) (r' : Fin 512) (hr : r'.val = r.val + 256) :
    out0_B_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 xs0 xs2 xs3 (ix2 r' j) = xcode (fun j : Fin 4096 => x0 (ix2 r j)) (fun j : Fin 4096 => x2 (ix2 (0 : Fin 1) j)) ⟨j.val / 128, by have := j.isLt; omega⟩ ⟨j.val % 128, by omega⟩ := by
  unfold out0_B_11 kernelRun0_B
  dsimp only
  refine (View.read_writes_junk_apply_eq_canon (Val := Elt Ideal) VO0_11 (ix2 r' j) _).trans ?_
  exact codes_t3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 _ _ _ x0 x2 _ _ (statB1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 xs0 xs2 xs3) _ r j r' hr

/-- The codes given out: the block carried from the point before. -/
theorem o11_lo (hc0 : cond0_0 i) (hc1 : ¬cond0_1 i) (x0 : Vec Ideal S256x4096 .bf16) (x1 : Vec Ideal S256x4096 .bf16) (x2 : Vec Ideal S1x4096 .f32) (x3 : Vec Ideal S4096x1536 .fp8e4m3) (x4 : Vec Ideal S1x1536 .f32) (xs0 : Vec Ideal S32x256x128 .bf16) (xs2 : Vec Ideal S256x4096 .fp8e4m3) (xs3 : Vec Ideal S256x128 .f32) (r : Fin 256) (j : Fin 4096) (r' : Fin 512) (hr : r'.val = r.val) :
    out0_B_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 xs0 xs2 xs3 (ix2 r' j) = xs2 (ix2 r j) := by
  unfold out0_B_11 kernelRun0_B
  dsimp only
  refine (View.read_writes_junk_apply_eq_canon (Val := Elt Ideal) VO0_11 (ix2 r' j) _).trans ?_
  refine (codes_before_t3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 _ _ _ x0 x2 _ _ (statB1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 xs0 xs2 xs3) _ j r' (by omega)).trans ?_
  have e := emb2 (M := 512) (N := 4096) 0 0 rfl inb_S512x4096_S256x4096_0_0 r j r' j (by omega) (by omega)
  rw [← e]
  refine (View.canon_cons_emb (Val := Elt Ideal) (e := .fp8e4m3) _ _ _ _).trans ?_
  refine (rd2 arg16 _ 0 0 rfl _ r j r j (by omega) (by omega)).trans ?_
  rw [harg16.read_unread]

/-- The dequantised block the point projects for itself. -/
theorem deqB (hc0 : cond0_0 i) (hc1 : ¬cond0_1 i) (x0 : Vec Ideal S256x4096 .bf16) (x1 : Vec Ideal S256x4096 .bf16) (x2 : Vec Ideal S1x4096 .f32) (x3 : Vec Ideal S4096x1536 .fp8e4m3) (x4 : Vec Ideal S1x1536 .f32) (xs0 : Vec Ideal S32x256x128 .bf16) (xs2 : Vec Ideal S256x4096 .fp8e4m3) (xs3 : Vec Ideal S256x128 .f32) (T) (b : Fin 32) (r : Fin 256) (q : Fin 128) :
    View.canon ((st_k0_t3 Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 kernelRun0_B.sl.v12 (kernelRun0_B.sl.r_2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0) (kernelRun0_B.sl.r_3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0) (kernelRun0_B.sl.r_4 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0) (harg1.unread x0) (harg3.unread x2) (arg19.view.writes (Elt Ideal) arg19.view.junk (kernelRun0_B.sl.HS5_2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0)) k0_pay34 (Scf.trips 0#32 (Scalar.addi 0#32 256#32) 1#32)).2.2.1 ++ T) (ix3 b r q)
      = ((4 : ℝ) : EReal) * (xcode (fun j : Fin 4096 => x0 (ix2 r j)) (fun j : Fin 4096 => x2 (ix2 (0 : Fin 1) j)) b q * xsc (fun j : Fin 4096 => x0 (ix2 r j)) (fun j : Fin 4096 => x2 (ix2 (0 : Fin 1) j)) b) :=
  deq_t3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 _ _ _ x0 x2 _ _ (statB1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 xs0 xs2 xs3) T b r q

/-- The recorded scales of the point's own block. -/
theorem v822_at (hc0 : cond0_0 i) (hc1 : ¬cond0_1 i) (x0 : Vec Ideal S256x4096 .bf16) (x1 : Vec Ideal S256x4096 .bf16) (x2 : Vec Ideal S1x4096 .f32) (x3 : Vec Ideal S4096x1536 .fp8e4m3) (x4 : Vec Ideal S1x1536 .f32) (xs0 : Vec Ideal S32x256x128 .bf16) (xs2 : Vec Ideal S256x4096 .fp8e4m3) (xs3 : Vec Ideal S256x128 .f32) (r : Fin 256) (l : Fin 128) (b : Fin 32) (hb : l.val = b.val) :
    kernelRun0_B.sl.v822 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x2 (ix2 r l) = xfin (fun j : Fin 4096 => x0 (ix2 r j)) (fun j : Fin 4096 => x2 (ix2 (0 : Fin 1) j)) b := by
  unfold kernelRun0_B.sl.v822
  rw [View.readCov_eq_canon']
  have e := emb2 (M := 256) (N := 128) 0 0 rfl inb_S256x128_S256x128_0_0 r l r l (by omega) (by omega)
  refine (congrArg (View.canon _) e).trans ?_
  exact scales_t3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 _ _ _ x0 x2 _ _ (statB1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 xs0 xs2 xs3) _ r l b hb

/-- The scales given out, transposed: the point's own block. -/
theorem o12_hi (hc0 : cond0_0 i) (hc1 : ¬cond0_1 i) (x0 : Vec Ideal S256x4096 .bf16) (x1 : Vec Ideal S256x4096 .bf16) (x2 : Vec Ideal S1x4096 .f32) (x3 : Vec Ideal S4096x1536 .fp8e4m3) (x4 : Vec Ideal S1x1536 .f32) (xs0 : Vec Ideal S32x256x128 .bf16) (xs2 : Vec Ideal S256x4096 .fp8e4m3) (xs3 : Vec Ideal S256x128 .f32) (r : Fin 256) (b : Fin 32) (r' : Fin 512) (hr : r'.val = r.val + 256) :
    out0_B_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 xs0 xs2 xs3 (ix2 b r') = xfin (fun j : Fin 4096 => x0 (ix2 r j)) (fun j : Fin 4096 => x2 (ix2 (0 : Fin 1) j)) b := by
  have hp : ∀ v : Vec Ideal S256x128 .f32, k0_pay182 v (ix2 b r) = v (ix2 r (⟨b.val, by omega⟩ : Fin 128)) := fun v => by
    pointwise [k0_pay182]
  unfold out0_B_12 kernelRun0_B
  dsimp only
  refine (View.read_writes_junk_apply_eq_canon (Val := Elt Ideal) VO0_12 (ix2 b r') _).trans ?_
  unfold kernelRun0_B.sl.H12_2
  have e := emb2 (M := 32) (N := 512) 0 256 rfl inb_S32x512_S32x256_0_256 b r b r' (by omega) (by omega)
  rw [← e]
  refine (View.canon_cons_emb (Val := Elt Ideal) (e := .f32) _ _ _ _).trans ?_
  exact (hp _).trans (v822_at c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 xs0 xs2 xs3 r _ b rfl)

/-- The scales given out, transposed: the block carried from the point before. -/
theorem o12_lo (hc0 : cond0_0 i) (hc1 : ¬cond0_1 i) (x0 : Vec Ideal S256x4096 .bf16) (x1 : Vec Ideal S256x4096 .bf16) (x2 : Vec Ideal S1x4096 .f32) (x3 : Vec Ideal S4096x1536 .fp8e4m3) (x4 : Vec Ideal S1x1536 .f32) (xs0 : Vec Ideal S32x256x128 .bf16) (xs2 : Vec Ideal S256x4096 .fp8e4m3) (xs3 : Vec Ideal S256x128 .f32) (r : Fin 256) (b : Fin 32) (r' : Fin 512) (hr : r'.val = r.val) :
    out0_B_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 xs0 xs2 xs3 (ix2 b r') = xs3 (ix2 r (⟨b.val, by omega⟩ : Fin 128)) := by
  have hp : ∀ v : Vec Ideal S256x128 .f32, k0_pay19 v (ix2 b r) = v (ix2 r (⟨b.val, by omega⟩ : Fin 128)) := fun v => by
    pointwise [k0_pay19]
  unfold out0_B_12 kernelRun0_B
  dsimp only
  refine (View.read_writes_junk_apply_eq_canon (Val := Elt Ideal) VO0_12 (ix2 b r') _).trans ?_
  unfold kernelRun0_B.sl.H12_2
  have e := emb2 (M := 32) (N := 512) 0 0 rfl inb_S32x512_S32x256_0_0 b r b r' (by omega) (by omega)
  refine (View.canon_cons_of_not_mem (Val := Elt Ideal) (e := .f32) _ _ ?_).trans ?_
  · exact nmem2 (M := 32) (N := 512) (a := 32) (b := 256) 0 256 rfl inb_S32x512_S32x256_0_256 b r' (by omega)
  rw [← e]
  refine (View.canon_cons_emb (Val := Elt Ideal) (e := .f32) _ _ _ _).trans ?_
  refine (hp _).trans ?_
  refine (rd2 arg17 _ 0 0 rfl _ r (⟨b.val, by omega⟩ : Fin 128) r (⟨b.val, by omega⟩ : Fin 128) (by omega) (by show b.val = 0 + b.val; omega)).trans ?_
  rw [harg17.read_unread]

end

end Cert.KernelIdeal.Gen
-- ==== Proof.HeadQuant.lean ====
module

public import proofs.«01_k».proof.Proof.KerQuant
public import Idealize.ShloMosaic.Lib.Pipeline.ValueKit

@[expose] public section

/-! The projection of one tile and the quantiser of one head of it, over the extended reals. -/

set_option maxRecDepth 16384

noncomputable section

open Idealize.ShloMosaic Idealize.ShloMosaic.TcCoe Idealize.SL.Sem
open scoped BigOperators

namespace Cert.KernelIdeal.Gen

open Cert.Val

/-- The 32 dequantised blocks, side by side. -/
def catB (f : Fin 32 → FVec Ideal S256x128 .bf16) : FVec Ideal S256x4096 .bf16 :=
  concatenate S256x4096 1 [⟨S256x128, f 0⟩, ⟨S256x128, f 1⟩, ⟨S256x128, f 2⟩, ⟨S256x128, f 3⟩, ⟨S256x128, f 4⟩, ⟨S256x128, f 5⟩, ⟨S256x128, f 6⟩, ⟨S256x128, f 7⟩, ⟨S256x128, f 8⟩, ⟨S256x128, f 9⟩, ⟨S256x128, f 10⟩, ⟨S256x128, f 11⟩, ⟨S256x128, f 12⟩, ⟨S256x128, f 13⟩, ⟨S256x128, f 14⟩, ⟨S256x128, f 15⟩, ⟨S256x128, f 16⟩, ⟨S256x128, f 17⟩, ⟨S256x128, f 18⟩, ⟨S256x128, f 19⟩, ⟨S256x128, f 20⟩, ⟨S256x128, f 21⟩, ⟨S256x128, f 22⟩, ⟨S256x128, f 23⟩, ⟨S256x128, f 24⟩, ⟨S256x128, f 25⟩, ⟨S256x128, f 26⟩, ⟨S256x128, f 27⟩, ⟨S256x128, f 28⟩, ⟨S256x128, f 29⟩, ⟨S256x128, f 30⟩, ⟨S256x128, f 31⟩] concatenates_S256x128_S256x128_S256x128_S256x128_S256x128_S256x128_S256x128_S256x128_S256x128_S256x128_S256x128_S256x128_S256x128_S256x128_S256x128_S256x128_S256x128_S256x128_S256x128_S256x128_S256x128_S256x128_S256x128_S256x128_S256x128_S256x128_S256x128_S256x128_S256x128_S256x128_S256x128_S256x128_S256x4096_d1

/-- A block without its leading axis. -/
def blk0 (v : Vec Ideal S1x256x128 .bf16) : FVec Ideal S256x128 .bf16 := shapeCast S256x128 v shapeCasts_S1x256x128_S256x128

/-- The product with 512 columns of the weights. -/
def projM (y : FVec Ideal S256x4096 .bf16) (w : Vec Ideal S4096x512 .fp8e4m3) : FVec Ideal S256x512 .f32 :=
  matmul (φ₂ := .fp8e4m3) dot_S256x4096_S4096x512_S256x512_1_0_0_1_n_n none y w (constant S256x512 .f32 0x00000000#32)

/-- One head of the product, rescaled. -/
def headY (o : ℕ) (h : S256x512.Slices ![0, o] S256x128) (a : FVec Ideal S256x512 .f32) (s : Vec Ideal S1x128 .f32) : FVec Ideal S256x128 .f32 :=
  mulf (extractStridedSlice S256x128 ![0, o] a h)
    (broadcastTo S256x128 (mulf (shapeCast S1x128 s shapeCasts_S1x128_S1x128) (broadcast S1x128 (Scalar.ofBits .f32 0x3E800000#32))) broadcasts_S1x128_S256x128)

/-- The exponent bits of a head's rows. -/
def expo (y : FVec Ideal S256x128 .f32) : IVec S256x1 32 :=
  shapeCast S256x1 (multiReductionI .maxsi [1] S256
    (select (cmpf .ole (bitcastToFloat .f32 (shli (iota .tc S256x256 32 [1] iota_S256x256_d1_w32) (broadcast S256x256 23#32)) : FVec Ideal S256x256 .f32)
        (broadcastTo S256x256 (mulf (shapeCast S256x1 (multiReduction .maximumf [1] S256 (absf y) 0xFF800000#32 reduces_S256x128_S256 (.inl rfl) rfl) shapeCasts_S256_S256x1)
          (broadcast S256x1 (Scalar.ofBits .f32 0x3C924925#32))) broadcasts_S256x1_S256x256))
      (shli (iota .tc S256x256 32 [1] iota_S256x256_d1_w32) (broadcast S256x256 23#32)) (broadcast S256x256 0#32))
    2147483648#32 reduces_S256x256_S256 rfl) shapeCasts_S256_S256x1

/-- The codes of a head, before the stack. -/
def codesH (y : FVec Ideal S256x128 .f32) : FVec Ideal S256x128 .fp8e4m3 :=
  truncf .fp8e4m3 (minimumf (broadcast S256x128 (Scalar.ofBits .f32 0x43E00000#32)) (maximumf (broadcast S256x128 (Scalar.ofBits .f32 0xC3E00000#32))
    (mulf y (broadcastTo S256x128 (bitcastToFloat .f32 (subi (broadcast S256x1 2147483648#32) (expo y))) broadcasts_S256x1_S256x128)))) bitsLt_fp8e4m3_f32

/-- The record of the heads' scales after head `k`. -/
def denseH (k : BitVec 32) (y prev : FVec Ideal S256x128 .f32) : FVec Ideal S256x128 .f32 :=
  select (cmpi .eq (iota .tc S256x128 32 [1] iota_S256x128_d1_w32) (broadcast S256x128 k))
    (broadcastTo S256x128 (shapeCast S256x1 (bitcastToFloat .f32 (expo y)) shapeCasts_S256x1_S256x1) broadcasts_S256x1_S256x128) prev

/-- The record as it is given out. -/
def outS (d : FVec Ideal S256x128 .f32) : FVec Ideal S128x256 .f32 :=
  transpose S128x256 [1, 0] (select (cmpf .olt d (broadcast S256x128 (Scalar.ofBits .f32 0x01800000#32))) (broadcast S256x128 (Scalar.ofBits .f32 0x3F800000#32))
    (mulf d (broadcast S256x128 (Scalar.ofBits .f32 0x3E800000#32)))) transposes_S256x128_p1_0_S128x256

/-- Four heads' codes, stacked. -/
def stack4 (a b c d : FVec Ideal S256x128 .fp8e4m3) : FVec Ideal S256x4x128 .fp8e4m3 :=
  concatenate S256x4x128 1 [⟨S256x1x128, shapeCast S256x1x128 a shapeCasts_S256x128_S256x1x128⟩, ⟨S256x1x128, shapeCast S256x1x128 b shapeCasts_S256x128_S256x1x128⟩, ⟨S256x1x128, shapeCast S256x1x128 c shapeCasts_S256x128_S256x1x128⟩, ⟨S256x1x128, shapeCast S256x1x128 d shapeCasts_S256x128_S256x1x128⟩] concatenates_S256x1x128_S256x1x128_S256x1x128_S256x1x128_S256x4x128_d1

theorem catB_at (f : Fin 32 → FVec Ideal S256x128 .bf16) (r : Fin 256) (i : Fin 4096) :
    catB f (ix2 r i) = f ⟨i.val / 128, by omega⟩ (ix2 r (⟨i.val % 128, by omega⟩ : Fin 128)) :=
  concatenate_ofFn_apply (t := S256x4096) (s₁ := S256x128) 1 f concatenates_S256x128_S256x128_S256x128_S256x128_S256x128_S256x128_S256x128_S256x128_S256x128_S256x128_S256x128_S256x128_S256x128_S256x128_S256x128_S256x128_S256x128_S256x128_S256x128_S256x128_S256x128_S256x128_S256x128_S256x128_S256x128_S256x128_S256x128_S256x128_S256x128_S256x128_S256x128_S256x128_S256x4096_d1 rfl 128 rfl (ix2 r i) ⟨i.val / 128, by omega⟩ rfl
    (ix2 r (⟨i.val % 128, by omega⟩ : Fin 128)) rfl fun b hb => by
      fin_cases b
      · rfl
      · exact absurd rfl hb

theorem blk0_at (v : Vec Ideal S1x256x128 .bf16) (r : Fin 256) (q : Fin 128) : blk0 v (ix2 r q) = v (ix3 (0 : Fin 1) r q) := by
  unfold blk0
  pointwise []

theorem projM_at (y : FVec Ideal S256x4096 .bf16) (w : Vec Ideal S4096x512 .fp8e4m3) (r : Fin 256) (j : Fin 512) :
    projM y w (ix2 r j) = ∑ i : Fin 4096, y (ix2 r i) * w (ix2 i j) := by
  unfold projM
  pointwise []

theorem headY_at (o : ℕ) (h) (a : FVec Ideal S256x512 .f32) (s : Vec Ideal S1x128 .f32) (r : Fin 256) (q : Fin 128) (ho : o + 128 ≤ 512) :
    headY o h a s (ix2 r q) = a (ix2 r (⟨o + q.val, by omega⟩ : Fin 512)) * (s (ix2 (0 : Fin 1) q) * Ideal.ofBits .f32 1048576000#32) := by
  have e1 : extractStridedSlice S256x128 ![0, o] a h (ix2 r q) = a (ix2 r (⟨o + q.val, by omega⟩ : Fin 512)) :=
    extractStridedSlice_apply (s := S256x512) (t := S256x128) _ a h _ _ fun b => by
      fin_cases b
      · show r.val = 0 + r.val; omega
      · rfl
  have e2 : ∀ z : FVec Ideal S256x128 .f32, mulf z (broadcastTo S256x128 (mulf (shapeCast S1x128 s shapeCasts_S1x128_S1x128) (broadcast S1x128 (Scalar.ofBits .f32 0x3E800000#32))) broadcasts_S1x128_S256x128) (ix2 r q)
      = z (ix2 r q) * (s (ix2 (0 : Fin 1) q) * Ideal.ofBits .f32 1048576000#32) := fun z => by
    pointwise []
  exact (e2 _).trans (congrArg (· * _) e1)

theorem expo_at (y : FVec Ideal S256x128 .f32) (r : Fin 256) : expo y (ix2 r 0) = kerBits (amax fun q => y (ix2 r q)) := by
  pointwise [expo]
  rfl

section
variable (y : FVec Ideal S256x128 .f32) (r : Fin 256) (v : Fin 128 → EReal) (hv : ∀ q, y (ix2 r q) = v q)
include hv

theorem expo_v : expo y (ix2 r 0) = kerBits (amax v) :=
  (expo_at y r).trans (congrArg (fun f => kerBits (amax f)) (funext hv))

/-- A head's code. -/
theorem codesH_v (q : Fin 128) : codesH y (ix2 r q) = cod (amax v) (v q) := by
  have h : ∀ e : IVec S256x1 32, truncf .fp8e4m3 (minimumf (broadcast S256x128 (Scalar.ofBits (F := Ideal) .f32 0x43E00000#32)) (maximumf (broadcast S256x128 (Scalar.ofBits .f32 0xC3E00000#32))
      (mulf y (broadcastTo S256x128 (bitcastToFloat .f32 (subi (broadcast S256x1 2147483648#32) e)) broadcasts_S256x1_S256x128)))) bitsLt_fp8e4m3_f32 (ix2 r q)
      = min (Ideal.ofBits .f32 1138753536#32) (max (Ideal.ofBits .f32 3286237184#32) (y (ix2 r q) * Ideal.ofBits .f32 (IntOp.subi 2147483648#32 (e (ix2 r 0))))) := fun e => by
    pointwise []
  obtain ⟨h1, h2, h3⟩ := nn_spec (amax v)
  unfold codesH
  rw [h, expo_v y r v hv, h3, bits_iv _ h1, hv]
  rfl

/-- The record takes one lane. -/
theorem denseH_v (prev : FVec Ideal S256x128 .f32) (k : ℕ) (hk : k < 128) (l : Fin 128) :
    denseH (BitVec.ofNat 32 k) y prev (ix2 r l) = if l.val = k then ((4 : ℝ) : EReal) * sc (nn (amax v)) else prev (ix2 r l) := by
  have h : ∀ e : IVec S256x1 32, select (cmpi .eq (iota .tc S256x128 32 [1] iota_S256x128_d1_w32) (broadcast S256x128 (BitVec.ofNat 32 k)))
      (broadcastTo S256x128 (shapeCast S256x1 (bitcastToFloat .f32 e : FVec Ideal S256x1 .f32) shapeCasts_S256x1_S256x1) broadcasts_S256x1_S256x128) prev (ix2 r l)
      = if l.val = k then Ideal.ofBits .f32 (e (ix2 r 0)) else prev (ix2 r l) := fun e => by
    pointwise []
    have := cmpi_eq_lit l.val k (by have := l.isLt; omega) (by omega) (Ideal.ofBits .f32 (e (ix2 r 0))) (prev (ix2 r l))
    exact this
  obtain ⟨h1, h2, h3⟩ := nn_spec (amax v)
  unfold denseH
  rw [h, expo_v y r v hv, h3, bits_m _ h1]
end

/-- The record as it is given out, at one lane. -/
theorem outS_v (d : FVec Ideal S256x128 .f32) (r : Fin 256) (l : Fin 128) (A : EReal) (hd : d (ix2 r l) = ((4 : ℝ) : EReal) * sc (nn A)) :
    outS d (ix2 l r) = fin A := by
  have h : outS d (ix2 l r) = if d (ix2 r l) < Ideal.ofBits .f32 25165824#32 then Ideal.ofBits .f32 1065353216#32
        else d (ix2 r l) * Ideal.ofBits .f32 1048576000#32 := by
    pointwise [outS]
  rw [h, hd]; exact fin_ker A

/-- The stack, one head at a time. -/
theorem stack4_at (a : Fin 4 → FVec Ideal S256x128 .fp8e4m3) (r : Fin 256) (k : Fin 4) (q : Fin 128) :
    stack4 (a 0) (a 1) (a 2) (a 3) (ix3 r k q) = a k (ix2 r q) := by
  have e : ∀ z : FVec Ideal S256x128 .fp8e4m3, shapeCast S256x1x128 z shapeCasts_S256x128_S256x1x128 (ix3 r (0 : Fin 1) q) = z (ix2 r q) := fun z => by
    pointwise []
  refine (concatenate_ofFn_apply (t := S256x4x128) (s₁ := S256x1x128) 1 (fun k => shapeCast S256x1x128 (a k) shapeCasts_S256x128_S256x1x128)
    concatenates_S256x1x128_S256x1x128_S256x1x128_S256x1x128_S256x4x128_d1 rfl 1 rfl (ix3 r k q) k (Nat.div_one _)
    (ix3 r (0 : Fin 1) q) (Nat.mod_one _).symm fun b hb => ?_).trans (e _)
  fin_cases b
  · rfl
  · exact absurd rfl hb
  · rfl

end Cert.KernelIdeal.Gen
-- ==== Proof.Pieces.lean ====
module

public import proofs.«01_k».proof.Proof.Gen.KernelIdeal.Frame
public import proofs.«01_k».proof.Proof.HeadQuant

@[expose] public section

/-! The pieces of the body that make up one projection's codes and scales, as the plain functions of one tile. -/

set_option maxRecDepth 16384

noncomputable section

open Idealize.ShloMosaic Idealize.ShloMosaic.TcCoe Idealize.SL.Sem
open scoped BigOperators

namespace Cert.KernelIdeal.Gen

theorem sliceK (k : Fin 4) : S256x512.Slices ![0, 128 * k.val] S256x128 := by
  fin_cases k
  · exact slices_S256x512_o0_0_S256x128
  · exact slices_S256x512_o0_128_S256x128
  · exact slices_S256x512_o0_256_S256x128
  · exact slices_S256x512_o0_384_S256x128

theorem inbW (o : Fin 3) : ∀ a, (![0, 512 * o.val] : Fin 2 → Nat) a + S4096x512.size a ≤ S4096x1536.size a := by
  intro a
  fin_cases a
  · show 0 + 4096 ≤ 4096; omega
  · show 512 * o.val + 512 ≤ 1536; omega

theorem inbS (h : Fin 12) : ∀ a, (![0, 128 * h.val] : Fin 2 → Nat) a + S1x128.size a ≤ S1x1536.size a := by
  intro a
  fin_cases a
  · show 0 + 1 ≤ 1; omega
  · show 128 * h.val + 128 ≤ 1536; omega

/-- Head `h` of the projections of the tile whose dequantised blocks are `F`. -/
def YH (arg4 : Memref sig .tc .vmem S4096x1536 .fp8e4m3) (harg4 : arg4.IsWhole) (arg5 : Memref sig .tc .vmem S1x1536 .f32) (harg5 : arg5.IsWhole)
    (x3 : Vec Ideal S4096x1536 .fp8e4m3) (x4 : Vec Ideal S1x1536 .f32) (F : Fin 32 → FVec Ideal S256x128 .bf16) (h : Fin 12) : FVec Ideal S256x128 .f32 :=
  headY (128 * (⟨h.val % 4, by omega⟩ : Fin 4).val) (sliceK ⟨h.val % 4, by omega⟩)
    (projM (catB F) (arg4.view.readAt (Elt Ideal) (Rect.unit (s := S4096x1536) ![0, 512 * (⟨h.val / 4, by omega⟩ : Fin 3).val] S4096x512.size (inbW ⟨h.val / 4, by omega⟩)).toLoadRect (harg4.unread x3)))
    (arg5.view.readAt (Elt Ideal) (Rect.unit (s := S1x1536) ![0, 128 * h.val] S1x128.size (inbS h)).toLoadRect (harg5.unread x4))

section
variable (c : Dev nD) (i : grid0.Coords) (arg1 : Memref sig .tc .vmem S256x4096 .bf16) (harg1 : arg1.IsWhole) (arg2 : Memref sig .tc .vmem S256x4096 .bf16) (harg2 : arg2.IsWhole) (arg3 : Memref sig .tc .vmem S1x4096 .f32) (harg3 : arg3.IsWhole) (arg4 : Memref sig .tc .vmem S4096x1536 .fp8e4m3) (harg4 : arg4.IsWhole) (arg5 : Memref sig .tc .vmem S1x1536 .f32) (harg5 : arg5.IsWhole) (arg6 : Memref sig .tc .vmem S512x4x128 .fp8e4m3) (harg6 : arg6.IsWhole) (arg7 : Memref sig .tc .vmem S4x512 .f32) (harg7 : arg7.IsWhole) (arg8 : Memref sig .tc .vmem S512x4x128 .fp8e4m3) (harg8 : arg8.IsWhole) (arg9 : Memref sig .tc .vmem S4x512 .f32) (harg9 : arg9.IsWhole) (arg10 : Memref sig .tc .vmem S512x4x128 .fp8e4m3) (harg10 : arg10.IsWhole) (arg11 : Memref sig .tc .vmem S4x512 .f32) (harg11 : arg11.IsWhole) (arg12 : Memref sig .tc .vmem S512x4096 .fp8e4m3) (harg12 : arg12.IsWhole) (arg13 : Memref sig .tc .vmem S32x512 .f32) (harg13 : arg13.IsWhole) (arg14 : Memref sig .tc .vmem S32x256x128 .bf16) (harg14 : arg14.IsWhole) (arg15 : Memref sig .tc .vmem S32x256x128 .bf16) (harg15 : arg15.IsWhole) (arg16 : Memref sig .tc .vmem S256x4096 .fp8e4m3) (harg16 : arg16.IsWhole) (arg17 : Memref sig .tc .vmem S256x128 .f32) (harg17 : arg17.IsWhole) (arg18 : Memref sig .tc .vmem S256x128 .f32) (harg18 : arg18.IsWhole) (arg19 : Memref sig .tc .vmem S256x128 .f32) (harg19 : arg19.IsWhole) (hc0 : cond0_0 i) (x0 : Vec Ideal S256x4096 .bf16) (x2 : Vec Ideal S1x4096 .f32) (x3 : Vec Ideal S4096x1536 .fp8e4m3) (x4 : Vec Ideal S1x1536 .f32) (xs0 : Vec Ideal S32x256x128 .bf16)

theorem inbB (b : Fin 32) : ∀ a, (![b.val, 0, 0] : Fin 3 → Nat) a + S1x256x128.size a ≤ S32x256x128.size a := by
  intro a
  fin_cases a
  · show b.val + 1 ≤ 32; omega
  · show 0 + 256 ≤ 256; omega
  · show 0 + 128 ≤ 128; omega

/-- The blocks carried from the point before. -/
def F1 (arg14 : Memref sig .tc .vmem S32x256x128 .bf16) (harg14 : arg14.IsWhole) (xs0 : Vec Ideal S32x256x128 .bf16) (b : Fin 32) : FVec Ideal S256x128 .bf16 :=
  blk0 (arg14.view.readAt (Elt Ideal) (Rect.unit (s := S32x256x128) ![b.val, 0, 0] S1x256x128.size (inbB b)).toLoadRect (harg14.unread xs0))

/-- The blocks the point quantises for itself. -/
def F2 (b : Fin 32) : FVec Ideal S256x128 .bf16 :=
  blk0 (arg15.view.readCov ((st_k0_t3 Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 kernelRun0_B.sl.v12 (kernelRun0_B.sl.r_2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0) (kernelRun0_B.sl.r_3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0) (kernelRun0_B.sl.r_4 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0) (harg1.unread x0) (harg3.unread x2) (arg19.view.writes (Elt Ideal) arg19.view.junk (kernelRun0_B.sl.HS5_2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0)) k0_pay34 (Scf.trips k0_t3_loop.lb k0_t3_loop.ub k0_t3_loop.st)).2.2.1 ++ kernelRun0_B.sl.HS1_1) (Rect.unit (s := S32x256x128) ![b.val, 0, 0] S1x256x128.size (inbB b)).toLoadRect)

/-- The codes of one projection, one half of the block. -/
theorem codes1_0 :
    k0_pay86 (kernelRun0_B.sl.r_10 c arg4 harg4 arg5 harg5 arg14 harg14 x3 x4 xs0) (kernelRun0_B.sl.r_14 c arg4 harg4 arg5 harg5 arg14 harg14 x3 x4 xs0) (kernelRun0_B.sl.r_19 c arg4 harg4 arg5 harg5 arg14 harg14 x3 x4 xs0) (kernelRun0_B.sl.r_22 c arg4 harg4 arg5 harg5 arg14 harg14 x3 x4 xs0)
      = stack4 (codesH (YH arg4 harg4 arg5 harg5 x3 x4 (F1 arg14 harg14 xs0) 0)) (codesH (YH arg4 harg4 arg5 harg5 x3 x4 (F1 arg14 harg14 xs0) 1)) (codesH (YH arg4 harg4 arg5 harg5 x3 x4 (F1 arg14 harg14 xs0) 2)) (codesH (YH arg4 harg4 arg5 harg5 x3 x4 (F1 arg14 harg14 xs0) 3)) := by
  rfl

/-- The codes of one projection, one half of the block. -/
theorem codes1_1 :
    k0_pay129 (kernelRun0_B.sl.r_33 c arg4 harg4 arg5 harg5 arg14 harg14 x3 x4 xs0) (kernelRun0_B.sl.r_37 c arg4 harg4 arg5 harg5 arg14 harg14 x3 x4 xs0) (kernelRun0_B.sl.r_41 c arg4 harg4 arg5 harg5 arg14 harg14 x3 x4 xs0) (kernelRun0_B.sl.r_43 c arg4 harg4 arg5 harg5 arg14 harg14 x3 x4 xs0) (kernelRun0_B.sl.r_44 c arg4 harg4 arg5 harg5 arg14 harg14 x3 x4 xs0)
      = stack4 (codesH (YH arg4 harg4 arg5 harg5 x3 x4 (F1 arg14 harg14 xs0) 4)) (codesH (YH arg4 harg4 arg5 harg5 x3 x4 (F1 arg14 harg14 xs0) 5)) (codesH (YH arg4 harg4 arg5 harg5 x3 x4 (F1 arg14 harg14 xs0) 6)) (codesH (YH arg4 harg4 arg5 harg5 x3 x4 (F1 arg14 harg14 xs0) 7)) := by
  rfl

/-- The codes of one projection, one half of the block. -/
theorem codes1_2 :
    k0_pay177 (kernelRun0_B.sl.r_54 c arg4 harg4 arg5 harg5 arg14 harg14 x3 x4 xs0) (kernelRun0_B.sl.r_55 c arg4 harg4 arg5 harg5 arg14 harg14 x3 x4 xs0) (kernelRun0_B.sl.r_58 c arg4 harg4 arg5 harg5 arg14 harg14 x3 x4 xs0) (kernelRun0_B.sl.r_60 c arg4 harg4 arg5 harg5 arg14 harg14 x3 x4 xs0) (kernelRun0_B.sl.r_61 c arg4 harg4 arg5 harg5 arg14 harg14 x3 x4 xs0)
      = stack4 (codesH (YH arg4 harg4 arg5 harg5 x3 x4 (F1 arg14 harg14 xs0) 8)) (codesH (YH arg4 harg4 arg5 harg5 x3 x4 (F1 arg14 harg14 xs0) 9)) (codesH (YH arg4 harg4 arg5 harg5 x3 x4 (F1 arg14 harg14 xs0) 10)) (codesH (YH arg4 harg4 arg5 harg5 x3 x4 (F1 arg14 harg14 xs0) 11)) := by
  rfl

/-- The codes of one projection, one half of the block. -/
theorem codes2_0 :
    k0_pay249 (kernelRun0_B.sl.r_81 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x2 x3 x4) (kernelRun0_B.sl.r_85 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x2 x3 x4) (kernelRun0_B.sl.r_89 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x2 x3 x4) (kernelRun0_B.sl.r_91 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x2 x3 x4) (kernelRun0_B.sl.r_93 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x2 x3 x4)
      = stack4 (codesH (YH arg4 harg4 arg5 harg5 x3 x4 (F2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x2) 0)) (codesH (YH arg4 harg4 arg5 harg5 x3 x4 (F2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x2) 1)) (codesH (YH arg4 harg4 arg5 harg5 x3 x4 (F2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x2) 2)) (codesH (YH arg4 harg4 arg5 harg5 x3 x4 (F2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x2) 3)) := by
  rfl

/-- The codes of one projection, one half of the block. -/
theorem codes2_1 :
    k0_pay299 (kernelRun0_B.sl.r_103 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x2 x3 x4) (kernelRun0_B.sl.r_105 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x2 x3 x4) (kernelRun0_B.sl.r_108 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x2 x3 x4) (kernelRun0_B.sl.r_110 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x2 x3 x4) (kernelRun0_B.sl.r_111 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x2 x3 x4) kernelRun0_B.sl.v1366 k0_pay296
      = stack4 (codesH (YH arg4 harg4 arg5 harg5 x3 x4 (F2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x2) 4)) (codesH (YH arg4 harg4 arg5 harg5 x3 x4 (F2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x2) 5)) (codesH (YH arg4 harg4 arg5 harg5 x3 x4 (F2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x2) 6)) (codesH (YH arg4 harg4 arg5 harg5 x3 x4 (F2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x2) 7)) := by
  rfl

/-- The codes of one projection, one half of the block. -/
theorem codes2_2 :
    k0_pay347 (kernelRun0_B.sl.r_121 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x2 x3 x4) (kernelRun0_B.sl.r_124 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x2 x3 x4) (kernelRun0_B.sl.r_125 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x2 x3 x4) (kernelRun0_B.sl.r_127 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x2 x3) (kernelRun0_B.sl.r_128 c arg5 harg5 x4)
      = stack4 (codesH (YH arg4 harg4 arg5 harg5 x3 x4 (F2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x2) 8)) (codesH (YH arg4 harg4 arg5 harg5 x3 x4 (F2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x2) 9)) (codesH (YH arg4 harg4 arg5 harg5 x3 x4 (F2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x2) 10)) (codesH (YH arg4 harg4 arg5 harg5 x3 x4 (F2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x2) 11)) := by
  rfl

/-- The record of four heads, one half of the block. -/
theorem slice1_0 :
    (kernelRun0_B.sl.r_63 c arg4 harg4 arg5 harg5 arg14 harg14 x3 x4 xs0)
      = extractStridedSlice S4x256 ![0, 0] (outS (denseH 11#32 (YH arg4 harg4 arg5 harg5 x3 x4 (F1 arg14 harg14 xs0) 11) (denseH 10#32 (YH arg4 harg4 arg5 harg5 x3 x4 (F1 arg14 harg14 xs0) 10) (denseH 9#32 (YH arg4 harg4 arg5 harg5 x3 x4 (F1 arg14 harg14 xs0) 9) (denseH 8#32 (YH arg4 harg4 arg5 harg5 x3 x4 (F1 arg14 harg14 xs0) 8) (denseH 7#32 (YH arg4 harg4 arg5 harg5 x3 x4 (F1 arg14 harg14 xs0) 7) (denseH 6#32 (YH arg4 harg4 arg5 harg5 x3 x4 (F1 arg14 harg14 xs0) 6) (denseH 5#32 (YH arg4 harg4 arg5 harg5 x3 x4 (F1 arg14 harg14 xs0) 5) (denseH 4#32 (YH arg4 harg4 arg5 harg5 x3 x4 (F1 arg14 harg14 xs0) 4) (denseH 3#32 (YH arg4 harg4 arg5 harg5 x3 x4 (F1 arg14 harg14 xs0) 3) (denseH 2#32 (YH arg4 harg4 arg5 harg5 x3 x4 (F1 arg14 harg14 xs0) 2) (denseH 1#32 (YH arg4 harg4 arg5 harg5 x3 x4 (F1 arg14 harg14 xs0) 1) (denseH 0#32 (YH arg4 harg4 arg5 harg5 x3 x4 (F1 arg14 harg14 xs0) 0) kernelRun0_B.sl.v133))))))))))))) slices_S128x256_o0_0_S4x256 := by
  rfl

/-- The record of four heads, one half of the block. -/
theorem slice1_1 :
    k0_pay180 (kernelRun0_B.sl.r_62 c arg4 harg4 arg5 harg5 arg14 harg14 x3 x4 xs0)
      = extractStridedSlice S4x256 ![4, 0] (outS (denseH 11#32 (YH arg4 harg4 arg5 harg5 x3 x4 (F1 arg14 harg14 xs0) 11) (denseH 10#32 (YH arg4 harg4 arg5 harg5 x3 x4 (F1 arg14 harg14 xs0) 10) (denseH 9#32 (YH arg4 harg4 arg5 harg5 x3 x4 (F1 arg14 harg14 xs0) 9) (denseH 8#32 (YH arg4 harg4 arg5 harg5 x3 x4 (F1 arg14 harg14 xs0) 8) (denseH 7#32 (YH arg4 harg4 arg5 harg5 x3 x4 (F1 arg14 harg14 xs0) 7) (denseH 6#32 (YH arg4 harg4 arg5 harg5 x3 x4 (F1 arg14 harg14 xs0) 6) (denseH 5#32 (YH arg4 harg4 arg5 harg5 x3 x4 (F1 arg14 harg14 xs0) 5) (denseH 4#32 (YH arg4 harg4 arg5 harg5 x3 x4 (F1 arg14 harg14 xs0) 4) (denseH 3#32 (YH arg4 harg4 arg5 harg5 x3 x4 (F1 arg14 harg14 xs0) 3) (denseH 2#32 (YH arg4 harg4 arg5 harg5 x3 x4 (F1 arg14 harg14 xs0) 2) (denseH 1#32 (YH arg4 harg4 arg5 harg5 x3 x4 (F1 arg14 harg14 xs0) 1) (denseH 0#32 (YH arg4 harg4 arg5 harg5 x3 x4 (F1 arg14 harg14 xs0) 0) kernelRun0_B.sl.v133))))))))))))) slices_S128x256_o4_0_S4x256 := by
  rfl

/-- The record of four heads, one half of the block. -/
theorem slice1_2 :
    k0_pay181 (kernelRun0_B.sl.r_62 c arg4 harg4 arg5 harg5 arg14 harg14 x3 x4 xs0)
      = extractStridedSlice S4x256 ![8, 0] (outS (denseH 11#32 (YH arg4 harg4 arg5 harg5 x3 x4 (F1 arg14 harg14 xs0) 11) (denseH 10#32 (YH arg4 harg4 arg5 harg5 x3 x4 (F1 arg14 harg14 xs0) 10) (denseH 9#32 (YH arg4 harg4 arg5 harg5 x3 x4 (F1 arg14 harg14 xs0) 9) (denseH 8#32 (YH arg4 harg4 arg5 harg5 x3 x4 (F1 arg14 harg14 xs0) 8) (denseH 7#32 (YH arg4 harg4 arg5 harg5 x3 x4 (F1 arg14 harg14 xs0) 7) (denseH 6#32 (YH arg4 harg4 arg5 harg5 x3 x4 (F1 arg14 harg14 xs0) 6) (denseH 5#32 (YH arg4 harg4 arg5 harg5 x3 x4 (F1 arg14 harg14 xs0) 5) (denseH 4#32 (YH arg4 harg4 arg5 harg5 x3 x4 (F1 arg14 harg14 xs0) 4) (denseH 3#32 (YH arg4 harg4 arg5 harg5 x3 x4 (F1 arg14 harg14 xs0) 3) (denseH 2#32 (YH arg4 harg4 arg5 harg5 x3 x4 (F1 arg14 harg14 xs0) 2) (denseH 1#32 (YH arg4 harg4 arg5 harg5 x3 x4 (F1 arg14 harg14 xs0) 1) (denseH 0#32 (YH arg4 harg4 arg5 harg5 x3 x4 (F1 arg14 harg14 xs0) 0) kernelRun0_B.sl.v133))))))))))))) slices_S128x256_o8_0_S4x256 := by
  rfl

/-- The record of four heads, one half of the block. -/
theorem slice2_0 :
    k0_pay350 (kernelRun0_B.sl.r_129 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x2 x3 x4) (kernelRun0_B.sl.r_130 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x2 x3 x4) kernelRun0_B.sl.cst_594
      = extractStridedSlice S4x256 ![0, 0] (outS (denseH 11#32 (YH arg4 harg4 arg5 harg5 x3 x4 (F2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x2) 11) (denseH 10#32 (YH arg4 harg4 arg5 harg5 x3 x4 (F2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x2) 10) (denseH 9#32 (YH arg4 harg4 arg5 harg5 x3 x4 (F2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x2) 9) (denseH 8#32 (YH arg4 harg4 arg5 harg5 x3 x4 (F2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x2) 8) (denseH 7#32 (YH arg4 harg4 arg5 harg5 x3 x4 (F2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x2) 7) (denseH 6#32 (YH arg4 harg4 arg5 harg5 x3 x4 (F2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x2) 6) (denseH 5#32 (YH arg4 harg4 arg5 harg5 x3 x4 (F2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x2) 5) (denseH 4#32 (YH arg4 harg4 arg5 harg5 x3 x4 (F2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x2) 4) (denseH 3#32 (YH arg4 harg4 arg5 harg5 x3 x4 (F2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x2) 3) (denseH 2#32 (YH arg4 harg4 arg5 harg5 x3 x4 (F2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x2) 2) (denseH 1#32 (YH arg4 harg4 arg5 harg5 x3 x4 (F2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x2) 1) (denseH 0#32 (YH arg4 harg4 arg5 harg5 x3 x4 (F2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x2) 0) kernelRun0_B.sl.v133))))))))))))) slices_S128x256_o0_0_S4x256 := by
  rfl

/-- The record of four heads, one half of the block. -/
theorem slice2_1 :
    k0_pay351 (kernelRun0_B.sl.r_129 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x2 x3 x4) (kernelRun0_B.sl.r_130 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x2 x3 x4) kernelRun0_B.sl.cst_594
      = extractStridedSlice S4x256 ![4, 0] (outS (denseH 11#32 (YH arg4 harg4 arg5 harg5 x3 x4 (F2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x2) 11) (denseH 10#32 (YH arg4 harg4 arg5 harg5 x3 x4 (F2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x2) 10) (denseH 9#32 (YH arg4 harg4 arg5 harg5 x3 x4 (F2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x2) 9) (denseH 8#32 (YH arg4 harg4 arg5 harg5 x3 x4 (F2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x2) 8) (denseH 7#32 (YH arg4 harg4 arg5 harg5 x3 x4 (F2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x2) 7) (denseH 6#32 (YH arg4 harg4 arg5 harg5 x3 x4 (F2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x2) 6) (denseH 5#32 (YH arg4 harg4 arg5 harg5 x3 x4 (F2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x2) 5) (denseH 4#32 (YH arg4 harg4 arg5 harg5 x3 x4 (F2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x2) 4) (denseH 3#32 (YH arg4 harg4 arg5 harg5 x3 x4 (F2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x2) 3) (denseH 2#32 (YH arg4 harg4 arg5 harg5 x3 x4 (F2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x2) 2) (denseH 1#32 (YH arg4 harg4 arg5 harg5 x3 x4 (F2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x2) 1) (denseH 0#32 (YH arg4 harg4 arg5 harg5 x3 x4 (F2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x2) 0) kernelRun0_B.sl.v133))))))))))))) slices_S128x256_o4_0_S4x256 := by
  rfl

/-- The record of four heads, one half of the block. -/
theorem slice2_2 :
    k0_pay1 (kernelRun0_B.sl.r_131 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x2 x3 x4)
      = extractStridedSlice S4x256 ![8, 0] (outS (denseH 11#32 (YH arg4 harg4 arg5 harg5 x3 x4 (F2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x2) 11) (denseH 10#32 (YH arg4 harg4 arg5 harg5 x3 x4 (F2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x2) 10) (denseH 9#32 (YH arg4 harg4 arg5 harg5 x3 x4 (F2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x2) 9) (denseH 8#32 (YH arg4 harg4 arg5 harg5 x3 x4 (F2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x2) 8) (denseH 7#32 (YH arg4 harg4 arg5 harg5 x3 x4 (F2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x2) 7) (denseH 6#32 (YH arg4 harg4 arg5 harg5 x3 x4 (F2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x2) 6) (denseH 5#32 (YH arg4 harg4 arg5 harg5 x3 x4 (F2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x2) 5) (denseH 4#32 (YH arg4 harg4 arg5 harg5 x3 x4 (F2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x2) 4) (denseH 3#32 (YH arg4 harg4 arg5 harg5 x3 x4 (F2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x2) 3) (denseH 2#32 (YH arg4 harg4 arg5 harg5 x3 x4 (F2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x2) 2) (denseH 1#32 (YH arg4 harg4 arg5 harg5 x3 x4 (F2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x2) 1) (denseH 0#32 (YH arg4 harg4 arg5 harg5 x3 x4 (F2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x2) 0) kernelRun0_B.sl.v133))))))))))))) slices_S128x256_o8_0_S4x256 := by
  rfl

end

end Cert.KernelIdeal.Gen
-- ==== Proof.Outs.lean ====
module

public import proofs.«01_k».proof.Proof.RunNQ
public import proofs.«01_k».proof.Proof.Pieces

@[expose] public section

/-! What a later grid point gives out for the three projections. -/

set_option maxRecDepth 16384

noncomputable section

open Idealize.ShloMosaic Idealize.ShloMosaic.TcCoe Idealize.SL.Sem
open scoped BigOperators

namespace Cert.KernelIdeal.Gen

open Cert.Val

section
variable (arg4 : Memref sig .tc .vmem S4096x1536 .fp8e4m3) (harg4 : arg4.IsWhole) (arg5 : Memref sig .tc .vmem S1x1536 .f32) (harg5 : arg5.IsWhole)
    (x3 : Vec Ideal S4096x1536 .fp8e4m3) (x4 : Vec Ideal S1x1536 .f32) (F : Fin 32 → FVec Ideal S256x128 .bf16)
    (x g : Fin 4096 → EReal) (r : Fin 256)
    (hF : ∀ b q, F b (ix2 r q) = ((4 : ℝ) : EReal) * (xcode x g b q * xsc x g b))
include hF

/-- One head of a row's projections. -/
theorem YH_at (h : Fin 12) (q : Fin 128) :
    YH arg4 harg4 arg5 harg5 x3 x4 F h (ix2 r q) = proj x g (fun i j => x3 (ix2 i j)) (fun j => x4 (ix2 (0 : Fin 1) j)) ⟨h.val * 128 + q.val, by omega⟩ := by
  unfold YH
  rw [headY_at _ _ _ _ _ _ (by have := h.isLt; show 128 * (h.val % 4) + 128 ≤ 512; omega), projM_at]
  rw [← proj_ker x g (fun i j => x3 (ix2 i j)) (fun j => x4 (ix2 (0 : Fin 1) j)) ⟨h.val * 128 + q.val, by omega⟩ (fun i => catB F (ix2 r i)) fun i => (catB_at F r i).trans (hF _ _)]
  congr 1
  · refine Finset.sum_congr rfl fun i _ => ?_
    congr 1
    refine (rd2 arg4 _ 0 (512 * (h.val / 4)) rfl _ i _ i (⟨h.val * 128 + q.val, by omega⟩ : Fin 1536) (by omega) (by show h.val * 128 + q.val = 512 * (h.val / 4) + (128 * (h.val % 4) + q.val); omega)).trans ?_
    rw [harg4.read_unread]
  · congr 1
    refine (rd2 arg5 _ 0 (128 * h.val) rfl _ (0 : Fin 1) q (0 : Fin 1) (⟨h.val * 128 + q.val, by omega⟩ : Fin 1536) (by omega) (by show h.val * 128 + q.val = 128 * h.val + q.val; omega)).trans ?_
    rw [harg5.read_unread]
end

/-- Four heads' codes of a row. -/
theorem stack_v (Y : Fin 12 → FVec Ideal S256x128 .f32) (o : Fin 3) (r : Fin 256) (x g : Fin 4096 → EReal) (w : Fin 4096 → Fin 1536 → EReal) (s : Fin 1536 → EReal)
    (hY : ∀ (h : Fin 12) (q : Fin 128), Y h (ix2 r q) = proj x g w s ⟨h.val * 128 + q.val, by omega⟩) (k : Fin 4) (q : Fin 128)
    (h0 h1 h2 h3 : Fin 12) (e0 : h0.val = 4 * o.val) (e1 : h1.val = 4 * o.val + 1) (e2 : h2.val = 4 * o.val + 2) (e3 : h3.val = 4 * o.val + 3) :
    stack4 (codesH (Y h0)) (codesH (Y h1)) (codesH (Y h2)) (codesH (Y h3)) (ix3 r k q) = pcode x g w s ⟨4 * o.val + k.val, by omega⟩ q := by
  have hb : ∀ n : Fin 4, 4 * o.val + n.val < 12 := fun n => by clear e0 e1 e2 e3; omega
  have t0 : h0 = ⟨4 * o.val + (0 : Fin 4).val, hb 0⟩ := Fin.ext e0
  have t1 : h1 = ⟨4 * o.val + (1 : Fin 4).val, hb 1⟩ := Fin.ext e1
  have t2 : h2 = ⟨4 * o.val + (2 : Fin 4).val, hb 2⟩ := Fin.ext e2
  have t3 : h3 = ⟨4 * o.val + (3 : Fin 4).val, hb 3⟩ := Fin.ext e3
  subst t0 t1 t2 t3
  refine (stack4_at (fun k => codesH (Y ⟨4 * o.val + k.val, by omega⟩)) r k q).trans ?_
  exact codesH_v _ r _ (fun q => hY ⟨4 * o.val + k.val, by omega⟩ q) q

/-- One head's scale of a row. -/
theorem dense_v (Y : Fin 12 → FVec Ideal S256x128 .f32) (r : Fin 256) (x g : Fin 4096 → EReal) (w : Fin 4096 → Fin 1536 → EReal) (s : Fin 1536 → EReal)
    (hY : ∀ (h : Fin 12) (q : Fin 128), Y h (ix2 r q) = proj x g w s ⟨h.val * 128 + q.val, by omega⟩) (d : FVec Ideal S256x128 .f32) (l : Fin 128) (h : Fin 12)
    (hl : l.val = h.val) :
    outS (denseH 11#32 (Y 11) (denseH 10#32 (Y 10) (denseH 9#32 (Y 9) (denseH 8#32 (Y 8) (denseH 7#32 (Y 7) (denseH 6#32 (Y 6) (denseH 5#32 (Y 5) (denseH 4#32 (Y 4) (denseH 3#32 (Y 3) (denseH 2#32 (Y 2) (denseH 1#32 (Y 1) (denseH 0#32 (Y 0) d)))))))))))) (ix2 l r) = pfin x g w s h := by
  refine outS_v _ r l (pmax x g w s h) ?_
  have H : ∀ (k : Fin 12) (prev : FVec Ideal S256x128 .f32), denseH (BitVec.ofNat 32 k.val) (Y k) prev (ix2 r l) = if l.val = k.val then ((4 : ℝ) : EReal) * sc (nn (pmax x g w s k)) else prev (ix2 r l) :=
    fun k prev => denseH_v (Y k) r _ (hY k) prev k.val (by omega) l
  have step : ∀ (k : Fin 12) (prev : FVec Ideal S256x128 .f32), (h ≠ k → prev (ix2 r l) = ((4 : ℝ) : EReal) * sc (nn (pmax x g w s h))) →
      denseH (BitVec.ofNat 32 k.val) (Y k) prev (ix2 r l) = ((4 : ℝ) : EReal) * sc (nn (pmax x g w s h)) := fun k prev hp => by
    rw [H]
    by_cases e : h = k
    · subst e; rw [if_pos hl]
    · rw [if_neg fun e' => e (Fin.ext (hl.symm.trans e')), hp e]
  refine step 11 _ fun n11 => ?_
  refine step 10 _ fun n10 => ?_
  refine step 9 _ fun n9 => ?_
  refine step 8 _ fun n8 => ?_
  refine step 7 _ fun n7 => ?_
  refine step 6 _ fun n6 => ?_
  refine step 5 _ fun n5 => ?_
  refine step 4 _ fun n4 => ?_
  refine step 3 _ fun n3 => ?_
  refine step 2 _ fun n2 => ?_
  refine step 1 _ fun n1 => ?_
  refine step 0 _ fun n0 => ?_
  exfalso
  have := h.isLt
  have m0 : h.val ≠ 0 := fun e => n0 (Fin.ext e)
  have m1 : h.val ≠ 1 := fun e => n1 (Fin.ext e)
  have m2 : h.val ≠ 2 := fun e => n2 (Fin.ext e)
  have m3 : h.val ≠ 3 := fun e => n3 (Fin.ext e)
  have m4 : h.val ≠ 4 := fun e => n4 (Fin.ext e)
  have m5 : h.val ≠ 5 := fun e => n5 (Fin.ext e)
  have m6 : h.val ≠ 6 := fun e => n6 (Fin.ext e)
  have m7 : h.val ≠ 7 := fun e => n7 (Fin.ext e)
  have m8 : h.val ≠ 8 := fun e => n8 (Fin.ext e)
  have m9 : h.val ≠ 9 := fun e => n9 (Fin.ext e)
  have m10 : h.val ≠ 10 := fun e => n10 (Fin.ext e)
  have m11 : h.val ≠ 11 := fun e => n11 (Fin.ext e)
  omega

section
variable (c : Dev nD) (i : grid0.Coords) (arg1 : Memref sig .tc .vmem S256x4096 .bf16) (harg1 : arg1.IsWhole) (arg2 : Memref sig .tc .vmem S256x4096 .bf16) (harg2 : arg2.IsWhole) (arg3 : Memref sig .tc .vmem S1x4096 .f32) (harg3 : arg3.IsWhole) (arg4 : Memref sig .tc .vmem S4096x1536 .fp8e4m3) (harg4 : arg4.IsWhole) (arg5 : Memref sig .tc .vmem S1x1536 .f32) (harg5 : arg5.IsWhole) (arg6 : Memref sig .tc .vmem S512x4x128 .fp8e4m3) (harg6 : arg6.IsWhole) (arg7 : Memref sig .tc .vmem S4x512 .f32) (harg7 : arg7.IsWhole) (arg8 : Memref sig .tc .vmem S512x4x128 .fp8e4m3) (harg8 : arg8.IsWhole) (arg9 : Memref sig .tc .vmem S4x512 .f32) (harg9 : arg9.IsWhole) (arg10 : Memref sig .tc .vmem S512x4x128 .fp8e4m3) (harg10 : arg10.IsWhole) (arg11 : Memref sig .tc .vmem S4x512 .f32) (harg11 : arg11.IsWhole) (arg12 : Memref sig .tc .vmem S512x4096 .fp8e4m3) (harg12 : arg12.IsWhole) (arg13 : Memref sig .tc .vmem S32x512 .f32) (harg13 : arg13.IsWhole) (arg14 : Memref sig .tc .vmem S32x256x128 .bf16) (harg14 : arg14.IsWhole) (arg15 : Memref sig .tc .vmem S32x256x128 .bf16) (harg15 : arg15.IsWhole) (arg16 : Memref sig .tc .vmem S256x4096 .fp8e4m3) (harg16 : arg16.IsWhole) (arg17 : Memref sig .tc .vmem S256x128 .f32) (harg17 : arg17.IsWhole) (arg18 : Memref sig .tc .vmem S256x128 .f32) (harg18 : arg18.IsWhole) (arg19 : Memref sig .tc .vmem S256x128 .f32) (harg19 : arg19.IsWhole) (hc0 : cond0_0 i) (hc1 : ¬cond0_1 i) (x0 : Vec Ideal S256x4096 .bf16) (x1 : Vec Ideal S256x4096 .bf16) (x2 : Vec Ideal S1x4096 .f32) (x3 : Vec Ideal S4096x1536 .fp8e4m3) (x4 : Vec Ideal S1x1536 .f32) (xs0 : Vec Ideal S32x256x128 .bf16) (xs2 : Vec Ideal S256x4096 .fp8e4m3) (xs3 : Vec Ideal S256x128 .f32)

/-- The carried blocks, read. -/
theorem F1_at (b : Fin 32) (r : Fin 256) (q : Fin 128) : F1 arg14 harg14 xs0 b (ix2 r q) = xs0 (ix3 b r q) := by
  unfold F1
  rw [blk0_at, View.readAt_eq_ld]
  have e := emb3 (M := 32) (N := 256) (K := 128) b.val 0 0 rfl (inbB b) (0 : Fin 1) r q b r q (by show b.val = b.val + 0; omega) (by omega) (by omega)
  refine (congrArg (arg14.view.read (Elt Ideal) (harg14.unread xs0)) e).trans ?_
  rw [harg14.read_unread]

include hc1 x1 x3 x4 xs0 xs2 xs3 in
/-- The point's own blocks, read. -/
theorem F2_at (b : Fin 32) (r : Fin 256) (q : Fin 128) :
    F2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x2 b (ix2 r q) = ((4 : ℝ) : EReal) * (xcode (fun j : Fin 4096 => x0 (ix2 r j)) (fun j : Fin 4096 => x2 (ix2 (0 : Fin 1) j)) b q * xsc (fun j : Fin 4096 => x0 (ix2 r j)) (fun j : Fin 4096 => x2 (ix2 (0 : Fin 1) j)) b) := by
  unfold F2
  rw [blk0_at, View.readCov_eq_canon']
  have e := emb3 (M := 32) (N := 256) (K := 128) b.val 0 0 rfl (inbB b) (0 : Fin 1) r q b r q (by show b.val = b.val + 0; omega) (by omega) (by omega)
  refine (congrArg (View.canon _) e).trans ?_
  exact deqB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 xs0 xs2 xs3 _ b r q

/-- Codes of projection 0, the point's own rows. -/
theorem o5_hi (r : Fin 256) (k : Fin 4) (q : Fin 128) (r' : Fin 512) (hr : r'.val = r.val + 256) :
    out0_B_5 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 xs0 xs2 xs3 (ix3 r' k q) = pcode (fun j : Fin 4096 => x0 (ix2 r j)) (fun j : Fin 4096 => x2 (ix2 (0 : Fin 1) j)) (fun (i : Fin 4096) (j : Fin 1536) => x3 (ix2 i j)) (fun j : Fin 1536 => x4 (ix2 (0 : Fin 1) j)) ⟨4 * (0 : Fin 3).val + k.val, by have := k.isLt; show 4 * 0 + k.val < 12; omega⟩ q := by
  unfold out0_B_5 kernelRun0_B
  dsimp only
  refine (View.read_writes_junk_apply_eq_canon (Val := Elt Ideal) VO0_5 (ix3 r' k q) _).trans ?_
  have e := emb3 (M := 512) (N := 4) (K := 128) 256 0 0 rfl inb_S512x4x128_S256x4x128_256_0_0 r k q r' k q (by omega) (by omega) (by omega)
  rw [← e]
  refine (View.canon_cons_emb (Val := Elt Ideal) (e := .fp8e4m3) _ _ _ _).trans ?_
  refine (congrFun (codes2_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x2 x3 x4) _).trans ?_
  exact stack_v (YH arg4 harg4 arg5 harg5 x3 x4 (F2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x2)) 0 r _ _ _ _ (fun h q => YH_at arg4 harg4 arg5 harg5 x3 x4 _ _ _ r (fun b q => F2_at c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 xs0 xs2 xs3 b r q) h q) k q 0 1 2 3 (by rfl) (by rfl) (by rfl) (by rfl)

/-- Codes of projection 0, the rows carried from the point before. -/
theorem o5_lo (r : Fin 256) (x : Fin 4096 → EReal) (hx : ∀ (b : Fin 32) (q : Fin 128), xs0 (ix3 b r q) = ((4 : ℝ) : EReal) * (xcode x (fun j : Fin 4096 => x2 (ix2 (0 : Fin 1) j)) b q * xsc x (fun j : Fin 4096 => x2 (ix2 (0 : Fin 1) j)) b))
    (k : Fin 4) (q : Fin 128) (r' : Fin 512) (hr : r'.val = r.val) :
    out0_B_5 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 xs0 xs2 xs3 (ix3 r' k q) = pcode x (fun j : Fin 4096 => x2 (ix2 (0 : Fin 1) j)) (fun (i : Fin 4096) (j : Fin 1536) => x3 (ix2 i j)) (fun j : Fin 1536 => x4 (ix2 (0 : Fin 1) j)) ⟨4 * (0 : Fin 3).val + k.val, by have := k.isLt; show 4 * 0 + k.val < 12; omega⟩ q := by
  unfold out0_B_5 kernelRun0_B
  dsimp only
  refine (View.read_writes_junk_apply_eq_canon (Val := Elt Ideal) VO0_5 (ix3 r' k q) _).trans ?_
  have e := emb3 (M := 512) (N := 4) (K := 128) 0 0 0 rfl inb_S512x4x128_S256x4x128_0_0_0 r k q r' k q (by omega) (by omega) (by omega)
  refine (View.canon_cons_of_not_mem (Val := Elt Ideal) (e := .fp8e4m3) _ _ ?_).trans ?_
  · exact nmem3 (M := 512) (N := 4) (K := 128) (a := 256) (b := 4) (c := 128) 256 0 0 rfl inb_S512x4x128_S256x4x128_256_0_0 r' k q (by omega)
  rw [← e]
  refine (View.canon_cons_emb (Val := Elt Ideal) (e := .fp8e4m3) _ _ _ _).trans ?_
  refine (congrFun (codes1_0 c arg4 harg4 arg5 harg5 arg14 harg14 x3 x4 xs0) _).trans ?_
  exact stack_v (YH arg4 harg4 arg5 harg5 x3 x4 (F1 arg14 harg14 xs0)) 0 r x _ _ _ (fun h q => YH_at arg4 harg4 arg5 harg5 x3 x4 _ x _ r (fun b q => (F1_at arg14 harg14 xs0 b r q).trans (hx b q)) h q) k q 0 1 2 3 (by rfl) (by rfl) (by rfl) (by rfl)

/-- Scales of projection 0, the point's own rows. -/
theorem o6_hi (r : Fin 256) (k : Fin 4) (r' : Fin 512) (hr : r'.val = r.val + 256) :
    out0_B_6 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 xs0 xs2 xs3 (ix2 k r') = pfin (fun j : Fin 4096 => x0 (ix2 r j)) (fun j : Fin 4096 => x2 (ix2 (0 : Fin 1) j)) (fun (i : Fin 4096) (j : Fin 1536) => x3 (ix2 i j)) (fun j : Fin 1536 => x4 (ix2 (0 : Fin 1) j)) ⟨4 * (0 : Fin 3).val + k.val, by have := k.isLt; show 4 * 0 + k.val < 12; omega⟩ := by
  have hs : ∀ z : FVec Ideal S128x256 .f32, extractStridedSlice S4x256 ![0, 0] z slices_S128x256_o0_0_S4x256 (ix2 k r) = z (ix2 (⟨0 + k.val, by omega⟩ : Fin 128) r) := fun z =>
    extractStridedSlice_apply (s := S128x256) (t := S4x256) _ z _ _ _ fun b => by
      fin_cases b
      · rfl
      · show r.val = 0 + r.val; omega
  unfold out0_B_6 kernelRun0_B
  dsimp only
  refine (View.read_writes_junk_apply_eq_canon (Val := Elt Ideal) VO0_6 (ix2 k r') _).trans ?_
  have e := emb2 (M := 4) (N := 512) 0 256 rfl inb_S4x512_S4x256_0_256 k r k r' (by omega) (by omega)
  rw [← e]
  refine (View.canon_cons_emb (Val := Elt Ideal) (e := .f32) _ _ _ _).trans ?_
  refine (congrFun (slice2_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x2 x3 x4) _).trans ?_
  refine (hs _).trans ?_
  exact dense_v (YH arg4 harg4 arg5 harg5 x3 x4 (F2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x2)) r _ _ _ _ (fun h q => YH_at arg4 harg4 arg5 harg5 x3 x4 _ _ _ r (fun b q => F2_at c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 xs0 xs2 xs3 b r q) h q) _ _ _ rfl

/-- Scales of projection 0, the rows carried from the point before. -/
theorem o6_lo (r : Fin 256) (x : Fin 4096 → EReal) (hx : ∀ (b : Fin 32) (q : Fin 128), xs0 (ix3 b r q) = ((4 : ℝ) : EReal) * (xcode x (fun j : Fin 4096 => x2 (ix2 (0 : Fin 1) j)) b q * xsc x (fun j : Fin 4096 => x2 (ix2 (0 : Fin 1) j)) b))
    (k : Fin 4) (r' : Fin 512) (hr : r'.val = r.val) :
    out0_B_6 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 xs0 xs2 xs3 (ix2 k r') = pfin x (fun j : Fin 4096 => x2 (ix2 (0 : Fin 1) j)) (fun (i : Fin 4096) (j : Fin 1536) => x3 (ix2 i j)) (fun j : Fin 1536 => x4 (ix2 (0 : Fin 1) j)) ⟨4 * (0 : Fin 3).val + k.val, by have := k.isLt; show 4 * 0 + k.val < 12; omega⟩ := by
  have hs : ∀ z : FVec Ideal S128x256 .f32, extractStridedSlice S4x256 ![0, 0] z slices_S128x256_o0_0_S4x256 (ix2 k r) = z (ix2 (⟨0 + k.val, by omega⟩ : Fin 128) r) := fun z =>
    extractStridedSlice_apply (s := S128x256) (t := S4x256) _ z _ _ _ fun b => by
      fin_cases b
      · rfl
      · show r.val = 0 + r.val; omega
  unfold out0_B_6 kernelRun0_B
  dsimp only
  refine (View.read_writes_junk_apply_eq_canon (Val := Elt Ideal) VO0_6 (ix2 k r') _).trans ?_
  have e := emb2 (M := 4) (N := 512) 0 0 rfl inb_S4x512_S4x256_0_0 k r k r' (by omega) (by omega)
  refine (View.canon_cons_of_not_mem (Val := Elt Ideal) (e := .f32) _ _ ?_).trans ?_
  · exact nmem2 (M := 4) (N := 512) (a := 4) (b := 256) 0 256 rfl inb_S4x512_S4x256_0_256 k r' (by omega)
  rw [← e]
  refine (View.canon_cons_emb (Val := Elt Ideal) (e := .f32) _ _ _ _).trans ?_
  refine (congrFun (slice1_0 c arg4 harg4 arg5 harg5 arg14 harg14 x3 x4 xs0) _).trans ?_
  refine (hs _).trans ?_
  exact dense_v (YH arg4 harg4 arg5 harg5 x3 x4 (F1 arg14 harg14 xs0)) r x _ _ _ (fun h q => YH_at arg4 harg4 arg5 harg5 x3 x4 _ x _ r (fun b q => (F1_at arg14 harg14 xs0 b r q).trans (hx b q)) h q) _ _ _ rfl

/-- Codes of projection 1, the point's own rows. -/
theorem o7_hi (r : Fin 256) (k : Fin 4) (q : Fin 128) (r' : Fin 512) (hr : r'.val = r.val + 256) :
    out0_B_7 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 xs0 xs2 xs3 (ix3 r' k q) = pcode (fun j : Fin 4096 => x0 (ix2 r j)) (fun j : Fin 4096 => x2 (ix2 (0 : Fin 1) j)) (fun (i : Fin 4096) (j : Fin 1536) => x3 (ix2 i j)) (fun j : Fin 1536 => x4 (ix2 (0 : Fin 1) j)) ⟨4 * (1 : Fin 3).val + k.val, by have := k.isLt; show 4 * 1 + k.val < 12; omega⟩ q := by
  unfold out0_B_7 kernelRun0_B
  dsimp only
  refine (View.read_writes_junk_apply_eq_canon (Val := Elt Ideal) VO0_7 (ix3 r' k q) _).trans ?_
  have e := emb3 (M := 512) (N := 4) (K := 128) 256 0 0 rfl inb_S512x4x128_S256x4x128_256_0_0 r k q r' k q (by omega) (by omega) (by omega)
  rw [← e]
  refine (View.canon_cons_emb (Val := Elt Ideal) (e := .fp8e4m3) _ _ _ _).trans ?_
  refine (congrFun (codes2_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x2 x3 x4) _).trans ?_
  exact stack_v (YH arg4 harg4 arg5 harg5 x3 x4 (F2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x2)) 1 r _ _ _ _ (fun h q => YH_at arg4 harg4 arg5 harg5 x3 x4 _ _ _ r (fun b q => F2_at c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 xs0 xs2 xs3 b r q) h q) k q 4 5 6 7 (by rfl) (by rfl) (by rfl) (by rfl)

/-- Codes of projection 1, the rows carried from the point before. -/
theorem o7_lo (r : Fin 256) (x : Fin 4096 → EReal) (hx : ∀ (b : Fin 32) (q : Fin 128), xs0 (ix3 b r q) = ((4 : ℝ) : EReal) * (xcode x (fun j : Fin 4096 => x2 (ix2 (0 : Fin 1) j)) b q * xsc x (fun j : Fin 4096 => x2 (ix2 (0 : Fin 1) j)) b))
    (k : Fin 4) (q : Fin 128) (r' : Fin 512) (hr : r'.val = r.val) :
    out0_B_7 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 xs0 xs2 xs3 (ix3 r' k q) = pcode x (fun j : Fin 4096 => x2 (ix2 (0 : Fin 1) j)) (fun (i : Fin 4096) (j : Fin 1536) => x3 (ix2 i j)) (fun j : Fin 1536 => x4 (ix2 (0 : Fin 1) j)) ⟨4 * (1 : Fin 3).val + k.val, by have := k.isLt; show 4 * 1 + k.val < 12; omega⟩ q := by
  unfold out0_B_7 kernelRun0_B
  dsimp only
  refine (View.read_writes_junk_apply_eq_canon (Val := Elt Ideal) VO0_7 (ix3 r' k q) _).trans ?_
  have e := emb3 (M := 512) (N := 4) (K := 128) 0 0 0 rfl inb_S512x4x128_S256x4x128_0_0_0 r k q r' k q (by omega) (by omega) (by omega)
  refine (View.canon_cons_of_not_mem (Val := Elt Ideal) (e := .fp8e4m3) _ _ ?_).trans ?_
  · exact nmem3 (M := 512) (N := 4) (K := 128) (a := 256) (b := 4) (c := 128) 256 0 0 rfl inb_S512x4x128_S256x4x128_256_0_0 r' k q (by omega)
  rw [← e]
  refine (View.canon_cons_emb (Val := Elt Ideal) (e := .fp8e4m3) _ _ _ _).trans ?_
  refine (congrFun (codes1_1 c arg4 harg4 arg5 harg5 arg14 harg14 x3 x4 xs0) _).trans ?_
  exact stack_v (YH arg4 harg4 arg5 harg5 x3 x4 (F1 arg14 harg14 xs0)) 1 r x _ _ _ (fun h q => YH_at arg4 harg4 arg5 harg5 x3 x4 _ x _ r (fun b q => (F1_at arg14 harg14 xs0 b r q).trans (hx b q)) h q) k q 4 5 6 7 (by rfl) (by rfl) (by rfl) (by rfl)

/-- Scales of projection 1, the point's own rows. -/
theorem o8_hi (r : Fin 256) (k : Fin 4) (r' : Fin 512) (hr : r'.val = r.val + 256) :
    out0_B_8 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 xs0 xs2 xs3 (ix2 k r') = pfin (fun j : Fin 4096 => x0 (ix2 r j)) (fun j : Fin 4096 => x2 (ix2 (0 : Fin 1) j)) (fun (i : Fin 4096) (j : Fin 1536) => x3 (ix2 i j)) (fun j : Fin 1536 => x4 (ix2 (0 : Fin 1) j)) ⟨4 * (1 : Fin 3).val + k.val, by have := k.isLt; show 4 * 1 + k.val < 12; omega⟩ := by
  have hs : ∀ z : FVec Ideal S128x256 .f32, extractStridedSlice S4x256 ![4, 0] z slices_S128x256_o4_0_S4x256 (ix2 k r) = z (ix2 (⟨4 + k.val, by omega⟩ : Fin 128) r) := fun z =>
    extractStridedSlice_apply (s := S128x256) (t := S4x256) _ z _ _ _ fun b => by
      fin_cases b
      · rfl
      · show r.val = 0 + r.val; omega
  unfold out0_B_8 kernelRun0_B
  dsimp only
  refine (View.read_writes_junk_apply_eq_canon (Val := Elt Ideal) VO0_8 (ix2 k r') _).trans ?_
  have e := emb2 (M := 4) (N := 512) 0 256 rfl inb_S4x512_S4x256_0_256 k r k r' (by omega) (by omega)
  rw [← e]
  refine (View.canon_cons_emb (Val := Elt Ideal) (e := .f32) _ _ _ _).trans ?_
  refine (congrFun (slice2_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x2 x3 x4) _).trans ?_
  refine (hs _).trans ?_
  exact dense_v (YH arg4 harg4 arg5 harg5 x3 x4 (F2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x2)) r _ _ _ _ (fun h q => YH_at arg4 harg4 arg5 harg5 x3 x4 _ _ _ r (fun b q => F2_at c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 xs0 xs2 xs3 b r q) h q) _ _ _ rfl

/-- Scales of projection 1, the rows carried from the point before. -/
theorem o8_lo (r : Fin 256) (x : Fin 4096 → EReal) (hx : ∀ (b : Fin 32) (q : Fin 128), xs0 (ix3 b r q) = ((4 : ℝ) : EReal) * (xcode x (fun j : Fin 4096 => x2 (ix2 (0 : Fin 1) j)) b q * xsc x (fun j : Fin 4096 => x2 (ix2 (0 : Fin 1) j)) b))
    (k : Fin 4) (r' : Fin 512) (hr : r'.val = r.val) :
    out0_B_8 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 xs0 xs2 xs3 (ix2 k r') = pfin x (fun j : Fin 4096 => x2 (ix2 (0 : Fin 1) j)) (fun (i : Fin 4096) (j : Fin 1536) => x3 (ix2 i j)) (fun j : Fin 1536 => x4 (ix2 (0 : Fin 1) j)) ⟨4 * (1 : Fin 3).val + k.val, by have := k.isLt; show 4 * 1 + k.val < 12; omega⟩ := by
  have hs : ∀ z : FVec Ideal S128x256 .f32, extractStridedSlice S4x256 ![4, 0] z slices_S128x256_o4_0_S4x256 (ix2 k r) = z (ix2 (⟨4 + k.val, by omega⟩ : Fin 128) r) := fun z =>
    extractStridedSlice_apply (s := S128x256) (t := S4x256) _ z _ _ _ fun b => by
      fin_cases b
      · rfl
      · show r.val = 0 + r.val; omega
  unfold out0_B_8 kernelRun0_B
  dsimp only
  refine (View.read_writes_junk_apply_eq_canon (Val := Elt Ideal) VO0_8 (ix2 k r') _).trans ?_
  have e := emb2 (M := 4) (N := 512) 0 0 rfl inb_S4x512_S4x256_0_0 k r k r' (by omega) (by omega)
  refine (View.canon_cons_of_not_mem (Val := Elt Ideal) (e := .f32) _ _ ?_).trans ?_
  · exact nmem2 (M := 4) (N := 512) (a := 4) (b := 256) 0 256 rfl inb_S4x512_S4x256_0_256 k r' (by omega)
  rw [← e]
  refine (View.canon_cons_emb (Val := Elt Ideal) (e := .f32) _ _ _ _).trans ?_
  refine (congrFun (slice1_1 c arg4 harg4 arg5 harg5 arg14 harg14 x3 x4 xs0) _).trans ?_
  refine (hs _).trans ?_
  exact dense_v (YH arg4 harg4 arg5 harg5 x3 x4 (F1 arg14 harg14 xs0)) r x _ _ _ (fun h q => YH_at arg4 harg4 arg5 harg5 x3 x4 _ x _ r (fun b q => (F1_at arg14 harg14 xs0 b r q).trans (hx b q)) h q) _ _ _ rfl

/-- Codes of projection 2, the point's own rows. -/
theorem o9_hi (r : Fin 256) (k : Fin 4) (q : Fin 128) (r' : Fin 512) (hr : r'.val = r.val + 256) :
    out0_B_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 xs0 xs2 xs3 (ix3 r' k q) = pcode (fun j : Fin 4096 => x0 (ix2 r j)) (fun j : Fin 4096 => x2 (ix2 (0 : Fin 1) j)) (fun (i : Fin 4096) (j : Fin 1536) => x3 (ix2 i j)) (fun j : Fin 1536 => x4 (ix2 (0 : Fin 1) j)) ⟨4 * (2 : Fin 3).val + k.val, by have := k.isLt; show 4 * 2 + k.val < 12; omega⟩ q := by
  unfold out0_B_9 kernelRun0_B
  dsimp only
  refine (View.read_writes_junk_apply_eq_canon (Val := Elt Ideal) VO0_9 (ix3 r' k q) _).trans ?_
  have e := emb3 (M := 512) (N := 4) (K := 128) 256 0 0 rfl inb_S512x4x128_S256x4x128_256_0_0 r k q r' k q (by omega) (by omega) (by omega)
  rw [← e]
  refine (View.canon_cons_emb (Val := Elt Ideal) (e := .fp8e4m3) _ _ _ _).trans ?_
  refine (congrFun (codes2_2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x2 x3 x4) _).trans ?_
  exact stack_v (YH arg4 harg4 arg5 harg5 x3 x4 (F2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x2)) 2 r _ _ _ _ (fun h q => YH_at arg4 harg4 arg5 harg5 x3 x4 _ _ _ r (fun b q => F2_at c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 xs0 xs2 xs3 b r q) h q) k q 8 9 10 11 (by rfl) (by rfl) (by rfl) (by rfl)

/-- Codes of projection 2, the rows carried from the point before. -/
theorem o9_lo (r : Fin 256) (x : Fin 4096 → EReal) (hx : ∀ (b : Fin 32) (q : Fin 128), xs0 (ix3 b r q) = ((4 : ℝ) : EReal) * (xcode x (fun j : Fin 4096 => x2 (ix2 (0 : Fin 1) j)) b q * xsc x (fun j : Fin 4096 => x2 (ix2 (0 : Fin 1) j)) b))
    (k : Fin 4) (q : Fin 128) (r' : Fin 512) (hr : r'.val = r.val) :
    out0_B_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 xs0 xs2 xs3 (ix3 r' k q) = pcode x (fun j : Fin 4096 => x2 (ix2 (0 : Fin 1) j)) (fun (i : Fin 4096) (j : Fin 1536) => x3 (ix2 i j)) (fun j : Fin 1536 => x4 (ix2 (0 : Fin 1) j)) ⟨4 * (2 : Fin 3).val + k.val, by have := k.isLt; show 4 * 2 + k.val < 12; omega⟩ q := by
  unfold out0_B_9 kernelRun0_B
  dsimp only
  refine (View.read_writes_junk_apply_eq_canon (Val := Elt Ideal) VO0_9 (ix3 r' k q) _).trans ?_
  have e := emb3 (M := 512) (N := 4) (K := 128) 0 0 0 rfl inb_S512x4x128_S256x4x128_0_0_0 r k q r' k q (by omega) (by omega) (by omega)
  refine (View.canon_cons_of_not_mem (Val := Elt Ideal) (e := .fp8e4m3) _ _ ?_).trans ?_
  · exact nmem3 (M := 512) (N := 4) (K := 128) (a := 256) (b := 4) (c := 128) 256 0 0 rfl inb_S512x4x128_S256x4x128_256_0_0 r' k q (by omega)
  rw [← e]
  refine (View.canon_cons_emb (Val := Elt Ideal) (e := .fp8e4m3) _ _ _ _).trans ?_
  refine (congrFun (codes1_2 c arg4 harg4 arg5 harg5 arg14 harg14 x3 x4 xs0) _).trans ?_
  exact stack_v (YH arg4 harg4 arg5 harg5 x3 x4 (F1 arg14 harg14 xs0)) 2 r x _ _ _ (fun h q => YH_at arg4 harg4 arg5 harg5 x3 x4 _ x _ r (fun b q => (F1_at arg14 harg14 xs0 b r q).trans (hx b q)) h q) k q 8 9 10 11 (by rfl) (by rfl) (by rfl) (by rfl)

/-- Scales of projection 2, the point's own rows. -/
theorem o10_hi (r : Fin 256) (k : Fin 4) (r' : Fin 512) (hr : r'.val = r.val + 256) :
    out0_B_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 xs0 xs2 xs3 (ix2 k r') = pfin (fun j : Fin 4096 => x0 (ix2 r j)) (fun j : Fin 4096 => x2 (ix2 (0 : Fin 1) j)) (fun (i : Fin 4096) (j : Fin 1536) => x3 (ix2 i j)) (fun j : Fin 1536 => x4 (ix2 (0 : Fin 1) j)) ⟨4 * (2 : Fin 3).val + k.val, by have := k.isLt; show 4 * 2 + k.val < 12; omega⟩ := by
  have hs : ∀ z : FVec Ideal S128x256 .f32, extractStridedSlice S4x256 ![8, 0] z slices_S128x256_o8_0_S4x256 (ix2 k r) = z (ix2 (⟨8 + k.val, by omega⟩ : Fin 128) r) := fun z =>
    extractStridedSlice_apply (s := S128x256) (t := S4x256) _ z _ _ _ fun b => by
      fin_cases b
      · rfl
      · show r.val = 0 + r.val; omega
  unfold out0_B_10 kernelRun0_B
  dsimp only
  refine (View.read_writes_junk_apply_eq_canon (Val := Elt Ideal) VO0_10 (ix2 k r') _).trans ?_
  have e := emb2 (M := 4) (N := 512) 0 256 rfl inb_S4x512_S4x256_0_256 k r k r' (by omega) (by omega)
  rw [← e]
  refine (View.canon_cons_emb (Val := Elt Ideal) (e := .f32) _ _ _ _).trans ?_
  refine (congrFun (slice2_2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x2 x3 x4) _).trans ?_
  refine (hs _).trans ?_
  exact dense_v (YH arg4 harg4 arg5 harg5 x3 x4 (F2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x2)) r _ _ _ _ (fun h q => YH_at arg4 harg4 arg5 harg5 x3 x4 _ _ _ r (fun b q => F2_at c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 xs0 xs2 xs3 b r q) h q) _ _ _ rfl

/-- Scales of projection 2, the rows carried from the point before. -/
theorem o10_lo (r : Fin 256) (x : Fin 4096 → EReal) (hx : ∀ (b : Fin 32) (q : Fin 128), xs0 (ix3 b r q) = ((4 : ℝ) : EReal) * (xcode x (fun j : Fin 4096 => x2 (ix2 (0 : Fin 1) j)) b q * xsc x (fun j : Fin 4096 => x2 (ix2 (0 : Fin 1) j)) b))
    (k : Fin 4) (r' : Fin 512) (hr : r'.val = r.val) :
    out0_B_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 xs0 xs2 xs3 (ix2 k r') = pfin x (fun j : Fin 4096 => x2 (ix2 (0 : Fin 1) j)) (fun (i : Fin 4096) (j : Fin 1536) => x3 (ix2 i j)) (fun j : Fin 1536 => x4 (ix2 (0 : Fin 1) j)) ⟨4 * (2 : Fin 3).val + k.val, by have := k.isLt; show 4 * 2 + k.val < 12; omega⟩ := by
  have hs : ∀ z : FVec Ideal S128x256 .f32, extractStridedSlice S4x256 ![8, 0] z slices_S128x256_o8_0_S4x256 (ix2 k r) = z (ix2 (⟨8 + k.val, by omega⟩ : Fin 128) r) := fun z =>
    extractStridedSlice_apply (s := S128x256) (t := S4x256) _ z _ _ _ fun b => by
      fin_cases b
      · rfl
      · show r.val = 0 + r.val; omega
  unfold out0_B_10 kernelRun0_B
  dsimp only
  refine (View.read_writes_junk_apply_eq_canon (Val := Elt Ideal) VO0_10 (ix2 k r') _).trans ?_
  have e := emb2 (M := 4) (N := 512) 0 0 rfl inb_S4x512_S4x256_0_0 k r k r' (by omega) (by omega)
  refine (View.canon_cons_of_not_mem (Val := Elt Ideal) (e := .f32) _ _ ?_).trans ?_
  · exact nmem2 (M := 4) (N := 512) (a := 4) (b := 256) 0 256 rfl inb_S4x512_S4x256_0_256 k r' (by omega)
  rw [← e]
  refine (View.canon_cons_emb (Val := Elt Ideal) (e := .f32) _ _ _ _).trans ?_
  refine (congrFun (slice1_2 c arg4 harg4 arg5 harg5 arg14 harg14 x3 x4 xs0) _).trans ?_
  refine (hs _).trans ?_
  exact dense_v (YH arg4 harg4 arg5 harg5 x3 x4 (F1 arg14 harg14 xs0)) r x _ _ _ (fun h q => YH_at arg4 harg4 arg5 harg5 x3 x4 _ x _ r (fun b q => (F1_at arg14 harg14 xs0 b r q).trans (hx b q)) h q) _ _ _ rfl

end

end Cert.KernelIdeal.Gen
-- ==== Proof.KerBlocks.lean ====
module

public import proofs.«01_k».proof.Proof.Outs
public import proofs.«01_k».proof.Proof.Gen.KernelIdeal.Frame
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open scoped BigOperators

/-! Which rows of the arguments the kernel's blocks hold at each grid point. -/

namespace Cert.KernelIdeal.Gen
open Cert.Val

variable (m : (ℓ : Loc nD τ sig) → Buf (Elt Ideal) ℓ) (c : Dev nD)

/-- Row `p` of the first argument. -/
def aX (p : Fin 4096) : Fin 4096 → EReal := fun i => m ((c : Thread nD τ).loc main_arg0) (ix3 0 p i)
/-- The gain. -/
def aG : Fin 4096 → EReal := fun i => m ((c : Thread nD τ).loc main_arg1) (ix1 i)
/-- The weights. -/
def aW : Fin 4096 → Fin 1536 → EReal := fun i j => m ((c : Thread nD τ).loc main_arg2) (ix2 i j)
/-- The weights' scales. -/
def aS : Fin 1536 → EReal := fun j => m ((c : Thread nD τ).loc main_arg3) (ix1 j)

/-- Every window's block index, in closed form. -/
theorem idx : ∀ t : Fin cfg0.N, win0_0.index t = ![2 * t.val - 1, 0] ∧ win0_1.index t = ![min (2 * t.val) 15, 0] ∧
    win0_2.index t = ![0, 0] ∧ win0_3.index t = ![0, 0] ∧ win0_4.index t = ![0, 0] ∧
    win0_5.index t = ![t.val - 1, 0, 0] ∧ win0_6.index t = ![0, t.val - 1] ∧
    win0_7.index t = ![t.val - 1, 0, 0] ∧ win0_8.index t = ![0, t.val - 1] ∧
    win0_9.index t = ![t.val - 1, 0, 0] ∧ win0_10.index t = ![0, t.val - 1] ∧
    win0_11.index t = ![t.val - 1, 0] ∧ win0_12.index t = ![0, t.val - 1] :=
  (by decide +kernel : ∀ t : Fin grid0.N, _)

theorem lt9 (t : Fin cfg0.N) : t.val < 9 := lt_of_lt_of_eq t.isLt (show cfg0.N = 9 from N_0)

theorem c0 (a : Vec Ideal S1x4096x4096 .bf16) (p i : Fin 4096) :
    (shapeCast S4096x4096 a shapeCasts_S1x4096x4096_S4096x4096 : Vec Ideal S4096x4096 .bf16) (ix2 p i) = a (ix3 0 p i) := by
  pointwise []
theorem c1 (a : Vec Ideal S4096 .f32) (i : Fin 4096) :
    (shapeCast S1x4096 a shapeCasts_S4096_S1x4096 : Vec Ideal S1x4096 .f32) (ix2 0 i) = a (ix1 i) := by
  pointwise []
theorem c3 (a : Vec Ideal S1536 .f32) (i : Fin 1536) :
    (shapeCast S1x1536 a shapeCasts_S1536_S1x1536 : Vec Ideal S1x1536 .f32) (ix2 0 i) = a (ix1 i) := by
  pointwise []

/-- Window 0 at point `t` holds the row tile `2 t - 1`. -/
theorem blk_x0 (t : Fin cfg0.N) (r : Fin 256) (p : Fin 4096) (hp : p.val = 256 * (2 * t.val - 1) + r.val) :
    (fun j : Fin 4096 => (iblk m c 0 t : Vec Ideal S256x4096 .bf16) (ix2 r j)) = aX m c p := by
  funext i
  unfold aX
  blk_simp [iblk]
  entry_read
  rw [show ((View.whole main_v0).slice (win0_0.rect t)).emb (ix2 r i) = ix2 p i by blk_ext [idx t]]
  exact c0 _ p i

/-- Window 1 at point `t` holds the row tile `2 t`, the last point the last tile again. -/
theorem blk_x1 (t : Fin cfg0.N) (r : Fin 256) (p : Fin 4096) (hp : p.val = 256 * (min (2 * t.val) 15) + r.val) :
    (fun j : Fin 4096 => (iblk m c 1 t : Vec Ideal S256x4096 .bf16) (ix2 r j)) = aX m c p := by
  funext i
  unfold aX
  blk_simp [iblk]
  entry_read
  rw [show ((View.whole main_v0).slice (win0_1.rect t)).emb (ix2 r i) = ix2 p i by blk_ext [idx t]]
  exact c0 _ p i

/-- Window 2 holds the gain. -/
theorem blk_g (t : Fin cfg0.N) :
    (fun j : Fin 4096 => (iblk m c 2 t : Vec Ideal S1x4096 .f32) (ix2 (0 : Fin 1) j)) = aG m c := by
  funext i
  unfold aG
  blk_simp [iblk]
  entry_read
  rw [show ((View.whole main_v2).slice (win0_2.rect t)).emb (ix2 0 i) = ix2 0 i by blk_ext [idx t]]
  exact c1 _ i

/-- Window 3 holds the weights. -/
theorem blk_w (t : Fin cfg0.N) :
    (fun (i : Fin 4096) (j : Fin 1536) => (iblk m c 3 t : Vec Ideal S4096x1536 .fp8e4m3) (ix2 i j)) = aW m c := by
  funext i j
  unfold aW
  blk_simp [iblk]
  entry_read
  rw [show ((View.whole main_arg2).slice (win0_3.rect t)).emb (ix2 i j) = ix2 i j by blk_ext [idx t]]

/-- Window 4 holds the weights' scales. -/
theorem blk_s (t : Fin cfg0.N) :
    (fun j : Fin 1536 => (iblk m c 4 t : Vec Ideal S1x1536 .f32) (ix2 (0 : Fin 1) j)) = aS m c := by
  funext i
  unfold aS
  blk_simp [iblk]
  entry_read
  rw [show ((View.whole main_v3).slice (win0_4.rect t)).emb (ix2 0 i) = ix2 0 i by blk_ext [idx t]]
  exact c3 _ i

end Cert.KernelIdeal.Gen
-- ==== Proof.KerFinal.lean ====
module

public import proofs.«01_k».proof.Proof.KerBlocks

@[expose] public section

set_option maxRecDepth 16384

noncomputable section

open Idealize.ShloMosaic Idealize.ShloMosaic.TcCoe Idealize.SL.Sem
open scoped BigOperators

/-! The kernel's result arrays after the run. -/

namespace Cert.KernelIdeal.Gen
open Cert.Val

variable (m : (ℓ : Loc nD τ sig) → Buf (Elt Ideal) ℓ) (c : Dev nD)

/-- What point `t` leaves in the scratch array, for its row tile. -/
theorem sc_s0 (t : Fin cfg0.N) (r : Fin 256) (p : Fin 4096) (hp : p.val = 256 * (min (2 * t.val) 15) + r.val) (b : Fin 32) (q : Fin 128) :
    (outsAt0 m c t.val t.isLt).2.2.2.2.2.2.2.2.1 (ix3 b r q) = ((4 : ℝ) : EReal) * (xcode (aX m c p) (aG m c) b q * xsc (aX m c p) (aG m c) b) := by
  have h9 := lt9 t
  by_cases h : 1 ≤ t.val
  · rw [outsAt0_B m c t h (by omega)]
    dsimp only
    refine (s0B _ _ _ _ _ _ _ _ _ _ _ _ _ _ _ _ _ _ _ _ _ _ _ _ _ _ _ _ _ _ _ _ _ _ _ _ _ _ _ _ _ _ _ _ _ _ _ _ _ _ b r q).trans ?_
    rw [blk_x1 m c t r p hp, blk_g]
  · rw [outsAt0_A m c t h (by omega)]
    dsimp only
    refine (s0A _ _ _ _ _ _ _ _ _ _ _ _ _ _ _ _ _ _ _ _ _ _ _ _ _ _ _ _ _ _ _ _ _ _ _ _ _ _ _ _ _ _ _ _ _ _ _ b r q).trans ?_
    rw [blk_x1 m c t r p hp, blk_g]

/-- What point `t` leaves in the scratch array, for its row tile. -/
theorem sc_s2 (t : Fin cfg0.N) (r : Fin 256) (p : Fin 4096) (hp : p.val = 256 * (min (2 * t.val) 15) + r.val) (j : Fin 4096) :
    (outsAt0 m c t.val t.isLt).2.2.2.2.2.2.2.2.2.1 (ix2 r j) = xcode (aX m c p) (aG m c) ⟨j.val / 128, by omega⟩ ⟨j.val % 128, by omega⟩ := by
  have h9 := lt9 t
  by_cases h : 1 ≤ t.val
  · rw [outsAt0_B m c t h (by omega)]
    dsimp only
    refine (s2B _ _ _ _ _ _ _ _ _ _ _ _ _ _ _ _ _ _ _ _ _ _ _ _ _ _ _ _ _ _ _ _ _ _ _ _ _ _ _ _ _ _ _ _ _ _ _ _ _ _ r j).trans ?_
    rw [blk_x1 m c t r p hp, blk_g]
  · rw [outsAt0_A m c t h (by omega)]
    dsimp only
    refine (s2A _ _ _ _ _ _ _ _ _ _ _ _ _ _ _ _ _ _ _ _ _ _ _ _ _ _ _ _ _ _ _ _ _ _ _ _ _ _ _ _ _ _ _ _ _ _ _ r j).trans ?_
    rw [blk_x1 m c t r p hp, blk_g]

/-- What point `t` leaves in the scratch array, for its row tile. -/
theorem sc_s3 (t : Fin cfg0.N) (r : Fin 256) (p : Fin 4096) (hp : p.val = 256 * (min (2 * t.val) 15) + r.val) (l : Fin 128) (b : Fin 32) (hb : l.val = b.val) :
    (outsAt0 m c t.val t.isLt).2.2.2.2.2.2.2.2.2.2 (ix2 r l) = xfin (aX m c p) (aG m c) b := by
  have h9 := lt9 t
  by_cases h : 1 ≤ t.val
  · rw [outsAt0_B m c t h (by omega)]
    dsimp only
    refine (s3B _ _ _ _ _ _ _ _ _ _ _ _ _ _ _ _ _ _ _ _ _ _ _ _ _ _ _ _ _ _ _ _ _ _ _ _ _ _ _ _ _ _ _ _ _ _ _ _ _ _ r l b hb).trans ?_
    rw [blk_x1 m c t r p hp, blk_g]
  · rw [outsAt0_A m c t h (by omega)]
    dsimp only
    refine (s3A _ _ _ _ _ _ _ _ _ _ _ _ _ _ _ _ _ _ _ _ _ _ _ _ _ _ _ _ _ _ _ _ _ _ _ _ _ _ _ _ _ _ _ _ _ _ _ r l b hb).trans ?_
    rw [blk_x1 m c t r p hp, blk_g]

theorem fl5 : ∀ t : Fin cfg0.N, (cfg0.win 5).flush t = true → 1 ≤ t.val :=
  (by decide +kernel : ∀ t : Fin grid0.N, win0_5.flush t = true → 1 ≤ t.val)

theorem fl6 : ∀ t : Fin cfg0.N, (cfg0.win 6).flush t = true → 1 ≤ t.val :=
  (by decide +kernel : ∀ t : Fin grid0.N, win0_6.flush t = true → 1 ≤ t.val)

theorem fl7 : ∀ t : Fin cfg0.N, (cfg0.win 7).flush t = true → 1 ≤ t.val :=
  (by decide +kernel : ∀ t : Fin grid0.N, win0_7.flush t = true → 1 ≤ t.val)

theorem fl8 : ∀ t : Fin cfg0.N, (cfg0.win 8).flush t = true → 1 ≤ t.val :=
  (by decide +kernel : ∀ t : Fin grid0.N, win0_8.flush t = true → 1 ≤ t.val)

theorem fl9 : ∀ t : Fin cfg0.N, (cfg0.win 9).flush t = true → 1 ≤ t.val :=
  (by decide +kernel : ∀ t : Fin grid0.N, win0_9.flush t = true → 1 ≤ t.val)

theorem fl10 : ∀ t : Fin cfg0.N, (cfg0.win 10).flush t = true → 1 ≤ t.val :=
  (by decide +kernel : ∀ t : Fin grid0.N, win0_10.flush t = true → 1 ≤ t.val)

theorem fl11 : ∀ t : Fin cfg0.N, (cfg0.win 11).flush t = true → 1 ≤ t.val :=
  (by decide +kernel : ∀ t : Fin grid0.N, win0_11.flush t = true → 1 ≤ t.val)

theorem fl12 : ∀ t : Fin cfg0.N, (cfg0.win 12).flush t = true → 1 ≤ t.val :=
  (by decide +kernel : ∀ t : Fin grid0.N, win0_12.flush t = true → 1 ≤ t.val)

/-- Output window 5 after the run. -/
theorem final5 : (dats m 0 c).arrAt 5 (cfgs 0).N = (resC 0 (aX m c) (aG m c) (aW m c) (aS m c) : Vec Ideal S4096x4x128 .fp8e4m3) := by
  refine (dats m 0 c).arrAt_eq_of_covers 5 _ (by decide +kernel) fun t hf y => ?_
  have h1 : 1 ≤ t.val := (fl5 t) hf
  have h9 := lt9 t
  have hN : cfg0.N = 9 := N_0
  blk_simp
  obtain ⟨r', k, q, rfl⟩ : ∃ (r' : Fin 512) (k : Fin 4) (q : Fin 128), y = ix3 r' k q := ⟨y 0, y 1, y 2, by funext a; fin_cases a <;> rfl⟩
  obtain ⟨p, hp⟩ : ∃ p : Fin 4096, p.val = 512 * (t.val - 1) + r'.val := ⟨⟨512 * (t.val - 1) + r'.val, by omega⟩, rfl⟩
  rw [show ((View.whole main_v4_0).slice (win0_5.rect t)).emb (ix3 r' k q) = ix3 p k q by blk_ext [idx t]]
  rw [after0_5, outsAt0_B m c t h1 (by omega)]
  dsimp only
  by_cases hr : 256 ≤ r'.val
  · refine (o5_hi _ _ _ _ _ _ _ _ _ _ _ _ _ _ _ _ _ _ _ _ _ _ _ _ _ _ _ _ _ _ _ _ _ _ _ _ _ _ _ _ _ _ _ _ _ _ _ _ _ _ ⟨r'.val - 256, by omega⟩ k q r' (by show r'.val = r'.val - 256 + 256; omega)).trans ?_
    rw [blk_x0 m c t ⟨r'.val - 256, by omega⟩ p (by show _ = 256 * (2 * t.val - 1) + (r'.val - 256); omega), blk_g, blk_w, blk_s]
    rfl
  · refine (o5_lo _ _ _ _ _ _ _ _ _ _ _ _ _ _ _ _ _ _ _ _ _ _ _ _ _ _ _ _ _ _ _ _ _ _ _ _ _ _ _ _ _ _ _ _ _ _ _ _ _ _ ⟨r'.val, by omega⟩ (aX m c p) (fun b q => ?_) k q r' rfl).trans ?_
    · rw [blk_g]
      exact sc_s0 m c ⟨t.val - 1, by omega⟩ ⟨r'.val, by omega⟩ p (by show _ = 256 * (min (2 * (t.val - 1)) 15) + r'.val; omega) b q
    rw [blk_g, blk_w, blk_s]
    rfl

/-- Output window 6 after the run. -/
theorem final6 : (dats m 0 c).arrAt 6 (cfgs 0).N = (resS 0 (aX m c) (aG m c) (aW m c) (aS m c) : Vec Ideal S4x4096 .f32) := by
  refine (dats m 0 c).arrAt_eq_of_covers 6 _ (by decide +kernel) fun t hf y => ?_
  have h1 : 1 ≤ t.val := (fl6 t) hf
  have h9 := lt9 t
  have hN : cfg0.N = 9 := N_0
  blk_simp
  obtain ⟨k, r', rfl⟩ : ∃ (k : Fin 4) (r' : Fin 512), y = ix2 k r' := ⟨y 0, y 1, by funext a; fin_cases a <;> rfl⟩
  obtain ⟨p, hp⟩ : ∃ p : Fin 4096, p.val = 512 * (t.val - 1) + r'.val := ⟨⟨512 * (t.val - 1) + r'.val, by omega⟩, rfl⟩
  rw [show ((View.whole main_v4_1).slice (win0_6.rect t)).emb (ix2 k r') = ix2 k p by blk_ext [idx t]]
  rw [after0_6, outsAt0_B m c t h1 (by omega)]
  dsimp only
  by_cases hr : 256 ≤ r'.val
  · refine (o6_hi _ _ _ _ _ _ _ _ _ _ _ _ _ _ _ _ _ _ _ _ _ _ _ _ _ _ _ _ _ _ _ _ _ _ _ _ _ _ _ _ _ _ _ _ _ _ _ _ _ _ ⟨r'.val - 256, by omega⟩ k r' (by show r'.val = r'.val - 256 + 256; omega)).trans ?_
    rw [blk_x0 m c t ⟨r'.val - 256, by omega⟩ p (by show _ = 256 * (2 * t.val - 1) + (r'.val - 256); omega), blk_g, blk_w, blk_s]
    rfl
  · refine (o6_lo _ _ _ _ _ _ _ _ _ _ _ _ _ _ _ _ _ _ _ _ _ _ _ _ _ _ _ _ _ _ _ _ _ _ _ _ _ _ _ _ _ _ _ _ _ _ _ _ _ _ ⟨r'.val, by omega⟩ (aX m c p) (fun b q => ?_) k r' rfl).trans ?_
    · rw [blk_g]
      exact sc_s0 m c ⟨t.val - 1, by omega⟩ ⟨r'.val, by omega⟩ p (by show _ = 256 * (min (2 * (t.val - 1)) 15) + r'.val; omega) b q
    rw [blk_g, blk_w, blk_s]
    rfl

/-- Output window 7 after the run. -/
theorem final7 : (dats m 0 c).arrAt 7 (cfgs 0).N = (resC 1 (aX m c) (aG m c) (aW m c) (aS m c) : Vec Ideal S4096x4x128 .fp8e4m3) := by
  refine (dats m 0 c).arrAt_eq_of_covers 7 _ (by decide +kernel) fun t hf y => ?_
  have h1 : 1 ≤ t.val := (fl7 t) hf
  have h9 := lt9 t
  have hN : cfg0.N = 9 := N_0
  blk_simp
  obtain ⟨r', k, q, rfl⟩ : ∃ (r' : Fin 512) (k : Fin 4) (q : Fin 128), y = ix3 r' k q := ⟨y 0, y 1, y 2, by funext a; fin_cases a <;> rfl⟩
  obtain ⟨p, hp⟩ : ∃ p : Fin 4096, p.val = 512 * (t.val - 1) + r'.val := ⟨⟨512 * (t.val - 1) + r'.val, by omega⟩, rfl⟩
  rw [show ((View.whole main_v4_2).slice (win0_7.rect t)).emb (ix3 r' k q) = ix3 p k q by blk_ext [idx t]]
  rw [after0_7, outsAt0_B m c t h1 (by omega)]
  dsimp only
  by_cases hr : 256 ≤ r'.val
  · refine (o7_hi _ _ _ _ _ _ _ _ _ _ _ _ _ _ _ _ _ _ _ _ _ _ _ _ _ _ _ _ _ _ _ _ _ _ _ _ _ _ _ _ _ _ _ _ _ _ _ _ _ _ ⟨r'.val - 256, by omega⟩ k q r' (by show r'.val = r'.val - 256 + 256; omega)).trans ?_
    rw [blk_x0 m c t ⟨r'.val - 256, by omega⟩ p (by show _ = 256 * (2 * t.val - 1) + (r'.val - 256); omega), blk_g, blk_w, blk_s]
    rfl
  · refine (o7_lo _ _ _ _ _ _ _ _ _ _ _ _ _ _ _ _ _ _ _ _ _ _ _ _ _ _ _ _ _ _ _ _ _ _ _ _ _ _ _ _ _ _ _ _ _ _ _ _ _ _ ⟨r'.val, by omega⟩ (aX m c p) (fun b q => ?_) k q r' rfl).trans ?_
    · rw [blk_g]
      exact sc_s0 m c ⟨t.val - 1, by omega⟩ ⟨r'.val, by omega⟩ p (by show _ = 256 * (min (2 * (t.val - 1)) 15) + r'.val; omega) b q
    rw [blk_g, blk_w, blk_s]
    rfl

/-- Output window 8 after the run. -/
theorem final8 : (dats m 0 c).arrAt 8 (cfgs 0).N = (resS 1 (aX m c) (aG m c) (aW m c) (aS m c) : Vec Ideal S4x4096 .f32) := by
  refine (dats m 0 c).arrAt_eq_of_covers 8 _ (by decide +kernel) fun t hf y => ?_
  have h1 : 1 ≤ t.val := (fl8 t) hf
  have h9 := lt9 t
  have hN : cfg0.N = 9 := N_0
  blk_simp
  obtain ⟨k, r', rfl⟩ : ∃ (k : Fin 4) (r' : Fin 512), y = ix2 k r' := ⟨y 0, y 1, by funext a; fin_cases a <;> rfl⟩
  obtain ⟨p, hp⟩ : ∃ p : Fin 4096, p.val = 512 * (t.val - 1) + r'.val := ⟨⟨512 * (t.val - 1) + r'.val, by omega⟩, rfl⟩
  rw [show ((View.whole main_v4_3).slice (win0_8.rect t)).emb (ix2 k r') = ix2 k p by blk_ext [idx t]]
  rw [after0_8, outsAt0_B m c t h1 (by omega)]
  dsimp only
  by_cases hr : 256 ≤ r'.val
  · refine (o8_hi _ _ _ _ _ _ _ _ _ _ _ _ _ _ _ _ _ _ _ _ _ _ _ _ _ _ _ _ _ _ _ _ _ _ _ _ _ _ _ _ _ _ _ _ _ _ _ _ _ _ ⟨r'.val - 256, by omega⟩ k r' (by show r'.val = r'.val - 256 + 256; omega)).trans ?_
    rw [blk_x0 m c t ⟨r'.val - 256, by omega⟩ p (by show _ = 256 * (2 * t.val - 1) + (r'.val - 256); omega), blk_g, blk_w, blk_s]
    rfl
  · refine (o8_lo _ _ _ _ _ _ _ _ _ _ _ _ _ _ _ _ _ _ _ _ _ _ _ _ _ _ _ _ _ _ _ _ _ _ _ _ _ _ _ _ _ _ _ _ _ _ _ _ _ _ ⟨r'.val, by omega⟩ (aX m c p) (fun b q => ?_) k r' rfl).trans ?_
    · rw [blk_g]
      exact sc_s0 m c ⟨t.val - 1, by omega⟩ ⟨r'.val, by omega⟩ p (by show _ = 256 * (min (2 * (t.val - 1)) 15) + r'.val; omega) b q
    rw [blk_g, blk_w, blk_s]
    rfl

/-- Output window 9 after the run. -/
theorem final9 : (dats m 0 c).arrAt 9 (cfgs 0).N = (resC 2 (aX m c) (aG m c) (aW m c) (aS m c) : Vec Ideal S4096x4x128 .fp8e4m3) := by
  refine (dats m 0 c).arrAt_eq_of_covers 9 _ (by decide +kernel) fun t hf y => ?_
  have h1 : 1 ≤ t.val := (fl9 t) hf
  have h9 := lt9 t
  have hN : cfg0.N = 9 := N_0
  blk_simp
  obtain ⟨r', k, q, rfl⟩ : ∃ (r' : Fin 512) (k : Fin 4) (q : Fin 128), y = ix3 r' k q := ⟨y 0, y 1, y 2, by funext a; fin_cases a <;> rfl⟩
  obtain ⟨p, hp⟩ : ∃ p : Fin 4096, p.val = 512 * (t.val - 1) + r'.val := ⟨⟨512 * (t.val - 1) + r'.val, by omega⟩, rfl⟩
  rw [show ((View.whole main_v4_4).slice (win0_9.rect t)).emb (ix3 r' k q) = ix3 p k q by blk_ext [idx t]]
  rw [after0_9, outsAt0_B m c t h1 (by omega)]
  dsimp only
  by_cases hr : 256 ≤ r'.val
  · refine (o9_hi _ _ _ _ _ _ _ _ _ _ _ _ _ _ _ _ _ _ _ _ _ _ _ _ _ _ _ _ _ _ _ _ _ _ _ _ _ _ _ _ _ _ _ _ _ _ _ _ _ _ ⟨r'.val - 256, by omega⟩ k q r' (by show r'.val = r'.val - 256 + 256; omega)).trans ?_
    rw [blk_x0 m c t ⟨r'.val - 256, by omega⟩ p (by show _ = 256 * (2 * t.val - 1) + (r'.val - 256); omega), blk_g, blk_w, blk_s]
    rfl
  · refine (o9_lo _ _ _ _ _ _ _ _ _ _ _ _ _ _ _ _ _ _ _ _ _ _ _ _ _ _ _ _ _ _ _ _ _ _ _ _ _ _ _ _ _ _ _ _ _ _ _ _ _ _ ⟨r'.val, by omega⟩ (aX m c p) (fun b q => ?_) k q r' rfl).trans ?_
    · rw [blk_g]
      exact sc_s0 m c ⟨t.val - 1, by omega⟩ ⟨r'.val, by omega⟩ p (by show _ = 256 * (min (2 * (t.val - 1)) 15) + r'.val; omega) b q
    rw [blk_g, blk_w, blk_s]
    rfl

/-- Output window 10 after the run. -/
theorem final10 : (dats m 0 c).arrAt 10 (cfgs 0).N = (resS 2 (aX m c) (aG m c) (aW m c) (aS m c) : Vec Ideal S4x4096 .f32) := by
  refine (dats m 0 c).arrAt_eq_of_covers 10 _ (by decide +kernel) fun t hf y => ?_
  have h1 : 1 ≤ t.val := (fl10 t) hf
  have h9 := lt9 t
  have hN : cfg0.N = 9 := N_0
  blk_simp
  obtain ⟨k, r', rfl⟩ : ∃ (k : Fin 4) (r' : Fin 512), y = ix2 k r' := ⟨y 0, y 1, by funext a; fin_cases a <;> rfl⟩
  obtain ⟨p, hp⟩ : ∃ p : Fin 4096, p.val = 512 * (t.val - 1) + r'.val := ⟨⟨512 * (t.val - 1) + r'.val, by omega⟩, rfl⟩
  rw [show ((View.whole main_v4_5).slice (win0_10.rect t)).emb (ix2 k r') = ix2 k p by blk_ext [idx t]]
  rw [after0_10, outsAt0_B m c t h1 (by omega)]
  dsimp only
  by_cases hr : 256 ≤ r'.val
  · refine (o10_hi _ _ _ _ _ _ _ _ _ _ _ _ _ _ _ _ _ _ _ _ _ _ _ _ _ _ _ _ _ _ _ _ _ _ _ _ _ _ _ _ _ _ _ _ _ _ _ _ _ _ ⟨r'.val - 256, by omega⟩ k r' (by show r'.val = r'.val - 256 + 256; omega)).trans ?_
    rw [blk_x0 m c t ⟨r'.val - 256, by omega⟩ p (by show _ = 256 * (2 * t.val - 1) + (r'.val - 256); omega), blk_g, blk_w, blk_s]
    rfl
  · refine (o10_lo _ _ _ _ _ _ _ _ _ _ _ _ _ _ _ _ _ _ _ _ _ _ _ _ _ _ _ _ _ _ _ _ _ _ _ _ _ _ _ _ _ _ _ _ _ _ _ _ _ _ ⟨r'.val, by omega⟩ (aX m c p) (fun b q => ?_) k r' rfl).trans ?_
    · rw [blk_g]
      exact sc_s0 m c ⟨t.val - 1, by omega⟩ ⟨r'.val, by omega⟩ p (by show _ = 256 * (min (2 * (t.val - 1)) 15) + r'.val; omega) b q
    rw [blk_g, blk_w, blk_s]
    rfl

/-- Output window 11 after the run. -/
theorem final11 : (dats m 0 c).arrAt 11 (cfgs 0).N = (resXc (aX m c) (aG m c) : Vec Ideal S4096x4096 .fp8e4m3) := by
  refine (dats m 0 c).arrAt_eq_of_covers 11 _ (by decide +kernel) fun t hf y => ?_
  have h1 : 1 ≤ t.val := (fl11 t) hf
  have h9 := lt9 t
  have hN : cfg0.N = 9 := N_0
  blk_simp
  obtain ⟨r', j, rfl⟩ : ∃ (r' : Fin 512) (j : Fin 4096), y = ix2 r' j := ⟨y 0, y 1, by funext a; fin_cases a <;> rfl⟩
  obtain ⟨p, hp⟩ : ∃ p : Fin 4096, p.val = 512 * (t.val - 1) + r'.val := ⟨⟨512 * (t.val - 1) + r'.val, by omega⟩, rfl⟩
  rw [show ((View.whole main_v4_6).slice (win0_11.rect t)).emb (ix2 r' j) = ix2 p j by blk_ext [idx t]]
  rw [after0_11, outsAt0_B m c t h1 (by omega)]
  dsimp only
  by_cases hr : 256 ≤ r'.val
  · refine (o11_hi _ _ _ _ _ _ _ _ _ _ _ _ _ _ _ _ _ _ _ _ _ _ _ _ _ _ _ _ _ _ _ _ _ _ _ _ _ _ _ _ _ _ _ _ _ _ _ _ _ _ ⟨r'.val - 256, by omega⟩ j r' (by show r'.val = r'.val - 256 + 256; omega)).trans ?_
    rw [blk_x0 m c t ⟨r'.val - 256, by omega⟩ p (by show _ = 256 * (2 * t.val - 1) + (r'.val - 256); omega), blk_g]
    rfl
  · refine (o11_lo _ _ _ _ _ _ _ _ _ _ _ _ _ _ _ _ _ _ _ _ _ _ _ _ _ _ _ _ _ _ _ _ _ _ _ _ _ _ _ _ _ _ _ _ _ _ _ _ _ _ ⟨r'.val, by omega⟩ j r' rfl).trans ?_
    refine (sc_s2 m c ⟨t.val - 1, by omega⟩ ⟨r'.val, by omega⟩ p (by show _ = 256 * (min (2 * (t.val - 1)) 15) + r'.val; omega) j).trans ?_
    rfl

/-- Output window 12 after the run. -/
theorem final12 : (dats m 0 c).arrAt 12 (cfgs 0).N = (resXs (aX m c) (aG m c) : Vec Ideal S32x4096 .f32) := by
  refine (dats m 0 c).arrAt_eq_of_covers 12 _ (by decide +kernel) fun t hf y => ?_
  have h1 : 1 ≤ t.val := (fl12 t) hf
  have h9 := lt9 t
  have hN : cfg0.N = 9 := N_0
  blk_simp
  obtain ⟨b, r', rfl⟩ : ∃ (b : Fin 32) (r' : Fin 512), y = ix2 b r' := ⟨y 0, y 1, by funext a; fin_cases a <;> rfl⟩
  obtain ⟨p, hp⟩ : ∃ p : Fin 4096, p.val = 512 * (t.val - 1) + r'.val := ⟨⟨512 * (t.val - 1) + r'.val, by omega⟩, rfl⟩
  rw [show ((View.whole main_v4_7).slice (win0_12.rect t)).emb (ix2 b r') = ix2 b p by blk_ext [idx t]]
  rw [after0_12, outsAt0_B m c t h1 (by omega)]
  dsimp only
  by_cases hr : 256 ≤ r'.val
  · refine (o12_hi _ _ _ _ _ _ _ _ _ _ _ _ _ _ _ _ _ _ _ _ _ _ _ _ _ _ _ _ _ _ _ _ _ _ _ _ _ _ _ _ _ _ _ _ _ _ _ _ _ _ ⟨r'.val - 256, by omega⟩ b r' (by show r'.val = r'.val - 256 + 256; omega)).trans ?_
    rw [blk_x0 m c t ⟨r'.val - 256, by omega⟩ p (by show _ = 256 * (2 * t.val - 1) + (r'.val - 256); omega), blk_g]
    rfl
  · refine (o12_lo _ _ _ _ _ _ _ _ _ _ _ _ _ _ _ _ _ _ _ _ _ _ _ _ _ _ _ _ _ _ _ _ _ _ _ _ _ _ _ _ _ _ _ _ _ _ _ _ _ _ ⟨r'.val, by omega⟩ b r' rfl).trans ?_
    refine (sc_s3 m c ⟨t.val - 1, by omega⟩ ⟨r'.val, by omega⟩ p (by show _ = 256 * (min (2 * (t.val - 1)) 15) + r'.val; omega) ⟨b.val, by omega⟩ b rfl).trans ?_
    rfl

end Cert.KernelIdeal.Gen
-- ==== Proof.RefStages.lean ====
module

public import proofs.«01_k».proof.Proof.Gen.ReferenceIdeal.Skeleton

@[expose] public section

set_option maxRecDepth 16384

noncomputable section

open Idealize.ShloMosaic Idealize.ShloMosaic.TcCoe Idealize.SL.Sem

/-! The stages of the reference's body, one definition each: the text is the body's own, cut where the proofs cut it. -/

namespace Cert.ReferenceIdeal.Gen

variable {F : FTy → Type} [FloatOps F]

/-- The normalised rows, in blocks of 128. -/
def hid (v0 : Vec F S4096x4096 .bf16) (v13 : Vec F S1x4096 .bf16) : FVec F S4096x32x128 .f32 :=
  have v1 : FVec F S4096x4096 .bf16 := shapeCast S4096x4096 v0 shapeCasts_S4096x4096_S4096x4096
  have v2 : FVec F S4096x4096 .f32 := extf .f32 v1 bitsLt_bf16_f32
  have v3 : FVec F S4096x4096 .f32 := mulf v2 v2
  have v4 : FVec F S4096 .f32 := multiReduction .add [1] S4096 v3 0x00000000#32 reduces_S4096x4096_S4096 (.inl rfl) rfl
  have v5 : FVec F S4096x1 .f32 := shapeCast S4096x1 v4 shapeCasts_S4096_S4096x1
  have cst_1 : F .f32 := Scalar.ofBits .f32 0x45800000#32
  have v6 : FVec F S4096x1 .f32 := broadcast S4096x1 cst_1
  have v7 : FVec F S4096x1 .f32 := divf v5 v6
  have cst_2 : F .f32 := Scalar.ofBits .f32 0x358637BD#32
  have v8 : FVec F S4096x1 .f32 := broadcast S4096x1 cst_2
  have v9 : FVec F S4096x1 .f32 := addf v7 v8
  have v10 : FVec F S4096x1 .f32 := rsqrt v9
  have v11 : FVec F S4096x4096 .f32 := broadcastTo S4096x4096 v10 broadcasts_S4096x1_S4096x4096
  have v12 : FVec F S4096x4096 .f32 := mulf v2 v11
  have v14 : FVec F S1x4096 .bf16 := shapeCast S1x4096 v13 shapeCasts_S1x4096_S1x4096
  have v15 : FVec F S1x4096 .f32 := extf .f32 v14 bitsLt_bf16_f32
  have v16 : FVec F S4096x4096 .f32 := broadcastTo S4096x4096 v15 broadcasts_S1x4096_S4096x4096
  have v17 : FVec F S4096x4096 .f32 := mulf v12 v16
  have v18 : FVec F S4096x32x128 .f32 := shapeCast S4096x32x128 v17 shapeCasts_S4096x4096_S4096x32x128
  v18

/-- The exponent byte of each block's scale. -/
def bits32 (v0 : Vec F S4096x4096 .bf16) (v13 : Vec F S1x4096 .bf16) : IVec S4096x32x1 32 :=
  have v19 : FVec F S4096x32x128 .f32 := absf (hid v0 v13)
  have v20 : FVec F S4096x32 .f32 := multiReduction .maximumf [2] S4096x32 v19 0xFF800000#32 reduces_S4096x32x128_S4096x32 (.inl rfl) rfl
  have v21 : FVec F S4096x32x1 .f32 := shapeCast S4096x32x1 v20 shapeCasts_S4096x32_S4096x32x1
  have cst_6 : F .f32 := Scalar.ofBits .f32 0x3B124925#32
  have v22 : FVec F S4096x32x1 .f32 := broadcast S4096x32x1 cst_6
  have v23 : FVec F S4096x32x1 .f32 := mulf v21 v22
  have v24 : IVec S4096x32x256 32 := iota .tc S4096x32x256 32 [2] iota_S4096x32x256_d2_w32
  have v25 : IVec S4096x32x256 32 := broadcast S4096x32x256 255#32
  have v26 : IVec S4096x32x256 1 := cmpi .eq v24 v25
  have v27 : IVec S4096x32x256 32 := broadcast S4096x32x256 130#32
  have v28 : IVec S4096x32x256 32 := subi v24 v27
  have v29 : FVec F S4096x32x256 .f32 := sitofp .f32 v28
  have v30 : FVec F S4096x32x256 .f32 := exp2 v29
  have cst_7 : F .f32 := Scalar.ofBits .f32 0x7F800000#32
  have v31 : FVec F S4096x32x256 .f32 := broadcast S4096x32x256 cst_7
  have v32 : FVec F S4096x32x256 .f32 := select v26 v31 v30
  have v33 : FVec F S4096x32x256 .f32 := broadcastTo S4096x32x256 v23 broadcasts_S4096x32x1_S4096x32x256
  have v34 : IVec S4096x32x256 1 := cmpf .ole v32 v33
  have v35 : IVec S4096x32x256 32 := broadcast S4096x32x256 0#32
  have v36 : IVec S4096x32x256 32 := select v34 v24 v35
  have v37 : IVec S4096x32 32 := multiReductionI .maxsi [2] S4096x32 v36 2147483648#32 reduces_S4096x32x256_S4096x32 rfl
  have v38 : IVec S4096x32x1 32 := shapeCast S4096x32x1 v37 shapeCasts_S4096x32_S4096x32x1
  select (cmpf .oeq v23 (broadcast S4096x32x1 (Scalar.ofBits .f32 0x00000000#32))) (broadcast S4096x32x1 0#32) v38

/-- The unbiased exponent of that byte. -/
def exp32 (v0 : Vec F S4096x4096 .bf16) (v13 : Vec F S1x4096 .bf16) : FVec F S4096x32x1 .f32 :=
  have v39 : IVec S4096x32x1 32 := broadcast S4096x32x1 129#32
  have v40 : IVec S4096x32x1 32 := subi (bits32 v0 v13) v39
  have v41 : FVec F S4096x32x1 .f32 := sitofp .f32 v40
  v41

/-- Whether that byte is zero. -/
def isz32 (v0 : Vec F S4096x4096 .bf16) (v13 : Vec F S1x4096 .bf16) : IVec S4096x32x1 1 :=
  have v42 : IVec S4096x32x1 32 := broadcast S4096x32x1 0#32
  have v43 : IVec S4096x32x1 1 := cmpi .eq (bits32 v0 v13) v42
  v43

/-- Each block's scale. -/
def scl32 (v38 : IVec S4096x32x1 32) (v41 : FVec F S4096x32x1 .f32) (v43 : IVec S4096x32x1 1) : FVec F S4096x32x1 .f32 :=
  have v44 : IVec S4096x32x1 32 := broadcast S4096x32x1 255#32
  have v45 : IVec S4096x32x1 1 := cmpi .eq v38 v44
  have v46 : FVec F S4096x32x1 .f32 := exp2 v41
  have cst_11 : F .f32 := Scalar.ofBits .f32 0x7F800000#32
  have v47 : FVec F S4096x32x1 .f32 := broadcast S4096x32x1 cst_11
  have v48 : FVec F S4096x32x1 .f32 := select v45 v47 v46
  have cst_12 : F .f32 := Scalar.ofBits .f32 0x00000000#32
  have v49 : FVec F S4096x32x1 .f32 := broadcast S4096x32x1 cst_12
  have v50 : FVec F S4096x32x1 .f32 := select v43 v49 v48
  v50

/-- Each block's codes. -/
def cod32 (v18 : FVec F S4096x32x128 .f32) (v38 : IVec S4096x32x1 32) (v41 : FVec F S4096x32x1 .f32) : FVec F S4096x32x128 .fp8e4m3 :=
  have v51 : IVec S4096x32x1 32 := broadcast S4096x32x1 0#32
  have v52 : IVec S4096x32x1 1 := cmpi .eq v38 v51
  have v53 : IVec S4096x32x1 32 := broadcast S4096x32x1 1#32
  have v54 : IVec S4096x32x1 1 := cmpi .eq v38 v53
  have cst_14 : F .f32 := Scalar.ofBits .f32 0x00000000#32
  have v55 : FVec F S4096x32x1 .f32 := broadcast S4096x32x1 cst_14
  have v56 : FVec F S4096x32x1 .f32 := subf v55 v41
  have v57 : FVec F S4096x32x1 .f32 := exp2 v56
  have cst_15 : F .f32 := Scalar.ofBits .f32 0x7F800000#32
  have v58 : FVec F S4096x32x1 .f32 := broadcast S4096x32x1 cst_15
  have v59 : FVec F S4096x32x1 .f32 := select v54 v58 v57
  have cst_16 : F .f32 := Scalar.ofBits .f32 0x00000000#32
  have v60 : FVec F S4096x32x1 .f32 := broadcast S4096x32x1 cst_16
  have v61 : FVec F S4096x32x1 .f32 := select v52 v60 v59
  have v62 : FVec F S4096x32x128 .f32 := broadcastTo S4096x32x128 v61 broadcasts_S4096x32x1_S4096x32x128
  have v63 : FVec F S4096x32x128 .f32 := mulf v18 v62
  have cst_17 : F .f32 := Scalar.ofBits .f32 0xC3E00000#32
  have cst_18 : F .f32 := Scalar.ofBits .f32 0x43E00000#32
  have v64 : FVec F S4096x32x128 .f32 := broadcast S4096x32x128 cst_17
  have v65 : FVec F S4096x32x128 .f32 := maximumf v64 v63
  have v66 : FVec F S4096x32x128 .f32 := broadcast S4096x32x128 cst_18
  have v67 : FVec F S4096x32x128 .f32 := minimumf v66 v65
  have v68 : FVec F S4096x32x128 .fp8e4m3 := truncf .fp8e4m3 v67 bitsLt_fp8e4m3_f32
  v68

/-- Each block's recorded scale. -/
def fin32 (v38 : IVec S4096x32x1 32) (v41 : FVec F S4096x32x1 .f32) (v43 : IVec S4096x32x1 1) : FVec F S4096x32x1 .f32 :=
  have cst_19 : F .f32 := Scalar.ofBits .f32 0x00800000#32
  have v69 : FVec F S4096x32x1 .f32 := broadcast S4096x32x1 cst_19
  have v70 : IVec S4096x32x1 1 := cmpf .olt (scl32 v38 v41 v43) v69
  have cst_20 : F .f32 := Scalar.ofBits .f32 0x3F800000#32
  have v71 : FVec F S4096x32x1 .f32 := broadcast S4096x32x1 cst_20
  have v72 : FVec F S4096x32x1 .f32 := select v70 v71 (scl32 v38 v41 v43)
  v72

/-- The projected rows, by head. -/
def prj (v18 : FVec F S4096x32x128 .f32) (v38 : IVec S4096x32x1 32) (v41 : FVec F S4096x32x1 .f32) (v43 : IVec S4096x32x1 1) (v78 : Vec F S4096x1536 .fp8e4m3) (v81 : Vec F S1x1536 .f32) : FVec F S4096x12x128 .f32 :=
  have v73 : FVec F S4096x32x128 .bf16 := extf .bf16 (cod32 v18 v38 v41) bitsLt_fp8e4m3_bf16
  have v74 : FVec F S4096x32x1 .bf16 := truncf .bf16 (scl32 v38 v41 v43) bitsLt_bf16_f32
  have v75 : FVec F S4096x32x128 .bf16 := broadcastTo S4096x32x128 v74 broadcasts_S4096x32x1_S4096x32x128
  have v76 : FVec F S4096x32x128 .bf16 := mulf v73 v75
  have v77 : FVec F S4096x4096 .bf16 := shapeCast S4096x4096 v76 shapeCasts_S4096x32x128_S4096x4096
  have v79 : FVec F S4096x1536 .bf16 := extf .bf16 v78 bitsLt_fp8e4m3_bf16
  have cst_23 : FVec F S4096x1536 .f32 := constant S4096x1536 .f32 0x00000000#32
  have v80 : FVec F S4096x1536 .f32 := matmul dot_S4096x4096_S4096x1536_S4096x1536_1_0_0_1_n_n none v77 v79 cst_23
  have v82 : FVec F S1x1536 .f32 := shapeCast S1x1536 v81 shapeCasts_S1x1536_S1x1536
  have v83 : FVec F S4096x1536 .f32 := broadcastTo S4096x1536 v82 broadcasts_S1x1536_S4096x1536
  have v84 : FVec F S4096x1536 .f32 := mulf v80 v83
  have v85 : FVec F S4096x12x128 .f32 := shapeCast S4096x12x128 v84 shapeCasts_S4096x1536_S4096x12x128
  v85

/-- The exponent byte of each head's scale. -/
def bits12 (v86 : FVec F S4096x12x128 .f32) : IVec S4096x12x1 32 :=
  have v87 : FVec F S4096x12 .f32 := multiReduction .maximumf [2] S4096x12 v86 0xFF800000#32 reduces_S4096x12x128_S4096x12 (.inl rfl) rfl
  have v88 : FVec F S4096x12x1 .f32 := shapeCast S4096x12x1 v87 shapeCasts_S4096x12_S4096x12x1
  have cst_27 : F .f32 := Scalar.ofBits .f32 0x3B124925#32
  have v89 : FVec F S4096x12x1 .f32 := broadcast S4096x12x1 cst_27
  have v90 : FVec F S4096x12x1 .f32 := mulf v88 v89
  have v91 : IVec S4096x12x256 32 := iota .tc S4096x12x256 32 [2] iota_S4096x12x256_d2_w32
  have v92 : IVec S4096x12x256 32 := broadcast S4096x12x256 255#32
  have v93 : IVec S4096x12x256 1 := cmpi .eq v91 v92
  have v94 : IVec S4096x12x256 32 := broadcast S4096x12x256 130#32
  have v95 : IVec S4096x12x256 32 := subi v91 v94
  have v96 : FVec F S4096x12x256 .f32 := sitofp .f32 v95
  have v97 : FVec F S4096x12x256 .f32 := exp2 v96
  have cst_30 : F .f32 := Scalar.ofBits .f32 0x7F800000#32
  have v98 : FVec F S4096x12x256 .f32 := broadcast S4096x12x256 cst_30
  have v99 : FVec F S4096x12x256 .f32 := select v93 v98 v97
  have v100 : FVec F S4096x12x256 .f32 := broadcastTo S4096x12x256 v90 broadcasts_S4096x12x1_S4096x12x256
  have v101 : IVec S4096x12x256 1 := cmpf .ole v99 v100
  have v102 : IVec S4096x12x256 32 := broadcast S4096x12x256 0#32
  have v103 : IVec S4096x12x256 32 := select v101 v91 v102
  have v104 : IVec S4096x12 32 := multiReductionI .maxsi [2] S4096x12 v103 2147483648#32 reduces_S4096x12x256_S4096x12 rfl
  have v105 : IVec S4096x12x1 32 := shapeCast S4096x12x1 v104 shapeCasts_S4096x12_S4096x12x1
  select (cmpf .oeq v90 (broadcast S4096x12x1 (Scalar.ofBits .f32 0x00000000#32))) (broadcast S4096x12x1 0#32) v105

/-- Whether that byte is zero, or what its exponent is. -/
def exp12 (v86 : FVec F S4096x12x128 .f32) : FVec F S4096x12x1 .f32 :=
  have v106 : IVec S4096x12x1 32 := broadcast S4096x12x1 129#32
  have v107 : IVec S4096x12x1 32 := subi (bits12 v86) v106
  have v108 : FVec F S4096x12x1 .f32 := sitofp .f32 v107
  v108

/-- Each head's scale. -/
def scl12 (v86 : FVec F S4096x12x128 .f32) : FVec F S4096x12x1 .f32 :=
  have v109 : IVec S4096x12x1 32 := broadcast S4096x12x1 0#32
  have v110 : IVec S4096x12x1 1 := cmpi .eq (bits12 v86) v109
  have v111 : IVec S4096x12x1 32 := broadcast S4096x12x1 255#32
  have v112 : IVec S4096x12x1 1 := cmpi .eq (bits12 v86) v111
  have v113 : FVec F S4096x12x1 .f32 := exp2 (exp12 v86)
  have cst_36 : F .f32 := Scalar.ofBits .f32 0x7F800000#32
  have v114 : FVec F S4096x12x1 .f32 := broadcast S4096x12x1 cst_36
  have v115 : FVec F S4096x12x1 .f32 := select v112 v114 v113
  have cst_37 : F .f32 := Scalar.ofBits .f32 0x00000000#32
  have v116 : FVec F S4096x12x1 .f32 := broadcast S4096x12x1 cst_37
  have v117 : FVec F S4096x12x1 .f32 := select v110 v116 v115
  v117

/-- The reciprocal of each head's scale. -/
def inv12 (v86 : FVec F S4096x12x128 .f32) : FVec F S4096x12x128 .f32 :=
  have v118 : IVec S4096x12x1 32 := broadcast S4096x12x1 0#32
  have v119 : IVec S4096x12x1 1 := cmpi .eq (bits12 v86) v118
  have v120 : IVec S4096x12x1 32 := broadcast S4096x12x1 1#32
  have v121 : IVec S4096x12x1 1 := cmpi .eq (bits12 v86) v120
  have cst_40 : F .f32 := Scalar.ofBits .f32 0x00000000#32
  have v122 : FVec F S4096x12x1 .f32 := broadcast S4096x12x1 cst_40
  have v123 : FVec F S4096x12x1 .f32 := subf v122 (exp12 v86)
  have v124 : FVec F S4096x12x1 .f32 := exp2 v123
  have cst_41 : F .f32 := Scalar.ofBits .f32 0x7F800000#32
  have v125 : FVec F S4096x12x1 .f32 := broadcast S4096x12x1 cst_41
  have v126 : FVec F S4096x12x1 .f32 := select v121 v125 v124
  have cst_42 : F .f32 := Scalar.ofBits .f32 0x00000000#32
  have v127 : FVec F S4096x12x1 .f32 := broadcast S4096x12x1 cst_42
  have v128 : FVec F S4096x12x1 .f32 := select v119 v127 v126
  have v129 : FVec F S4096x12x128 .f32 := broadcastTo S4096x12x128 v128 broadcasts_S4096x12x1_S4096x12x128
  v129

/-- Each head's codes. -/
def cod12 (v85 : FVec F S4096x12x128 .f32) (v129 : FVec F S4096x12x128 .f32) : FVec F S4096x12x128 .fp8e4m3 :=
  have v130 : FVec F S4096x12x128 .f32 := mulf v85 v129
  have cst_43 : F .f32 := Scalar.ofBits .f32 0xC3E00000#32
  have cst_44 : F .f32 := Scalar.ofBits .f32 0x43E00000#32
  have v131 : FVec F S4096x12x128 .f32 := broadcast S4096x12x128 cst_43
  have v132 : FVec F S4096x12x128 .f32 := maximumf v131 v130
  have v133 : FVec F S4096x12x128 .f32 := broadcast S4096x12x128 cst_44
  have v134 : FVec F S4096x12x128 .f32 := minimumf v133 v132
  have v135 : FVec F S4096x12x128 .fp8e4m3 := truncf .fp8e4m3 v134 bitsLt_fp8e4m3_f32
  v135

/-- Each head's recorded scale. -/
def fin12 (v117 : FVec F S4096x12x1 .f32) : FVec F S4096x12x1 .f32 :=
  have cst_45 : F .f32 := Scalar.ofBits .f32 0x00800000#32
  have v136 : FVec F S4096x12x1 .f32 := broadcast S4096x12x1 cst_45
  have v137 : IVec S4096x12x1 1 := cmpf .olt v117 v136
  have cst_46 : F .f32 := Scalar.ofBits .f32 0x3F800000#32
  have v138 : FVec F S4096x12x1 .f32 := broadcast S4096x12x1 cst_46
  have v139 : FVec F S4096x12x1 .f32 := select v137 v138 v117
  v139

/-- Codes of the queries. -/
def outC0 (v85 : FVec F S4096x12x128 .f32) (v129 : FVec F S4096x12x128 .f32) : FVec F S4096x4x128 .fp8e4m3 :=
  have v140 : FVec F S4096x4x128 .fp8e4m3 := extractStridedSlice S4096x4x128 ![0, 0, 0] (cod12 v85 v129) slices_S4096x12x128_o0_0_0_S4096x4x128
  v140

/-- Recorded scales of the queries. -/
def outS0 (v117 : FVec F S4096x12x1 .f32) : FVec F S4x4096 .f32 :=
  have v142 : FVec F S4096x4x1 .f32 := extractStridedSlice S4096x4x1 ![0, 0, 0] (fin12 v117) slices_S4096x12x1_o0_0_0_S4096x4x1
  have v143 : FVec F S4096x4 .f32 := shapeCast S4096x4 v142 shapeCasts_S4096x4x1_S4096x4
  have v144 : FVec F S4x4096 .f32 := transpose S4x4096 [1, 0] v143 transposes_S4096x4_p1_0_S4x4096
  v144

/-- Codes of the keys. -/
def outC1 (v85 : FVec F S4096x12x128 .f32) (v129 : FVec F S4096x12x128 .f32) : FVec F S4096x4x128 .fp8e4m3 :=
  have v146 : FVec F S4096x4x128 .fp8e4m3 := extractStridedSlice S4096x4x128 ![0, 4, 0] (cod12 v85 v129) slices_S4096x12x128_o0_4_0_S4096x4x128
  v146

/-- Recorded scales of the keys. -/
def outS1 (v117 : FVec F S4096x12x1 .f32) : FVec F S4x4096 .f32 :=
  have v148 : FVec F S4096x4x1 .f32 := extractStridedSlice S4096x4x1 ![0, 4, 0] (fin12 v117) slices_S4096x12x1_o0_4_0_S4096x4x1
  have v149 : FVec F S4096x4 .f32 := shapeCast S4096x4 v148 shapeCasts_S4096x4x1_S4096x4
  have v150 : FVec F S4x4096 .f32 := transpose S4x4096 [1, 0] v149 transposes_S4096x4_p1_0_S4x4096
  v150

/-- Codes of the values. -/
def outC2 (v85 : FVec F S4096x12x128 .f32) (v129 : FVec F S4096x12x128 .f32) : FVec F S4096x4x128 .fp8e4m3 :=
  have v152 : FVec F S4096x4x128 .fp8e4m3 := extractStridedSlice S4096x4x128 ![0, 8, 0] (cod12 v85 v129) slices_S4096x12x128_o0_8_0_S4096x4x128
  v152

/-- Recorded scales of the values. -/
def outS2 (v117 : FVec F S4096x12x1 .f32) : FVec F S4x4096 .f32 :=
  have v154 : FVec F S4096x4x1 .f32 := extractStridedSlice S4096x4x1 ![0, 8, 0] (fin12 v117) slices_S4096x12x1_o0_8_0_S4096x4x1
  have v155 : FVec F S4096x4 .f32 := shapeCast S4096x4 v154 shapeCasts_S4096x4x1_S4096x4
  have v156 : FVec F S4x4096 .f32 := transpose S4x4096 [1, 0] v155 transposes_S4096x4_p1_0_S4x4096
  v156

/-- Codes of the hidden rows. -/
def outXc (v68 : FVec F S4096x32x128 .fp8e4m3) : FVec F S4096x4096 .fp8e4m3 :=
  have v158 : FVec F S4096x4096 .fp8e4m3 := shapeCast S4096x4096 v68 shapeCasts_S4096x32x128_S4096x4096
  v158

/-- Recorded scales of the hidden rows. -/
def outXs (v72 : FVec F S4096x32x1 .f32) : FVec F S32x4096 .f32 :=
  have v160 : FVec F S4096x32 .f32 := shapeCast S4096x32 v72 shapeCasts_S4096x32x1_S4096x32
  have v161 : FVec F S32x4096 .f32 := transpose S32x4096 [1, 0] v160 transposes_S4096x32_p1_0_S32x4096
  v161

end Cert.ReferenceIdeal.Gen
-- ==== Proof.RefQuant.lean ====
module

public import proofs.«01_k».proof.Proof.RefStages
public import proofs.«01_k».proof.Proof.Spec
public import Idealize.ShloMosaic.Lib.Pipeline.ValueKit

@[expose] public section

set_option maxRecDepth 16384

noncomputable section

open Idealize.ShloMosaic Idealize.ShloMosaic.TcCoe Idealize.SL.Sem
open scoped BigOperators

/-! The reference's quantiser, stage by stage, read at an index. -/

namespace Cert.ReferenceIdeal.Gen
open Cert.Val

theorem red32 (v32 v33 : FVec Ideal S4096x32x256 .f32) (v24 : IVec S4096x32x256 32) (p : Fin 4096) (b : Fin 32) :
    (shapeCast S4096x32x1 (multiReductionI .maxsi [2] S4096x32 (select (cmpf .ole v32 v33) v24 (broadcast S4096x32x256 0#32))
      2147483648#32 reduces_S4096x32x256_S4096x32 rfl) shapeCasts_S4096x32_S4096x32x1 : IVec S4096x32x1 32) (ix3 p b 0) =
    Finset.fold IntOp.maxsi 2147483648#32 (fun l : Fin 256 => if v32 (ix3 p b l) ≤ v33 (ix3 p b l) then v24 (ix3 p b l) else 0#32)
      Finset.univ := by
  pointwise []

theorem least32 (v24 : IVec S4096x32x256 32) (p : Fin 4096) (b : Fin 32) (l : Fin 256) :
    select (cmpi .eq v24 (broadcast S4096x32x256 255#32)) (broadcast S4096x32x256 (Scalar.ofBits (F := Ideal) .f32 0x7F800000#32))
      (exp2 (sitofp (F := Ideal) .f32 (subi v24 (broadcast S4096x32x256 130#32)))) (ix3 p b l) =
    Scalar.select (IntOp.cmpi CmpIPredicate.eq (v24 (ix3 p b l)) 255#32) (Ideal.ofBits FTy.f32 2139095040#32)
          (Ideal.exp2 (((IntOp.subi (v24 (ix3 p b l)) 130#32).toInt : ℝ) : EReal)) := by
  pointwise []
  rfl

theorem iota32 (p : Fin 4096) (b : Fin 32) (l : Fin 256) :
    (iota .tc S4096x32x256 32 [2] iota_S4096x32x256_d2_w32) (ix3 p b l) = BitVec.ofNat 32 l.val := by
  pointwise []

theorem max32 (y : FVec Ideal S4096x32x128 .f32) (p : Fin 4096) (b : Fin 32) :
    (shapeCast S4096x32x1 (multiReduction .maximumf [2] S4096x32 y 0xFF800000#32
      reduces_S4096x32x128_S4096x32 (.inl rfl) rfl) shapeCasts_S4096x32_S4096x32x1 : FVec Ideal S4096x32x1 .f32) (ix3 p b 0) =
    (Finset.fold max (Ideal.ofBits .f32 4286578688#32) (fun q => y (ix3 p b q)) Finset.univ) := by
  pointwise []

theorem bc32 (y : FVec Ideal S4096x32x1 .f32) (p : Fin 4096) (b : Fin 32) (l : Fin 256) :
    (broadcastTo S4096x32x256 y broadcasts_S4096x32x1_S4096x32x256) (ix3 p b l) = y (ix3 p b 0) := by
  pointwise []

theorem mulc32 (y : FVec Ideal S4096x32x1 .f32) (i : S4096x32x1.Idx) :
    mulf y (broadcast S4096x32x1 (Scalar.ofBits .f32 0x3B124925#32)) i = y i * Ideal.ofBits FTy.f32 991054117#32 := rfl

theorem thr32 (y : FVec Ideal S4096x32x128 .f32) (p : Fin 4096) (b : Fin 32) (l : Fin 256) :
    (broadcastTo S4096x32x256 (mulf (shapeCast S4096x32x1 (multiReduction .maximumf [2] S4096x32 y 0xFF800000#32
      reduces_S4096x32x128_S4096x32 (.inl rfl) rfl) shapeCasts_S4096x32_S4096x32x1)
      (broadcast S4096x32x1 (Scalar.ofBits .f32 0x3B124925#32))) broadcasts_S4096x32x1_S4096x32x256) (ix3 p b l) =
    (Finset.fold max (Ideal.ofBits .f32 4286578688#32) (fun q => y (ix3 p b q)) Finset.univ)
      * Ideal.ofBits FTy.f32 991054117#32 :=
  (bc32 _ p b l).trans ((mulc32 _ _).trans (by rw [max32 y p b]))

theorem red12 (v32 v33 : FVec Ideal S4096x12x256 .f32) (v24 : IVec S4096x12x256 32) (p : Fin 4096) (b : Fin 12) :
    (shapeCast S4096x12x1 (multiReductionI .maxsi [2] S4096x12 (select (cmpf .ole v32 v33) v24 (broadcast S4096x12x256 0#32))
      2147483648#32 reduces_S4096x12x256_S4096x12 rfl) shapeCasts_S4096x12_S4096x12x1 : IVec S4096x12x1 32) (ix3 p b 0) =
    Finset.fold IntOp.maxsi 2147483648#32 (fun l : Fin 256 => if v32 (ix3 p b l) ≤ v33 (ix3 p b l) then v24 (ix3 p b l) else 0#32)
      Finset.univ := by
  pointwise []

theorem least12 (v24 : IVec S4096x12x256 32) (p : Fin 4096) (b : Fin 12) (l : Fin 256) :
    select (cmpi .eq v24 (broadcast S4096x12x256 255#32)) (broadcast S4096x12x256 (Scalar.ofBits (F := Ideal) .f32 0x7F800000#32))
      (exp2 (sitofp (F := Ideal) .f32 (subi v24 (broadcast S4096x12x256 130#32)))) (ix3 p b l) =
    Scalar.select (IntOp.cmpi CmpIPredicate.eq (v24 (ix3 p b l)) 255#32) (Ideal.ofBits FTy.f32 2139095040#32)
          (Ideal.exp2 (((IntOp.subi (v24 (ix3 p b l)) 130#32).toInt : ℝ) : EReal)) := by
  pointwise []
  rfl

theorem iota12 (p : Fin 4096) (b : Fin 12) (l : Fin 256) :
    (iota .tc S4096x12x256 32 [2] iota_S4096x12x256_d2_w32) (ix3 p b l) = BitVec.ofNat 32 l.val := by
  pointwise []

theorem max12 (y : FVec Ideal S4096x12x128 .f32) (p : Fin 4096) (b : Fin 12) :
    (shapeCast S4096x12x1 (multiReduction .maximumf [2] S4096x12 y 0xFF800000#32
      reduces_S4096x12x128_S4096x12 (.inl rfl) rfl) shapeCasts_S4096x12_S4096x12x1 : FVec Ideal S4096x12x1 .f32) (ix3 p b 0) =
    (Finset.fold max (Ideal.ofBits .f32 4286578688#32) (fun q => y (ix3 p b q)) Finset.univ) := by
  pointwise []

theorem bc12 (y : FVec Ideal S4096x12x1 .f32) (p : Fin 4096) (b : Fin 12) (l : Fin 256) :
    (broadcastTo S4096x12x256 y broadcasts_S4096x12x1_S4096x12x256) (ix3 p b l) = y (ix3 p b 0) := by
  pointwise []

theorem mulc12 (y : FVec Ideal S4096x12x1 .f32) (i : S4096x12x1.Idx) :
    mulf y (broadcast S4096x12x1 (Scalar.ofBits .f32 0x3B124925#32)) i = y i * Ideal.ofBits FTy.f32 991054117#32 := rfl

theorem thr12 (y : FVec Ideal S4096x12x128 .f32) (p : Fin 4096) (b : Fin 12) (l : Fin 256) :
    (broadcastTo S4096x12x256 (mulf (shapeCast S4096x12x1 (multiReduction .maximumf [2] S4096x12 y 0xFF800000#32
      reduces_S4096x12x128_S4096x12 (.inl rfl) rfl) shapeCasts_S4096x12_S4096x12x1)
      (broadcast S4096x12x1 (Scalar.ofBits .f32 0x3B124925#32))) broadcasts_S4096x12x1_S4096x12x256) (ix3 p b l) =
    (Finset.fold max (Ideal.ofBits .f32 4286578688#32) (fun q => y (ix3 p b q)) Finset.univ)
      * Ideal.ofBits FTy.f32 991054117#32 :=
  (bc12 _ p b l).trans ((mulc12 _ _).trans (by rw [max12 y p b]))

theorem pay1_at (x : Vec Ideal S4096x4096 .bf16) (g : Vec Ideal S1x4096 .bf16) (p : Fin 4096) (b : Fin 32) (q : Fin 128) :
    hid x g (ix3 p b q) = hh (fun i => x (ix2 p i)) (fun i => g (ix2 0 i)) ⟨b.val * 128 + q.val, by omega⟩ := by
  pointwise [hid]
  unfold hh rinv
  rw [div_4096]

theorem refBits_of (v32 v33 : Fin 256 → EReal) (v24 : Fin 256 → BitVec 32) (A : EReal)
    (h24 : ∀ l, v24 l = BitVec.ofNat 32 l.val)
    (h32 : ∀ l, v32 l = Scalar.select (IntOp.cmpi CmpIPredicate.eq (v24 l) 255#32) (Ideal.ofBits FTy.f32 2139095040#32)
          (Ideal.exp2 (((IntOp.subi (v24 l) 130#32).toInt : ℝ) : EReal)))
    (h33 : ∀ l, v33 l = A * Ideal.ofBits FTy.f32 991054117#32) :
    Finset.fold IntOp.maxsi 2147483648#32 (fun l : Fin 256 => if v32 l ≤ v33 l then v24 l else 0#32) Finset.univ = refBits A := by
  simp only [h32, h33, h24]; rfl

theorem oeq_zero (t : EReal) (v : BitVec 32) :
    Scalar.select (FloatOps.cmpf (F := Ideal) (φ := .f32) .oeq t 0) 0#32 v = if t = 0 then 0#32 else v := by
  by_cases h : t = 0
  · simp [h, Scalar.select, FloatOps.cmpf, Ideal.cmp]
  · simp [h, Scalar.select, FloatOps.cmpf, Ideal.cmp]

/-- With a threshold of zero no exponent byte but zero is small enough. -/
theorem refBits_zero (A : EReal) (h : A * Ideal.ofBits FTy.f32 991054117#32 = 0) : refBits A = 0#32 := by
  have e : refBits A = Finset.fold IntOp.maxsi 2147483648#32 (fun _ : Fin 256 => 0#32) Finset.univ := by
    unfold refBits
    rw [h]
    refine Finset.fold_congr fun x _ => if_neg (not_le.mpr ?_)
    rw [show (255#32) = BitVec.ofNat 32 255 from rfl, cmpi_eq_lit x.val 255 x.isLt (by norm_num), subi_130 x.val x.isLt, exp2_int, bits_inf]
    by_cases hx : x.val = 255
    · rw [if_pos hx]; exact EReal.zero_lt_top
    · rw [if_neg hx]; exact EReal.coe_pos.mpr (by positivity)
  rw [e]; rfl

theorem bits_sel (A t : EReal) (v : BitVec 32) (ht : t = A * Ideal.ofBits FTy.f32 991054117#32) (hv : v = refBits A) :
    (if t = 0 then 0#32 else v) = refBits A := by
  by_cases h : t = 0
  · rw [if_pos h, refBits_zero A (ht ▸ h)]
  · rw [if_neg h, hv]

theorem sel32 (t : FVec Ideal S4096x32x1 .f32) (v : IVec S4096x32x1 32) (i : S4096x32x1.Idx) :
    select (cmpf .oeq t (broadcast S4096x32x1 (Scalar.ofBits .f32 0x00000000#32))) (broadcast S4096x32x1 0#32) v i =
      if t i = 0 then 0#32 else v i := by
  have : select (cmpf .oeq t (broadcast S4096x32x1 (Scalar.ofBits .f32 0x00000000#32))) (broadcast S4096x32x1 0#32) v i =
      Scalar.select (FloatOps.cmpf (F := Ideal) (φ := .f32) .oeq (t i) (Ideal.ofBits .f32 0#32)) 0#32 (v i) := rfl
  rw [this, bits_zero, oeq_zero]

theorem sel12 (t : FVec Ideal S4096x12x1 .f32) (v : IVec S4096x12x1 32) (i : S4096x12x1.Idx) :
    select (cmpf .oeq t (broadcast S4096x12x1 (Scalar.ofBits .f32 0x00000000#32))) (broadcast S4096x12x1 0#32) v i =
      if t i = 0 then 0#32 else v i := by
  have : select (cmpf .oeq t (broadcast S4096x12x1 (Scalar.ofBits .f32 0x00000000#32))) (broadcast S4096x12x1 0#32) v i =
      Scalar.select (FloatOps.cmpf (F := Ideal) (φ := .f32) .oeq (t i) (Ideal.ofBits .f32 0#32)) 0#32 (v i) := rfl
  rw [this, bits_zero, oeq_zero]

theorem pay2_at (x : Vec Ideal S4096x4096 .bf16) (g : Vec Ideal S1x4096 .bf16) (p : Fin 4096) (b : Fin 32) :
    bits32 x g (ix3 p b 0) = refBits (bmax (fun i => x (ix2 p i)) (fun i => g (ix2 0 i)) b) := by
  have e : bmax (fun i => x (ix2 p i)) (fun i => g (ix2 0 i)) b =
      Finset.fold max (Ideal.ofBits .f32 4286578688#32) (fun q => absf (hid x g) (ix3 p b q)) Finset.univ := by
    unfold bmax amax
    refine Finset.fold_congr fun q _ => ?_
    exact congrArg (FloatOps.absf (F := Ideal) (φ := .f32)) (pay1_at x g p b q).symm
  rw [e]
  refine (sel32 _ _ _).trans (bits_sel _ _ _ ((mulc32 _ _).trans (by rw [max32 _ p b])) ?_)
  exact (red32 _ _ _ p b).trans (refBits_of _ _ _ _ (fun l => iota32 p b l) (fun l => least32 _ p b l) (fun l => thr32 _ p b l))

theorem pay10_at (y : FVec Ideal S4096x12x128 .f32) (p : Fin 4096) (b : Fin 12) :
    bits12 (absf y) (ix3 p b 0) = refBits (amax fun q => y (ix3 p b q)) :=
  (sel12 _ _ _).trans (bits_sel _ _ _ ((mulc12 _ _).trans (by rw [max12 _ p b]; rfl)) <|
  (red12 _ _ _ p b).trans (refBits_of _ _ _ _ (fun l => iota12 p b l) (fun l => least12 _ p b l) (fun l => thr12 _ p b l)))

end Cert.ReferenceIdeal.Gen
-- ==== Proof.RefRows.lean ====
module

public import proofs.«01_k».proof.Proof.RefQuant

@[expose] public section

set_option maxRecDepth 16384

noncomputable section

open Idealize.ShloMosaic Idealize.ShloMosaic.TcCoe Idealize.SL.Sem
open scoped BigOperators

/-! The reference's results, read at an index, as the row functions of `Spec`. -/

namespace Cert.ReferenceIdeal.Gen
open Cert.Val

theorem iv_ref (n : ℕ) (h : n < 256) :
    Scalar.select (IntOp.cmpi CmpIPredicate.eq (BitVec.ofNat 32 n) 0#32) (Ideal.ofBits .f32 0#32)
      (Scalar.select (IntOp.cmpi CmpIPredicate.eq (BitVec.ofNat 32 n) 1#32) (Ideal.ofBits .f32 2139095040#32)
        (Ideal.exp2 (Ideal.ofBits .f32 0#32 - ((((IntOp.subi (BitVec.ofNat 32 n) 129#32).toInt : ℝ)) : EReal)))) = iv n := by
  rw [show (0#32) = BitVec.ofNat 32 0 from rfl, cmpi_eq_lit n 0 h (by norm_num), show (1#32) = BitVec.ofNat 32 1 from rfl,
    cmpi_eq_lit n 1 h (by norm_num), subi_129 n h, bits_inf]
  unfold iv; rw [show BitVec.ofNat 32 0 = 0#32 from rfl, bits_zero, zero_sub, ← EReal.coe_neg]
  have := exp2_int (-((n : ℤ) - 129))
  rw [← this]; push_cast; rfl

theorem pay5_raw (v38 : IVec S4096x32x1 32) (v41 : FVec Ideal S4096x32x1 .f32) (v43 : IVec S4096x32x1 1) (i : S4096x32x1.Idx) :
    scl32 v38 v41 v43 i = Scalar.select (v43 i) (Ideal.ofBits .f32 0#32)
      (Scalar.select (IntOp.cmpi CmpIPredicate.eq (v38 i) 255#32) (Ideal.ofBits .f32 2139095040#32) (Ideal.exp2 (v41 i))) := rfl

theorem pay7_raw (v38 : IVec S4096x32x1 32) (v41 : FVec Ideal S4096x32x1 .f32) (v43 : IVec S4096x32x1 1) (p : Fin 4096) (b : Fin 32) :
    fin32 v38 v41 v43 (ix3 p b 0) = if scl32 v38 v41 v43 (ix3 p b 0) < Ideal.ofBits .f32 8388608#32
      then Ideal.ofBits .f32 1065353216#32 else scl32 v38 v41 v43 (ix3 p b 0) := by
  unfold fin32
  generalize scl32 v38 v41 v43 = y
  pointwise []

theorem inv_raw (v38 : IVec S4096x32x1 32) (v41 : FVec Ideal S4096x32x1 .f32) (v18 : FVec Ideal S4096x32x128 .f32)
    (p : Fin 4096) (b : Fin 32) (q : Fin 128) :
    cod32 v18 v38 v41 (ix3 p b q) = min (Ideal.ofBits .f32 1138753536#32) (max (Ideal.ofBits .f32 3286237184#32)
      (v18 (ix3 p b q) * Scalar.select (IntOp.cmpi CmpIPredicate.eq (v38 (ix3 p b 0)) 0#32) (Ideal.ofBits .f32 0#32)
      (Scalar.select (IntOp.cmpi CmpIPredicate.eq (v38 (ix3 p b 0)) 1#32) (Ideal.ofBits .f32 2139095040#32)
        (Ideal.exp2 (Ideal.ofBits .f32 0#32 - v41 (ix3 p b 0)))))) := by
  pointwise [cod32]
  rfl

variable (x : Vec Ideal S4096x4096 .bf16) (g : Vec Ideal S1x4096 .bf16) (w : Vec Ideal S4096x1536 .fp8e4m3) (s : Vec Ideal S1x1536 .f32)

/-- Row `p` of the input. -/
def rx (p : Fin 4096) : Fin 4096 → EReal := fun i => x (ix2 p i)
/-- The gain. -/
def rg : Fin 4096 → EReal := fun i => g (ix2 0 i)
/-- The weights. -/
def rw' : Fin 4096 → Fin 1536 → EReal := fun i j => w (ix2 i j)
/-- The weights' scales. -/
def rs : Fin 1536 → EReal := fun j => s (ix2 0 j)

theorem pay3_at (p : Fin 4096) (b : Fin 32) : exp32 x g (ix3 p b 0) =
    (((IntOp.subi (refBits (bmax (rx x p) (rg g) b)) 129#32).toInt : ℝ) : EReal) := by
  have : exp32 x g (ix3 p b 0) = (((IntOp.subi (bits32 x g (ix3 p b 0)) 129#32).toInt : ℝ) : EReal) := rfl
  rw [this, pay2_at]; rfl

theorem pay4_at (p : Fin 4096) (b : Fin 32) : isz32 x g (ix3 p b 0) =
    IntOp.cmpi CmpIPredicate.eq (refBits (bmax (rx x p) (rg g) b)) 0#32 := by
  have : isz32 x g (ix3 p b 0) = IntOp.cmpi CmpIPredicate.eq (bits32 x g (ix3 p b 0)) 0#32 := rfl
  rw [this, pay2_at]; rfl

theorem scale_at (p : Fin 4096) (b : Fin 32) :
    scl32 (bits32 x g) (exp32 x g) (isz32 x g) (ix3 p b 0) = xsc (rx x p) (rg g) b := by
  rw [pay5_raw, pay3_at, pay4_at, pay2_at]
  show Scalar.select (IntOp.cmpi _ (refBits (bmax (rx x p) (rg g) b)) _) _ (Scalar.select (IntOp.cmpi _ (refBits (bmax (rx x p) (rg g) b)) _) _ _) = _
  rw [(nn_spec _).2.1]
  exact sc_ref _ (nn_spec _).1

theorem fin_at (p : Fin 4096) (b : Fin 32) :
    fin32 (bits32 x g) (exp32 x g) (isz32 x g) (ix3 p b 0) = xfin (rx x p) (rg g) b := by
  rw [pay7_raw, scale_at]; rfl

theorem code_at (p : Fin 4096) (b : Fin 32) (q : Fin 128) :
    cod32 (hid x g) (bits32 x g) (exp32 x g) (ix3 p b q) = xcode (rx x p) (rg g) b q := by
  rw [inv_raw, pay3_at, pay2_at, pay1_at]
  show min _ (max _ (_ * Scalar.select (IntOp.cmpi _ (refBits (bmax (rx x p) (rg g) b)) _) _ (Scalar.select (IntOp.cmpi _ (refBits (bmax (rx x p) (rg g) b)) _) _ _))) = _
  rw [(nn_spec _).2.1, iv_ref _ (nn_spec _).1]
  rfl

theorem cast_rows (y : FVec Ideal S4096x32x128 .bf16) (p i : Fin 4096) :
    (shapeCast S4096x4096 y shapeCasts_S4096x32x128_S4096x4096 : FVec Ideal S4096x4096 .bf16) (ix2 p i) =
      y (ix3 p ⟨i.val / 128, by omega⟩ ⟨i.val % 128, by omega⟩) := by
  pointwise []

theorem cast_rows8 (y : FVec Ideal S4096x32x128 .fp8e4m3) (p i : Fin 4096) :
    (shapeCast S4096x4096 y shapeCasts_S4096x32x128_S4096x4096 : FVec Ideal S4096x4096 .fp8e4m3) (ix2 p i) =
      y (ix3 p ⟨i.val / 128, by omega⟩ ⟨i.val % 128, by omega⟩) := by
  pointwise []

theorem bc_rows (a : FVec Ideal S4096x32x128 .bf16) (y : FVec Ideal S4096x32x1 .bf16) (p : Fin 4096) (b : Fin 32) (q : Fin 128) :
    mulf a (broadcastTo S4096x32x128 y broadcasts_S4096x32x1_S4096x32x128) (ix3 p b q) = a (ix3 p b q) * y (ix3 p b 0) := by
  pointwise []

theorem mm_at (a : FVec Ideal S4096x4096 .bf16) (b : FVec Ideal S4096x1536 .bf16) (p : Fin 4096) (j : Fin 1536) :
    matmul dot_S4096x4096_S4096x1536_S4096x1536_1_0_0_1_n_n none a b (constant S4096x1536 .f32 0x00000000#32) (ix2 p j) =
      ∑ i, a (ix2 p i) * b (ix2 i j) := by
  pointwise []

theorem qkv_tail (a : FVec Ideal S4096x1536 .f32) (p : Fin 4096) (h : Fin 12) (q : Fin 128) :
    (shapeCast S4096x12x128 (mulf a (broadcastTo S4096x1536 (shapeCast S1x1536 s shapeCasts_S1x1536_S1x1536) broadcasts_S1x1536_S4096x1536))
      shapeCasts_S4096x1536_S4096x12x128 : FVec Ideal S4096x12x128 .f32) (ix3 p h q) =
    a (ix2 p ⟨h.val * 128 + q.val, by omega⟩) * s (ix2 0 ⟨h.val * 128 + q.val, by omega⟩) := by
  pointwise []

theorem ext_id (y : FVec Ideal S4096x32x128 .fp8e4m3) (j : S4096x32x128.Idx) :
    (extf .bf16 y bitsLt_fp8e4m3_bf16 : FVec Ideal S4096x32x128 .bf16) j = y j := rfl
theorem trunc_id (y : FVec Ideal S4096x32x1 .f32) (j : S4096x32x1.Idx) :
    (truncf .bf16 y bitsLt_bf16_f32 : FVec Ideal S4096x32x1 .bf16) j = y j := rfl

theorem pay8_at (p : Fin 4096) (h : Fin 12) (q : Fin 128) :
    prj (hid x g) (bits32 x g) (exp32 x g) (isz32 x g) w s (ix3 p h q) =
      proj (rx x p) (rg g) (rw' w) (rs s) ⟨h.val * 128 + q.val, by omega⟩ := by
  refine (qkv_tail s _ p h q).trans ?_
  rw [mm_at]
  unfold proj
  refine congrArg (· * _) (Finset.sum_congr rfl fun i _ => ?_)
  refine congrArg (· * _) ?_
  rw [cast_rows, bc_rows]
  unfold xdeq
  rw [ext_id, trunc_id, code_at, scale_at]

theorem pay12_raw (y : FVec Ideal S4096x12x128 .f32) (i : S4096x12x1.Idx) :
    scl12 y i = Scalar.select (IntOp.cmpi CmpIPredicate.eq (bits12 y i) 0#32) (Ideal.ofBits .f32 0#32)
      (Scalar.select (IntOp.cmpi CmpIPredicate.eq (bits12 y i) 255#32) (Ideal.ofBits .f32 2139095040#32)
        (Ideal.exp2 (((IntOp.subi (bits12 y i) 129#32).toInt : ℝ) : EReal))) := by
  unfold scl12 exp12
  generalize bits12 y = v
  rfl

theorem bcq12 (y : FVec Ideal S4096x12x1 .f32) (p : Fin 4096) (h : Fin 12) (q : Fin 128) :
    (broadcastTo S4096x12x128 y broadcasts_S4096x12x1_S4096x12x128) (ix3 p h q) = y (ix3 p h 0) := by
  pointwise []

theorem pay13_raw (y : FVec Ideal S4096x12x128 .f32) (p : Fin 4096) (h : Fin 12) (q : Fin 128) :
    inv12 y (ix3 p h q) = Scalar.select (IntOp.cmpi CmpIPredicate.eq (bits12 y (ix3 p h 0)) 0#32) (Ideal.ofBits .f32 0#32)
      (Scalar.select (IntOp.cmpi CmpIPredicate.eq (bits12 y (ix3 p h 0)) 1#32) (Ideal.ofBits .f32 2139095040#32)
        (Ideal.exp2 (Ideal.ofBits .f32 0#32 - (((IntOp.subi (bits12 y (ix3 p h 0)) 129#32).toInt : ℝ) : EReal)))) :=
  by
  unfold inv12 exp12
  generalize bits12 y = v
  exact bcq12 _ p h q

theorem hsc_at (y : FVec Ideal S4096x12x128 .f32) (p : Fin 4096) (h : Fin 12) :
    scl12 (absf y) (ix3 p h 0) = sc (nn (amax fun q => y (ix3 p h q))) := by
  rw [pay12_raw, pay10_at, (nn_spec _).2.1]
  exact sc_ref _ (nn_spec _).1

theorem hiv_at (y : FVec Ideal S4096x12x128 .f32) (p : Fin 4096) (h : Fin 12) (q : Fin 128) :
    inv12 (absf y) (ix3 p h q) = iv (nn (amax fun q => y (ix3 p h q))) := by
  rw [pay13_raw, pay10_at, (nn_spec _).2.1]
  exact iv_ref _ (nn_spec _).1

theorem pay14_raw (y z : FVec Ideal S4096x12x128 .f32) (i : S4096x12x128.Idx) :
    cod12 y z i = min (Ideal.ofBits .f32 1138753536#32) (max (Ideal.ofBits .f32 3286237184#32) (y i * z i)) := rfl

theorem hcode_at (y : FVec Ideal S4096x12x128 .f32) (p : Fin 4096) (h : Fin 12) (q : Fin 128) :
    cod12 y (inv12 (absf y)) (ix3 p h q) = cod (amax fun q => y (ix3 p h q)) (y (ix3 p h q)) := by
  rw [pay14_raw, hiv_at]; rfl

theorem pay15_raw (y : FVec Ideal S4096x12x1 .f32) (p : Fin 4096) (h : Fin 12) :
    fin12 y (ix3 p h 0) = if y (ix3 p h 0) < Ideal.ofBits .f32 8388608#32
      then Ideal.ofBits .f32 1065353216#32 else y (ix3 p h 0) := by
  pointwise [fin12]

theorem hfin_at (y : FVec Ideal S4096x12x128 .f32) (p : Fin 4096) (h : Fin 12) :
    fin12 (scl12 (absf y)) (ix3 p h 0) = fin (amax fun q => y (ix3 p h q)) := by
  rw [pay15_raw, hsc_at]; rfl

theorem sl16 (y : FVec Ideal S4096x12x128 .fp8e4m3) (p : Fin 4096) (h : Fin 4) (q : Fin 128) :
    extractStridedSlice S4096x4x128 ![0, 0, 0] y slices_S4096x12x128_o0_0_0_S4096x4x128 (ix3 p h q) = y (ix3 p ⟨0 + h.val, by omega⟩ q) := by
  pointwise []

theorem sl17 (y : FVec Ideal S4096x12x1 .f32) (p : Fin 4096) (h : Fin 4) :
    (transpose S4x4096 [1, 0] (shapeCast S4096x4 (extractStridedSlice S4096x4x1 ![0, 0, 0] y slices_S4096x12x1_o0_0_0_S4096x4x1)
      shapeCasts_S4096x4x1_S4096x4) transposes_S4096x4_p1_0_S4x4096 : FVec Ideal S4x4096 .f32) (ix2 h p) = y (ix3 p ⟨0 + h.val, by omega⟩ 0) := by
  pointwise []

theorem pay16_at (p : Fin 4096) (h : Fin 4) (q : Fin 128) (y : FVec Ideal S4096x12x128 .f32)
    (hy : y = prj (hid x g) (bits32 x g) (exp32 x g) (isz32 x g) w s) :
    outC0 y (inv12 (absf y)) (ix3 p h q) = pcode (rx x p) (rg g) (rw' w) (rs s) ⟨0 + h.val, by omega⟩ q := by
  unfold outC0
  refine (sl16 _ p h q).trans ?_
  rw [hcode_at, hy]
  simp only [pay8_at]; rfl

theorem pay17_at (p : Fin 4096) (h : Fin 4) (y : FVec Ideal S4096x12x128 .f32)
    (hy : y = prj (hid x g) (bits32 x g) (exp32 x g) (isz32 x g) w s) :
    outS0 (scl12 (absf y)) (ix2 h p) = pfin (rx x p) (rg g) (rw' w) (rs s) ⟨0 + h.val, by omega⟩ := by
  refine (sl17 _ p h).trans ?_
  rw [hfin_at, hy]
  simp only [pay8_at]; rfl

theorem sl18 (y : FVec Ideal S4096x12x128 .fp8e4m3) (p : Fin 4096) (h : Fin 4) (q : Fin 128) :
    extractStridedSlice S4096x4x128 ![0, 4, 0] y slices_S4096x12x128_o0_4_0_S4096x4x128 (ix3 p h q) = y (ix3 p ⟨4 + h.val, by omega⟩ q) := by
  pointwise []

theorem sl19 (y : FVec Ideal S4096x12x1 .f32) (p : Fin 4096) (h : Fin 4) :
    (transpose S4x4096 [1, 0] (shapeCast S4096x4 (extractStridedSlice S4096x4x1 ![0, 4, 0] y slices_S4096x12x1_o0_4_0_S4096x4x1)
      shapeCasts_S4096x4x1_S4096x4) transposes_S4096x4_p1_0_S4x4096 : FVec Ideal S4x4096 .f32) (ix2 h p) = y (ix3 p ⟨4 + h.val, by omega⟩ 0) := by
  pointwise []

theorem pay18_at (p : Fin 4096) (h : Fin 4) (q : Fin 128) (y : FVec Ideal S4096x12x128 .f32)
    (hy : y = prj (hid x g) (bits32 x g) (exp32 x g) (isz32 x g) w s) :
    outC1 y (inv12 (absf y)) (ix3 p h q) = pcode (rx x p) (rg g) (rw' w) (rs s) ⟨4 + h.val, by omega⟩ q := by
  unfold outC1
  refine (sl18 _ p h q).trans ?_
  rw [hcode_at, hy]
  simp only [pay8_at]; rfl

theorem pay19_at (p : Fin 4096) (h : Fin 4) (y : FVec Ideal S4096x12x128 .f32)
    (hy : y = prj (hid x g) (bits32 x g) (exp32 x g) (isz32 x g) w s) :
    outS1 (scl12 (absf y)) (ix2 h p) = pfin (rx x p) (rg g) (rw' w) (rs s) ⟨4 + h.val, by omega⟩ := by
  refine (sl19 _ p h).trans ?_
  rw [hfin_at, hy]
  simp only [pay8_at]; rfl

theorem sl20 (y : FVec Ideal S4096x12x128 .fp8e4m3) (p : Fin 4096) (h : Fin 4) (q : Fin 128) :
    extractStridedSlice S4096x4x128 ![0, 8, 0] y slices_S4096x12x128_o0_8_0_S4096x4x128 (ix3 p h q) = y (ix3 p ⟨8 + h.val, by omega⟩ q) := by
  pointwise []

theorem sl21 (y : FVec Ideal S4096x12x1 .f32) (p : Fin 4096) (h : Fin 4) :
    (transpose S4x4096 [1, 0] (shapeCast S4096x4 (extractStridedSlice S4096x4x1 ![0, 8, 0] y slices_S4096x12x1_o0_8_0_S4096x4x1)
      shapeCasts_S4096x4x1_S4096x4) transposes_S4096x4_p1_0_S4x4096 : FVec Ideal S4x4096 .f32) (ix2 h p) = y (ix3 p ⟨8 + h.val, by omega⟩ 0) := by
  pointwise []

theorem pay20_at (p : Fin 4096) (h : Fin 4) (q : Fin 128) (y : FVec Ideal S4096x12x128 .f32)
    (hy : y = prj (hid x g) (bits32 x g) (exp32 x g) (isz32 x g) w s) :
    outC2 y (inv12 (absf y)) (ix3 p h q) = pcode (rx x p) (rg g) (rw' w) (rs s) ⟨8 + h.val, by omega⟩ q := by
  unfold outC2
  refine (sl20 _ p h q).trans ?_
  rw [hcode_at, hy]
  simp only [pay8_at]; rfl

theorem pay21_at (p : Fin 4096) (h : Fin 4) (y : FVec Ideal S4096x12x128 .f32)
    (hy : y = prj (hid x g) (bits32 x g) (exp32 x g) (isz32 x g) w s) :
    outS2 (scl12 (absf y)) (ix2 h p) = pfin (rx x p) (rg g) (rw' w) (rs s) ⟨8 + h.val, by omega⟩ := by
  refine (sl21 _ p h).trans ?_
  rw [hfin_at, hy]
  simp only [pay8_at]; rfl

theorem pay22_at (p i : Fin 4096) : outXc (cod32 (hid x g) (bits32 x g) (exp32 x g)) (ix2 p i) =
    xcode (rx x p) (rg g) ⟨i.val / 128, by omega⟩ ⟨i.val % 128, by omega⟩ :=
  (cast_rows8 _ p i).trans (code_at x g p _ _)

theorem tr32 (y : FVec Ideal S4096x32x1 .f32) (p : Fin 4096) (b : Fin 32) : outXs y (ix2 b p) = y (ix3 p b 0) := by
  pointwise [outXs]

theorem pay23_at (p : Fin 4096) (b : Fin 32) : outXs (fin32 (bits32 x g) (exp32 x g) (isz32 x g)) (ix2 b p) =
    xfin (rx x p) (rg g) b := by rw [tr32, fin_at]

end Cert.ReferenceIdeal.Gen
-- ==== Proof.RefFinal.lean ====
module

public import proofs.«01_k».proof.Proof.RefRows
public import proofs.«01_k».proof.Proof.Gen.ReferenceIdeal.Frame
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open scoped BigOperators

/-! What the reference's arrays end holding. -/

namespace Cert.ReferenceIdeal.Gen
open Cert.Val

variable (m : (ℓ : Loc nD τ sig) → Buf (Elt Ideal) ℓ) (c : Dev nD)

/-- Row `p` of the first argument. -/
def aX (p : Fin 4096) : Fin 4096 → EReal := fun i => m ((c : Thread nD τ).loc main_arg0) (ix3 0 p i)
/-- The gain. -/
def aG : Fin 4096 → EReal := fun i => m ((c : Thread nD τ).loc main_arg1) (ix1 i)
/-- The weights. -/
def aW : Fin 4096 → Fin 1536 → EReal := fun i j => m ((c : Thread nD τ).loc main_arg2) (ix2 i j)
/-- The weights' scales. -/
def aS : Fin 1536 → EReal := fun j => m ((c : Thread nD τ).loc main_arg3) (ix1 j)

theorem idx : ∀ t : Fin cfg0.N, win0_0.index t = ![0, 0] ∧ win0_1.index t = ![0, 0] ∧ win0_2.index t = ![0, 0] ∧
    win0_3.index t = ![0, 0] := (by decide +kernel : ∀ t : Fin grid0.N, _)

theorem c0 (a : Vec Ideal S1x4096x4096 .bf16) (p i : Fin 4096) :
    (shapeCast S4096x4096 a shapeCasts_S1x4096x4096_S4096x4096 : Vec Ideal S4096x4096 .bf16) (ix2 p i) = a (ix3 0 p i) := by
  pointwise []
theorem c1 (a : Vec Ideal S4096 .bf16) (i : Fin 4096) :
    (shapeCast S1x4096 a shapeCasts_S4096_S1x4096 : Vec Ideal S1x4096 .bf16) (ix2 0 i) = a (ix1 i) := by
  pointwise []
theorem c3 (a : Vec Ideal S1536 .f32) (i : Fin 1536) :
    (shapeCast S1x1536 a shapeCasts_S1536_S1x1536 : Vec Ideal S1x1536 .f32) (ix2 0 i) = a (ix1 i) := by
  pointwise []

theorem row_x (p : Fin 4096) : rx (iblk m c 0 t0_0) p = aX m c p := by
  funext i
  unfold rx aX
  blk_simp [iblk]
  entry_read
  rw [show ((View.whole main_v0).slice (win0_0.rect t0_0)).emb (ix2 p i) = ix2 p i by blk_ext [idx t0_0]]
  exact c0 _ p i

theorem row_g : rg (iblk m c 1 t0_0) = aG m c := by
  funext i
  unfold rg aG
  blk_simp [iblk]
  entry_read
  rw [show ((View.whole main_v1).slice (win0_1.rect t0_0)).emb (ix2 0 i) = ix2 0 i by blk_ext [idx t0_0]]
  exact c1 _ i

theorem row_w : rw' (iblk m c 2 t0_0) = aW m c := by
  funext i j
  unfold rw' aW
  blk_simp [iblk]
  entry_read
  rw [show ((View.whole main_arg2).slice (win0_2.rect t0_0)).emb (ix2 i j) = ix2 i j by blk_ext [idx t0_0]]

theorem row_s : rs (iblk m c 3 t0_0) = aS m c := by
  funext i
  unfold rs aS
  blk_simp [iblk]
  entry_read
  rw [show ((View.whole main_v2).slice (win0_3.rect t0_0)).emb (ix2 0 i) = ix2 0 i by blk_ext [idx t0_0]]
  exact c3 _ i

theorem ld0 (x : Vec Ideal S4096x4096 .bf16) : View.ld x r0_0 = x := by
  unfold r0_0; exact View.ld_unit_zero (S := S4096x4096) (off := ![0, 0]) (by funext a; fin_cases a <;> rfl) _ x
theorem ld1 (x : Vec Ideal S1x4096 .bf16) : View.ld x r0_1 = x := by
  unfold r0_1; exact View.ld_unit_zero (S := S1x4096) (off := ![0, 0]) (by funext a; fin_cases a <;> rfl) _ x
theorem ld2 (x : Vec Ideal S4096x1536 .fp8e4m3) : View.ld x r0_2 = x := by
  unfold r0_2; exact View.ld_unit_zero (S := S4096x1536) (off := ![0, 0]) (by funext a; fin_cases a <;> rfl) _ x
theorem ld3 (x : Vec Ideal S1x1536 .f32) : View.ld x r0_3 = x := by
  unfold r0_3; exact View.ld_unit_zero (S := S1x1536) (off := ![0, 0]) (by funext a; fin_cases a <;> rfl) _ x

theorem final10 : (dats m 0 c).arrAt 10 (cfgs 0).N = (resXc (aX m c) (aG m c) : Vec Ideal S4096x4096 .fp8e4m3) := by
  refine (dats m 0 c).arrAt_eq_of_after_last 10 t0_0 (by decide +kernel) _ fun j => ?_
  blk_simp
  rw [after0_10]
  frame_out
  unfold k0_pay26 k0_pay25
  rw [ld0, ld1]
  obtain ⟨p, i, rfl⟩ : ∃ p i : Fin 4096, j = ix2 p i := ⟨j 0, j 1, by funext a; fin_cases a <;> rfl⟩
  refine (pay22_at (iblk m c 0 t0_0) (iblk m c 1 t0_0) p i).trans ?_
  rw [row_x, row_g]; rfl

theorem final11 : (dats m 0 c).arrAt 11 (cfgs 0).N = (resXs (aX m c) (aG m c) : Vec Ideal S32x4096 .f32) := by
  refine (dats m 0 c).arrAt_eq_of_after_last 11 t0_0 (by decide +kernel) _ fun j => ?_
  blk_simp
  rw [after0_11]
  frame_out
  unfold k0_pay26
  rw [ld0, ld1]
  obtain ⟨b, p, rfl⟩ : ∃ (b : Fin 32) (p : Fin 4096), j = ix2 b p := ⟨j 0, j 1, by funext a; fin_cases a <;> rfl⟩
  refine (pay23_at (iblk m c 0 t0_0) (iblk m c 1 t0_0) p b).trans ?_
  rw [row_x, row_g]; rfl

theorem final4 : (dats m 0 c).arrAt 4 (cfgs 0).N = (resC 0 (aX m c) (aG m c) (aW m c) (aS m c) : Vec Ideal S4096x4x128 .fp8e4m3) := by
  refine (dats m 0 c).arrAt_eq_of_after_last 4 t0_0 (by decide +kernel) _ fun j => ?_
  blk_simp
  rw [after0_4]
  frame_out
  unfold k0_pay33 k0_pay32 k0_pay30 k0_pay29 k0_pay28 k0_pay27 k0_pay26 k0_pay25
  rw [ld0, ld1, ld2, ld3]
  obtain ⟨p, h, q, rfl⟩ : ∃ (p : Fin 4096) (h : Fin 4) (q : Fin 128), j = ix3 p h q := ⟨j 0, j 1, j 2, by funext a; fin_cases a <;> rfl⟩
  refine (pay16_at (iblk m c 0 t0_0) (iblk m c 1 t0_0) (iblk m c 2 t0_0) (iblk m c 3 t0_0) p h q _ rfl).trans ?_
  rw [row_x, row_g, row_w, row_s]; rfl

theorem final5 : (dats m 0 c).arrAt 5 (cfgs 0).N = (resS 0 (aX m c) (aG m c) (aW m c) (aS m c) : Vec Ideal S4x4096 .f32) := by
  refine (dats m 0 c).arrAt_eq_of_after_last 5 t0_0 (by decide +kernel) _ fun j => ?_
  blk_simp
  rw [after0_5]
  frame_out
  unfold k0_pay31 k0_pay27 k0_pay26 k0_pay25
  rw [ld0, ld1, ld2, ld3]
  obtain ⟨h, p, rfl⟩ : ∃ (h : Fin 4) (p : Fin 4096), j = ix2 h p := ⟨j 0, j 1, by funext a; fin_cases a <;> rfl⟩
  refine (pay17_at (iblk m c 0 t0_0) (iblk m c 1 t0_0) (iblk m c 2 t0_0) (iblk m c 3 t0_0) p h _ rfl).trans ?_
  rw [row_x, row_g, row_w, row_s]; rfl

theorem final6 : (dats m 0 c).arrAt 6 (cfgs 0).N = (resC 1 (aX m c) (aG m c) (aW m c) (aS m c) : Vec Ideal S4096x4x128 .fp8e4m3) := by
  refine (dats m 0 c).arrAt_eq_of_after_last 6 t0_0 (by decide +kernel) _ fun j => ?_
  blk_simp
  rw [after0_6]
  frame_out
  unfold k0_pay33 k0_pay32 k0_pay30 k0_pay29 k0_pay28 k0_pay27 k0_pay26 k0_pay25
  rw [ld0, ld1, ld2, ld3]
  obtain ⟨p, h, q, rfl⟩ : ∃ (p : Fin 4096) (h : Fin 4) (q : Fin 128), j = ix3 p h q := ⟨j 0, j 1, j 2, by funext a; fin_cases a <;> rfl⟩
  refine (pay18_at (iblk m c 0 t0_0) (iblk m c 1 t0_0) (iblk m c 2 t0_0) (iblk m c 3 t0_0) p h q _ rfl).trans ?_
  rw [row_x, row_g, row_w, row_s]; rfl

theorem final7 : (dats m 0 c).arrAt 7 (cfgs 0).N = (resS 1 (aX m c) (aG m c) (aW m c) (aS m c) : Vec Ideal S4x4096 .f32) := by
  refine (dats m 0 c).arrAt_eq_of_after_last 7 t0_0 (by decide +kernel) _ fun j => ?_
  blk_simp
  rw [after0_7]
  frame_out
  unfold k0_pay31 k0_pay27 k0_pay26 k0_pay25
  rw [ld0, ld1, ld2, ld3]
  obtain ⟨h, p, rfl⟩ : ∃ (h : Fin 4) (p : Fin 4096), j = ix2 h p := ⟨j 0, j 1, by funext a; fin_cases a <;> rfl⟩
  refine (pay19_at (iblk m c 0 t0_0) (iblk m c 1 t0_0) (iblk m c 2 t0_0) (iblk m c 3 t0_0) p h _ rfl).trans ?_
  rw [row_x, row_g, row_w, row_s]; rfl

theorem final8 : (dats m 0 c).arrAt 8 (cfgs 0).N = (resC 2 (aX m c) (aG m c) (aW m c) (aS m c) : Vec Ideal S4096x4x128 .fp8e4m3) := by
  refine (dats m 0 c).arrAt_eq_of_after_last 8 t0_0 (by decide +kernel) _ fun j => ?_
  blk_simp
  rw [after0_8]
  frame_out
  unfold k0_pay33 k0_pay32 k0_pay30 k0_pay29 k0_pay28 k0_pay27 k0_pay26 k0_pay25
  rw [ld0, ld1, ld2, ld3]
  obtain ⟨p, h, q, rfl⟩ : ∃ (p : Fin 4096) (h : Fin 4) (q : Fin 128), j = ix3 p h q := ⟨j 0, j 1, j 2, by funext a; fin_cases a <;> rfl⟩
  refine (pay20_at (iblk m c 0 t0_0) (iblk m c 1 t0_0) (iblk m c 2 t0_0) (iblk m c 3 t0_0) p h q _ rfl).trans ?_
  rw [row_x, row_g, row_w, row_s]; rfl

theorem final9 : (dats m 0 c).arrAt 9 (cfgs 0).N = (resS 2 (aX m c) (aG m c) (aW m c) (aS m c) : Vec Ideal S4x4096 .f32) := by
  refine (dats m 0 c).arrAt_eq_of_after_last 9 t0_0 (by decide +kernel) _ fun j => ?_
  blk_simp
  rw [after0_9]
  frame_out
  unfold k0_pay31 k0_pay27 k0_pay26 k0_pay25
  rw [ld0, ld1, ld2, ld3]
  obtain ⟨h, p, rfl⟩ : ∃ (h : Fin 4) (p : Fin 4096), j = ix2 h p := ⟨j 0, j 1, by funext a; fin_cases a <;> rfl⟩
  refine (pay21_at (iblk m c 0 t0_0) (iblk m c 1 t0_0) (iblk m c 2 t0_0) (iblk m c 3 t0_0) p h _ rfl).trans ?_
  rw [row_x, row_g, row_w, row_s]; rfl

end Cert.ReferenceIdeal.Gen
-- ==== Proof.Runs.lean ====
module

public import proofs.«01_k».proof.Proof.KerFinal
public import proofs.«01_k».proof.Proof.RefFinal
public import Idealize.ShloMosaic.Lib.Claim

@[expose] public section

set_option maxRecDepth 16384

noncomputable section

open Idealize.ShloMosaic Idealize.ShloMosaic.TcCoe Idealize.SL.Sem
open scoped BigOperators

/-! The runs of the kernel and of the reference, with the arrays they end in. -/

namespace Cert.KernelIdeal.Gen

/-- Every run ends with the eight arrays of the specification and the arguments unchanged. -/
theorem run_res (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v4_0) = (Cert.Val.resC 0 (Cert.KernelIdeal.Gen.aX m c) (Cert.KernelIdeal.Gen.aG m c) (Cert.KernelIdeal.Gen.aW m c) (Cert.KernelIdeal.Gen.aS m c))
      ∧ r.2.mem ((c.tc : Thread nD τ).loc main_v4_1) = (Cert.Val.resS 0 (Cert.KernelIdeal.Gen.aX m c) (Cert.KernelIdeal.Gen.aG m c) (Cert.KernelIdeal.Gen.aW m c) (Cert.KernelIdeal.Gen.aS m c))
      ∧ r.2.mem ((c.tc : Thread nD τ).loc main_v4_2) = (Cert.Val.resC 1 (Cert.KernelIdeal.Gen.aX m c) (Cert.KernelIdeal.Gen.aG m c) (Cert.KernelIdeal.Gen.aW m c) (Cert.KernelIdeal.Gen.aS m c))
      ∧ r.2.mem ((c.tc : Thread nD τ).loc main_v4_3) = (Cert.Val.resS 1 (Cert.KernelIdeal.Gen.aX m c) (Cert.KernelIdeal.Gen.aG m c) (Cert.KernelIdeal.Gen.aW m c) (Cert.KernelIdeal.Gen.aS m c))
      ∧ r.2.mem ((c.tc : Thread nD τ).loc main_v4_4) = (Cert.Val.resC 2 (Cert.KernelIdeal.Gen.aX m c) (Cert.KernelIdeal.Gen.aG m c) (Cert.KernelIdeal.Gen.aW m c) (Cert.KernelIdeal.Gen.aS m c))
      ∧ r.2.mem ((c.tc : Thread nD τ).loc main_v4_5) = (Cert.Val.resS 2 (Cert.KernelIdeal.Gen.aX m c) (Cert.KernelIdeal.Gen.aG m c) (Cert.KernelIdeal.Gen.aW m c) (Cert.KernelIdeal.Gen.aS m c))
      ∧ r.2.mem ((c.tc : Thread nD τ).loc main_v4_6) = (Cert.Val.resXc (Cert.KernelIdeal.Gen.aX m c) (Cert.KernelIdeal.Gen.aG m c))
      ∧ r.2.mem ((c.tc : Thread nD τ).loc main_v4_7) = (Cert.Val.resXs (Cert.KernelIdeal.Gen.aX m c) (Cert.KernelIdeal.Gen.aG m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨((h.1 c).1 5).trans (final5 m c),
    ((h.1 c).1 6).trans (final6 m c),
    ((h.1 c).1 7).trans (final7 m c),
    ((h.1 c).1 8).trans (final8 m c),
    ((h.1 c).1 9).trans (final9 m c),
    ((h.1 c).1 10).trans (final10 m c),
    ((h.1 c).1 11).trans (final11 m c),
    ((h.1 c).1 12).trans (final12 m c), h.2 c⟩) (θ_run_and (run_main m ρ) (unchanged m ρ))

end Cert.KernelIdeal.Gen

namespace Cert.ReferenceIdeal.Gen

/-- Every run ends with the eight arrays of the specification and the arguments unchanged. -/
theorem run_res (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v3_0) = (Cert.Val.resC 0 (Cert.ReferenceIdeal.Gen.aX m c) (Cert.ReferenceIdeal.Gen.aG m c) (Cert.ReferenceIdeal.Gen.aW m c) (Cert.ReferenceIdeal.Gen.aS m c))
      ∧ r.2.mem ((c.tc : Thread nD τ).loc main_v3_1) = (Cert.Val.resS 0 (Cert.ReferenceIdeal.Gen.aX m c) (Cert.ReferenceIdeal.Gen.aG m c) (Cert.ReferenceIdeal.Gen.aW m c) (Cert.ReferenceIdeal.Gen.aS m c))
      ∧ r.2.mem ((c.tc : Thread nD τ).loc main_v3_2) = (Cert.Val.resC 1 (Cert.ReferenceIdeal.Gen.aX m c) (Cert.ReferenceIdeal.Gen.aG m c) (Cert.ReferenceIdeal.Gen.aW m c) (Cert.ReferenceIdeal.Gen.aS m c))
      ∧ r.2.mem ((c.tc : Thread nD τ).loc main_v3_3) = (Cert.Val.resS 1 (Cert.ReferenceIdeal.Gen.aX m c) (Cert.ReferenceIdeal.Gen.aG m c) (Cert.ReferenceIdeal.Gen.aW m c) (Cert.ReferenceIdeal.Gen.aS m c))
      ∧ r.2.mem ((c.tc : Thread nD τ).loc main_v3_4) = (Cert.Val.resC 2 (Cert.ReferenceIdeal.Gen.aX m c) (Cert.ReferenceIdeal.Gen.aG m c) (Cert.ReferenceIdeal.Gen.aW m c) (Cert.ReferenceIdeal.Gen.aS m c))
      ∧ r.2.mem ((c.tc : Thread nD τ).loc main_v3_5) = (Cert.Val.resS 2 (Cert.ReferenceIdeal.Gen.aX m c) (Cert.ReferenceIdeal.Gen.aG m c) (Cert.ReferenceIdeal.Gen.aW m c) (Cert.ReferenceIdeal.Gen.aS m c))
      ∧ r.2.mem ((c.tc : Thread nD τ).loc main_v3_6) = (Cert.Val.resXc (Cert.ReferenceIdeal.Gen.aX m c) (Cert.ReferenceIdeal.Gen.aG m c))
      ∧ r.2.mem ((c.tc : Thread nD τ).loc main_v3_7) = (Cert.Val.resXs (Cert.ReferenceIdeal.Gen.aX m c) (Cert.ReferenceIdeal.Gen.aG m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨((h.1 c).1 4).trans (final4 m c),
    ((h.1 c).1 5).trans (final5 m c),
    ((h.1 c).1 6).trans (final6 m c),
    ((h.1 c).1 7).trans (final7 m c),
    ((h.1 c).1 8).trans (final8 m c),
    ((h.1 c).1 9).trans (final9 m c),
    ((h.1 c).1 10).trans (final10 m c),
    ((h.1 c).1 11).trans (final11 m c), h.2 c⟩) (θ_run_and (run_main m ρ) (unchanged m ρ))

end Cert.ReferenceIdeal.Gen
-- ==== Proof.lean ====
module

public import proofs.«01_k».proof.Defs
public import proofs.«01_k».proof.Proof.Gen.Kernel.Frame
public import proofs.«01_k».proof.Proof.Runs

@[expose] public section

noncomputable section

namespace Cert.Proof

open Idealize.ShloMosaic Idealize.ShloMosaic.TcCoe Idealize.SL.Sem

/-- Over the reals the kernel's eight results are the reference's. -/
theorem agree : Cert.algebraic_KernelIdeal_ReferenceIdeal (hKernelIdeal := Cert.KernelIdeal.Gen.facts)
    (hReferenceIdeal := Cert.ReferenceIdeal.Gen.facts) := by
  intro m g m' g' _ hagree
  have hX : ∀ c, Cert.ReferenceIdeal.Gen.aX m' c = Cert.KernelIdeal.Gen.aX m c := fun c => by
    funext p i; exact congrFun (hagree c).1 _
  have hG : ∀ c, Cert.ReferenceIdeal.Gen.aG m' c = Cert.KernelIdeal.Gen.aG m c := fun c => by
    funext i; exact congrFun (hagree c).2.1 _
  have hW : ∀ c, Cert.ReferenceIdeal.Gen.aW m' c = Cert.KernelIdeal.Gen.aW m c := fun c => by
    funext i j; exact congrFun (hagree c).2.2.1 _
  have hS : ∀ c, Cert.ReferenceIdeal.Gen.aS m' c = Cert.KernelIdeal.Gen.aS m c := fun c => by
    funext j; exact congrFun (hagree c).2.2.2 _
  refine ⟨fun c => (Cert.Val.resC 0 (Cert.KernelIdeal.Gen.aX m c) (Cert.KernelIdeal.Gen.aG m c) (Cert.KernelIdeal.Gen.aW m c) (Cert.KernelIdeal.Gen.aS m c)), fun c => (Cert.Val.resS 0 (Cert.KernelIdeal.Gen.aX m c) (Cert.KernelIdeal.Gen.aG m c) (Cert.KernelIdeal.Gen.aW m c) (Cert.KernelIdeal.Gen.aS m c)), fun c => (Cert.Val.resC 1 (Cert.KernelIdeal.Gen.aX m c) (Cert.KernelIdeal.Gen.aG m c) (Cert.KernelIdeal.Gen.aW m c) (Cert.KernelIdeal.Gen.aS m c)), fun c => (Cert.Val.resS 1 (Cert.KernelIdeal.Gen.aX m c) (Cert.KernelIdeal.Gen.aG m c) (Cert.KernelIdeal.Gen.aW m c) (Cert.KernelIdeal.Gen.aS m c)), fun c => (Cert.Val.resC 2 (Cert.KernelIdeal.Gen.aX m c) (Cert.KernelIdeal.Gen.aG m c) (Cert.KernelIdeal.Gen.aW m c) (Cert.KernelIdeal.Gen.aS m c)), fun c => (Cert.Val.resS 2 (Cert.KernelIdeal.Gen.aX m c) (Cert.KernelIdeal.Gen.aG m c) (Cert.KernelIdeal.Gen.aW m c) (Cert.KernelIdeal.Gen.aS m c)), fun c => (Cert.Val.resXc (Cert.KernelIdeal.Gen.aX m c) (Cert.KernelIdeal.Gen.aG m c)), fun c => (Cert.Val.resXs (Cert.KernelIdeal.Gen.aX m c) (Cert.KernelIdeal.Gen.aG m c)), Cert.KernelIdeal.Gen.run_res m g, ?_⟩
  have h := Cert.ReferenceIdeal.Gen.run_res m' g'
  simp only [hX, hG, hW, hS] at h
  exact h

theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ,
  fun m ρ _ => Cert.ReferenceIdeal.Gen.frame m ρ, trivial, agree⟩

end Cert.Proof

end
